-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_few_near_max [hPre_few_near_max : Cert.Pre_few_near_max.Facts] (m : (ℓ : Loc Cert.KernelIdeal.nD Cert.KernelIdeal.τ Cert.KernelIdeal.sig) → Buf (Elt Ideal) ℓ) : Prop :=
  ∀ c : Dev Cert.KernelIdeal.nD,
    (Cert.Pre_few_near_max.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_few_near_max [hPre_few_near_max : Cert.Pre_few_near_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_few_near_max.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_few_near_max [hKernelIdeal : Cert.KernelIdeal.Facts] [hPre_few_near_max : Cert.Pre_few_near_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_few_near_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_few_near_max [hReferenceIdeal : Cert.ReferenceIdeal.Facts] [hPre_few_near_max : Cert.Pre_few_near_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_few_near_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_few_near_max [hKernelIdeal : Cert.KernelIdeal.Facts] [hReferenceIdeal : Cert.ReferenceIdeal.Facts] [hPre_few_near_max : Cert.Pre_few_near_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_few_near_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v206)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v206) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_few_near_max : Cert.Pre_few_near_max.Facts),
    quiescent_Kernel (hKernel := hKernel)
    ∧ quiescent_KernelIdeal (hKernelIdeal := hKernelIdeal)
    ∧ quiescent_KernelIdeal_pre_few_near_max (hKernelIdeal := hKernelIdeal) (hPre_few_near_max := hPre_few_near_max)
    ∧ quiescent_ReferenceIdeal (hReferenceIdeal := hReferenceIdeal)
    ∧ quiescent_ReferenceIdeal_pre_few_near_max (hReferenceIdeal := hReferenceIdeal) (hPre_few_near_max := hPre_few_near_max)
    ∧ preserves_Kernel_KernelIdeal
    ∧ algebraic_KernelIdeal_ReferenceIdeal_pre_few_near_max (hKernelIdeal := hKernelIdeal) (hReferenceIdeal := hReferenceIdeal) (hPre_few_near_max := hPre_few_near_max)
-- ==== Pre_few_near_max.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩

class Facts : Prop where
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S128x100000 : S_.BroadcastsInDim S128x100000 (![] : Fin 0 → Fin S128x100000.rank)
  natLt_32_64 : 32 < 64
  bcast_S1x1_S128x100000_0_1 : S1x1.BroadcastsInDim S128x100000 (![0, 1] : Fin 2 → Fin S128x100000.rank)
  reducesTo_S128x100000_S128_d1 : S128x100000.ReducesTo [1] S128
  h_S_ : 0 < S_.numel
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  natLt_1_32 : 1 < 32
  bcast_S_S128x1 : S_.BroadcastsInDim S128x1 (![] : Fin 0 → Fin S128x1.rank)

variable [Facts]

def fn_threefry2x32_part9 {F : FTy → Type} [FloatOps F] (arg0 : IVec S_ 32) (v163 : IVec S128x100000 32) (v169 : IVec S128x100000 32) (v170 : IVec S128x100000 32) : IVec S128x100000 32 × IVec S128x100000 32 :=
  let v171 : IVec S128x100000 32 := addi v163 v170
  let v172 : IVec S128x100000 32 := broadcastInDim S128x100000 ![] bcast_S_S128x100000 arg0
  let v173 : IVec S128x100000 32 := addi v169 v172
  let c_44 : IVec S_ 32 := constantI S_ 32 5#32
  let v174 : IVec S128x100000 32 := broadcastInDim S128x100000 ![] bcast_S_S128x100000 c_44
  let v175 : IVec S128x100000 32 := addi v173 v174
  (v171, v175)

def fn_threefry2x32_part8 {F : FTy → Type} [FloatOps F] (arg0 : IVec S_ 32) (v1 : IVec S_ 32) (v148 : IVec S128x100000 32) (v149 : IVec S128x100000 32) (v151 : IVec S128x100000 32) : IVec S128x100000 32 × IVec S128x100000 32 :=
  let c_39 : IVec S_ 32 := constantI S_ 32 17#32
  let v152 : IVec S128x100000 32 := broadcastInDim S128x100000 ![] bcast_S_S128x100000 c_39
  let v153 : IVec S128x100000 32 := Host.shrui v148 v152
  let v154 : IVec S128x100000 32 := ori v151 v153
  let v155 : IVec S128x100000 32 := xori v149 v154
  let v156 : IVec S128x100000 32 := addi v149 v155
  let c_40 : IVec S_ 32 := constantI S_ 32 26#32
  let v157 : IVec S128x100000 32 := broadcastInDim S128x100000 ![] bcast_S_S128x100000 c_40
  let v158 : IVec S128x100000 32 := Host.shli v155 v157
  let c_41 : IVec S_ 32 := constantI S_ 32 6#32
  let v159 : IVec S128x100000 32 := broadcastInDim S128x100000 ![] bcast_S_S128x100000 c_41
  let v160 : IVec S128x100000 32 := Host.shrui v155 v159
  let v161 : IVec S128x100000 32 := ori v158 v160
  let v162 : IVec S128x100000 32 := xori v156 v161
  let v163 : IVec S128x100000 32 := addi v156 v162
  let c_42 : IVec S_ 32 := constantI S_ 32 6#32
  let v164 : IVec S128x100000 32 := broadcastInDim S128x100000 ![] bcast_S_S128x100000 c_42
  let v165 : IVec S128x100000 32 := Host.shli v162 v164
  let c_43 : IVec S_ 32 := constantI S_ 32 26#32
  let v166 : IVec S128x100000 32 := broadcastInDim S128x100000 ![] bcast_S_S128x100000 c_43
  let v167 : IVec S128x100000 32 := Host.shrui v162 v166
  let v168 : IVec S128x100000 32 := ori v165 v167
  let v169 : IVec S128x100000 32 := xori v163 v168
  let v170 : IVec S128x100000 32 := broadcastInDim S128x100000 ![] bcast_S_S128x100000 v1
  fn_threefry2x32_part9 (F := F) arg0 v163 v169 v170

def fn_threefry2x32_part7 {F : FTy → Type} [FloatOps F] (arg0 : IVec S_ 32) (arg1 : IVec S_ 32) (v1 : IVec S_ 32) (v128 : IVec S128x100000 32) (v129 : IVec S128x100000 32) (v131 : IVec S128x100000 32) (c_34 : IVec S_ 32) : IVec S128x100000 32 × IVec S128x100000 32 :=
  let v132 : IVec S128x100000 32 := broadcastInDim S128x100000 ![] bcast_S_S128x100000 c_34
  let v133 : IVec S128x100000 32 := Host.shrui v128 v132
  let v134 : IVec S128x100000 32 := ori v131 v133
  let v135 : IVec S128x100000 32 := xori v129 v134
  let v136 : IVec S128x100000 32 := broadcastInDim S128x100000 ![] bcast_S_S128x100000 arg1
  let v137 : IVec S128x100000 32 := addi v129 v136
  let v138 : IVec S128x100000 32 := broadcastInDim S128x100000 ![] bcast_S_S128x100000 v1
  let v139 : IVec S128x100000 32 := addi v135 v138
  let c_35 : IVec S_ 32 := constantI S_ 32 4#32
  let v140 : IVec S128x100000 32 := broadcastInDim S128x100000 ![] bcast_S_S128x100000 c_35
  let v141 : IVec S128x100000 32 := addi v139 v140
  let v142 : IVec S128x100000 32 := addi v137 v141
  let c_36 : IVec S_ 32 := constantI S_ 32 13#32
  let v143 : IVec S128x100000 32 := broadcastInDim S128x100000 ![] bcast_S_S128x100000 c_36
  let v144 : IVec S128x100000 32 := Host.shli v141 v143
  let c_37 : IVec S_ 32 := constantI S_ 32 19#32
  let v145 : IVec S128x100000 32 := broadcastInDim S128x100000 ![] bcast_S_S128x100000 c_37
  let v146 : IVec S128x100000 32 := Host.shrui v141 v145
  let v147 : IVec S128x100000 32 := ori v144 v146
  let v148 : IVec S128x100000 32 := xori v142 v147
  let v149 : IVec S128x100000 32 := addi v142 v148
  let c_38 : IVec S_ 32 := constantI S_ 32 15#32
  let v150 : IVec S128x100000 32 := broadcastInDim S128x100000 ![] bcast_S_S128x100000 c_38
  let v151 : IVec S128x100000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S128x100000 32) (v113 : IVec S128x100000 32) : IVec S128x100000 32 × IVec S128x100000 32 :=
  let v114 : IVec S128x100000 32 := xori v108 v113
  let v115 : IVec S128x100000 32 := addi v108 v114
  let c_29 : IVec S_ 32 := constantI S_ 32 29#32
  let v116 : IVec S128x100000 32 := broadcastInDim S128x100000 ![] bcast_S_S128x100000 c_29
  let v117 : IVec S128x100000 32 := Host.shli v114 v116
  let c_30 : IVec S_ 32 := constantI S_ 32 3#32
  let v118 : IVec S128x100000 32 := broadcastInDim S128x100000 ![] bcast_S_S128x100000 c_30
  let v119 : IVec S128x100000 32 := Host.shrui v114 v118
  let v120 : IVec S128x100000 32 := ori v117 v119
  let v121 : IVec S128x100000 32 := xori v115 v120
  let v122 : IVec S128x100000 32 := addi v115 v121
  let c_31 : IVec S_ 32 := constantI S_ 32 16#32
  let v123 : IVec S128x100000 32 := broadcastInDim S128x100000 ![] bcast_S_S128x100000 c_31
  let v124 : IVec S128x100000 32 := Host.shli v121 v123
  let c_32 : IVec S_ 32 := constantI S_ 32 16#32
  let v125 : IVec S128x100000 32 := broadcastInDim S128x100000 ![] bcast_S_S128x100000 c_32
  let v126 : IVec S128x100000 32 := Host.shrui v121 v125
  let v127 : IVec S128x100000 32 := ori v124 v126
  let v128 : IVec S128x100000 32 := xori v122 v127
  let v129 : IVec S128x100000 32 := addi v122 v128
  let c_33 : IVec S_ 32 := constantI S_ 32 24#32
  let v130 : IVec S128x100000 32 := broadcastInDim S128x100000 ![] bcast_S_S128x100000 c_33
  let v131 : IVec S128x100000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S128x100000 32) (v94 : IVec S128x100000 32) : IVec S128x100000 32 × IVec S128x100000 32 :=
  let v95 : IVec S128x100000 32 := addi v88 v94
  let c_24 : IVec S_ 32 := constantI S_ 32 6#32
  let v96 : IVec S128x100000 32 := broadcastInDim S128x100000 ![] bcast_S_S128x100000 c_24
  let v97 : IVec S128x100000 32 := Host.shli v94 v96
  let c_25 : IVec S_ 32 := constantI S_ 32 26#32
  let v98 : IVec S128x100000 32 := broadcastInDim S128x100000 ![] bcast_S_S128x100000 c_25
  let v99 : IVec S128x100000 32 := Host.shrui v94 v98
  let v100 : IVec S128x100000 32 := ori v97 v99
  let v101 : IVec S128x100000 32 := xori v95 v100
  let v102 : IVec S128x100000 32 := broadcastInDim S128x100000 ![] bcast_S_S128x100000 arg0
  let v103 : IVec S128x100000 32 := addi v95 v102
  let v104 : IVec S128x100000 32 := broadcastInDim S128x100000 ![] bcast_S_S128x100000 arg1
  let v105 : IVec S128x100000 32 := addi v101 v104
  let c_26 : IVec S_ 32 := constantI S_ 32 3#32
  let v106 : IVec S128x100000 32 := broadcastInDim S128x100000 ![] bcast_S_S128x100000 c_26
  let v107 : IVec S128x100000 32 := addi v105 v106
  let v108 : IVec S128x100000 32 := addi v103 v107
  let c_27 : IVec S_ 32 := constantI S_ 32 17#32
  let v109 : IVec S128x100000 32 := broadcastInDim S128x100000 ![] bcast_S_S128x100000 c_27
  let v110 : IVec S128x100000 32 := Host.shli v107 v109
  let c_28 : IVec S_ 32 := constantI S_ 32 15#32
  let v111 : IVec S128x100000 32 := broadcastInDim S128x100000 ![] bcast_S_S128x100000 c_28
  let v112 : IVec S128x100000 32 := Host.shrui v107 v111
  let v113 : IVec S128x100000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S128x100000 32) (v74 : IVec S128x100000 32) (v75 : IVec S128x100000 32) : IVec S128x100000 32 × IVec S128x100000 32 :=
  let v76 : IVec S128x100000 32 := Host.shli v73 v75
  let c_19 : IVec S_ 32 := constantI S_ 32 19#32
  let v77 : IVec S128x100000 32 := broadcastInDim S128x100000 ![] bcast_S_S128x100000 c_19
  let v78 : IVec S128x100000 32 := Host.shrui v73 v77
  let v79 : IVec S128x100000 32 := ori v76 v78
  let v80 : IVec S128x100000 32 := xori v74 v79
  let v81 : IVec S128x100000 32 := addi v74 v80
  let c_20 : IVec S_ 32 := constantI S_ 32 15#32
  let v82 : IVec S128x100000 32 := broadcastInDim S128x100000 ![] bcast_S_S128x100000 c_20
  let v83 : IVec S128x100000 32 := Host.shli v80 v82
  let c_21 : IVec S_ 32 := constantI S_ 32 17#32
  let v84 : IVec S128x100000 32 := broadcastInDim S128x100000 ![] bcast_S_S128x100000 c_21
  let v85 : IVec S128x100000 32 := Host.shrui v80 v84
  let v86 : IVec S128x100000 32 := ori v83 v85
  let v87 : IVec S128x100000 32 := xori v81 v86
  let v88 : IVec S128x100000 32 := addi v81 v87
  let c_22 : IVec S_ 32 := constantI S_ 32 26#32
  let v89 : IVec S128x100000 32 := broadcastInDim S128x100000 ![] bcast_S_S128x100000 c_22
  let v90 : IVec S128x100000 32 := Host.shli v87 v89
  let c_23 : IVec S_ 32 := constantI S_ 32 6#32
  let v91 : IVec S128x100000 32 := broadcastInDim S128x100000 ![] bcast_S_S128x100000 c_23
  let v92 : IVec S128x100000 32 := Host.shrui v87 v91
  let v93 : IVec S128x100000 32 := ori v90 v92
  let v94 : IVec S128x100000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S128x100000 32) (v54 : IVec S128x100000 32) (v56 : IVec S128x100000 32) : IVec S128x100000 32 × IVec S128x100000 32 :=
  let c_14 : IVec S_ 32 := constantI S_ 32 16#32
  let v57 : IVec S128x100000 32 := broadcastInDim S128x100000 ![] bcast_S_S128x100000 c_14
  let v58 : IVec S128x100000 32 := Host.shrui v53 v57
  let v59 : IVec S128x100000 32 := ori v56 v58
  let v60 : IVec S128x100000 32 := xori v54 v59
  let v61 : IVec S128x100000 32 := addi v54 v60
  let c_15 : IVec S_ 32 := constantI S_ 32 24#32
  let v62 : IVec S128x100000 32 := broadcastInDim S128x100000 ![] bcast_S_S128x100000 c_15
  let v63 : IVec S128x100000 32 := Host.shli v60 v62
  let c_16 : IVec S_ 32 := constantI S_ 32 8#32
  let v64 : IVec S128x100000 32 := broadcastInDim S128x100000 ![] bcast_S_S128x100000 c_16
  let v65 : IVec S128x100000 32 := Host.shrui v60 v64
  let v66 : IVec S128x100000 32 := ori v63 v65
  let v67 : IVec S128x100000 32 := xori v61 v66
  let v68 : IVec S128x100000 32 := broadcastInDim S128x100000 ![] bcast_S_S128x100000 v1
  let v69 : IVec S128x100000 32 := addi v61 v68
  let v70 : IVec S128x100000 32 := broadcastInDim S128x100000 ![] bcast_S_S128x100000 arg0
  let v71 : IVec S128x100000 32 := addi v67 v70
  let c_17 : IVec S_ 32 := constantI S_ 32 2#32
  let v72 : IVec S128x100000 32 := broadcastInDim S128x100000 ![] bcast_S_S128x100000 c_17
  let v73 : IVec S128x100000 32 := addi v71 v72
  let v74 : IVec S128x100000 32 := addi v69 v73
  let c_18 : IVec S_ 32 := constantI S_ 32 13#32
  let v75 : IVec S128x100000 32 := broadcastInDim S128x100000 ![] bcast_S_S128x100000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S128x100000 32) (v37 : IVec S128x100000 32) (c_8 : IVec S_ 32) : IVec S128x100000 32 × IVec S128x100000 32 :=
  let v38 : IVec S128x100000 32 := broadcastInDim S128x100000 ![] bcast_S_S128x100000 c_8
  let v39 : IVec S128x100000 32 := addi v37 v38
  let v40 : IVec S128x100000 32 := addi v35 v39
  let c_9 : IVec S_ 32 := constantI S_ 32 17#32
  let v41 : IVec S128x100000 32 := broadcastInDim S128x100000 ![] bcast_S_S128x100000 c_9
  let v42 : IVec S128x100000 32 := Host.shli v39 v41
  let c_10 : IVec S_ 32 := constantI S_ 32 15#32
  let v43 : IVec S128x100000 32 := broadcastInDim S128x100000 ![] bcast_S_S128x100000 c_10
  let v44 : IVec S128x100000 32 := Host.shrui v39 v43
  let v45 : IVec S128x100000 32 := ori v42 v44
  let v46 : IVec S128x100000 32 := xori v40 v45
  let v47 : IVec S128x100000 32 := addi v40 v46
  let c_11 : IVec S_ 32 := constantI S_ 32 29#32
  let v48 : IVec S128x100000 32 := broadcastInDim S128x100000 ![] bcast_S_S128x100000 c_11
  let v49 : IVec S128x100000 32 := Host.shli v46 v48
  let c_12 : IVec S_ 32 := constantI S_ 32 3#32
  let v50 : IVec S128x100000 32 := broadcastInDim S128x100000 ![] bcast_S_S128x100000 c_12
  let v51 : IVec S128x100000 32 := Host.shrui v46 v50
  let v52 : IVec S128x100000 32 := ori v49 v51
  let v53 : IVec S128x100000 32 := xori v47 v52
  let v54 : IVec S128x100000 32 := addi v47 v53
  let c_13 : IVec S_ 32 := constantI S_ 32 16#32
  let v55 : IVec S128x100000 32 := broadcastInDim S128x100000 ![] bcast_S_S128x100000 c_13
  let v56 : IVec S128x100000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S128x100000 32) (v18 : IVec S128x100000 32) : IVec S128x100000 32 × IVec S128x100000 32 :=
  let v19 : IVec S128x100000 32 := xori v13 v18
  let v20 : IVec S128x100000 32 := addi v13 v19
  let c_4 : IVec S_ 32 := constantI S_ 32 26#32
  let v21 : IVec S128x100000 32 := broadcastInDim S128x100000 ![] bcast_S_S128x100000 c_4
  let v22 : IVec S128x100000 32 := Host.shli v19 v21
  let c_5 : IVec S_ 32 := constantI S_ 32 6#32
  let v23 : IVec S128x100000 32 := broadcastInDim S128x100000 ![] bcast_S_S128x100000 c_5
  let v24 : IVec S128x100000 32 := Host.shrui v19 v23
  let v25 : IVec S128x100000 32 := ori v22 v24
  let v26 : IVec S128x100000 32 := xori v20 v25
  let v27 : IVec S128x100000 32 := addi v20 v26
  let c_6 : IVec S_ 32 := constantI S_ 32 6#32
  let v28 : IVec S128x100000 32 := broadcastInDim S128x100000 ![] bcast_S_S128x100000 c_6
  let v29 : IVec S128x100000 32 := Host.shli v26 v28
  let c_7 : IVec S_ 32 := constantI S_ 32 26#32
  let v30 : IVec S128x100000 32 := broadcastInDim S128x100000 ![] bcast_S_S128x100000 c_7
  let v31 : IVec S128x100000 32 := Host.shrui v26 v30
  let v32 : IVec S128x100000 32 := ori v29 v31
  let v33 : IVec S128x100000 32 := xori v27 v32
  let v34 : IVec S128x100000 32 := broadcastInDim S128x100000 ![] bcast_S_S128x100000 arg1
  let v35 : IVec S128x100000 32 := addi v27 v34
  let v36 : IVec S128x100000 32 := broadcastInDim S128x100000 ![] bcast_S_S128x100000 v1
  let v37 : IVec S128x100000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S128x100000 32) (arg3 : IVec S128x100000 32) : IVec S128x100000 32 × IVec S128x100000 32 :=
  let v0 : IVec S_ 32 := xori arg0 arg1
  let c : IVec S_ 32 := constantI S_ 32 466688986#32
  let v1 : IVec S_ 32 := xori v0 c
  let v2 : IVec S128x100000 32 := broadcastInDim S128x100000 ![] bcast_S_S128x100000 arg0
  let v3 : IVec S128x100000 32 := addi arg2 v2
  let v4 : IVec S128x100000 32 := broadcastInDim S128x100000 ![] bcast_S_S128x100000 arg1
  let v5 : IVec S128x100000 32 := addi arg3 v4
  let v6 : IVec S128x100000 32 := addi v3 v5
  let c_0 : IVec S_ 32 := constantI S_ 32 13#32
  let v7 : IVec S128x100000 32 := broadcastInDim S128x100000 ![] bcast_S_S128x100000 c_0
  let v8 : IVec S128x100000 32 := Host.shli v5 v7
  let c_1 : IVec S_ 32 := constantI S_ 32 19#32
  let v9 : IVec S128x100000 32 := broadcastInDim S128x100000 ![] bcast_S_S128x100000 c_1
  let v10 : IVec S128x100000 32 := Host.shrui v5 v9
  let v11 : IVec S128x100000 32 := ori v8 v10
  let v12 : IVec S128x100000 32 := xori v6 v11
  let v13 : IVec S128x100000 32 := addi v6 v12
  let c_2 : IVec S_ 32 := constantI S_ 32 15#32
  let v14 : IVec S128x100000 32 := broadcastInDim S128x100000 ![] bcast_S_S128x100000 c_2
  let v15 : IVec S128x100000 32 := Host.shli v12 v14
  let c_3 : IVec S_ 32 := constantI S_ 32 17#32
  let v16 : IVec S128x100000 32 := broadcastInDim S128x100000 ![] bcast_S_S128x100000 c_3
  let v17 : IVec S128x100000 32 := Host.shrui v12 v16
  let v18 : IVec S128x100000 32 := ori v15 v17
  fn_threefry2x32_part1 (F := F) arg0 arg1 v1 v13 v18

def fn_uniform_part1 {F : FTy → Type} [FloatOps F] (v2 : FVec F S1x1 .f32) (v3 : FVec F S1x1 .f32) (v19_0 : IVec S128x100000 32) (v19_1 : IVec S128x100000 32) : FVec F S128x100000 .f32 :=
  let v20 : IVec S128x100000 32 := xori v19_0 v19_1
  let c_2 : IVec S_ 32 := constantI S_ 32 9#32
  let v21 : IVec S128x100000 32 := broadcastInDim S128x100000 ![] bcast_S_S128x100000 c_2
  let v22 : IVec S128x100000 32 := Host.shrui v20 v21
  let c_3 : IVec S_ 32 := constantI S_ 32 1065353216#32
  let v23 : IVec S128x100000 32 := broadcastInDim S128x100000 ![] bcast_S_S128x100000 c_3
  let v24 : IVec S128x100000 32 := ori v22 v23
  let v25 : FVec F S128x100000 .f32 := bitcastToFloat .f32 v24
  let cst : FVec F S_ .f32 := constant S_ .f32 0x3F800000#32
  let v26 : FVec F S128x100000 .f32 := broadcastInDim S128x100000 ![] bcast_S_S128x100000 cst
  let v27 : FVec F S128x100000 .f32 := subf v25 v26
  let v28 : FVec F S1x1 .f32 := subf v3 v2
  let v29 : FVec F S128x100000 .f32 := broadcastInDim S128x100000 ![0, 1] bcast_S1x1_S128x100000_0_1 v28
  let v30 : FVec F S128x100000 .f32 := mulf v27 v29
  let v31 : FVec F S128x100000 .f32 := broadcastInDim S128x100000 ![0, 1] bcast_S1x1_S128x100000_0_1 v2
  let v32 : FVec F S128x100000 .f32 := addf v30 v31
  let v33 : FVec F S128x100000 .f32 := broadcastInDim S128x100000 ![0, 1] bcast_S1x1_S128x100000_0_1 v2
  let v34 : FVec F S128x100000 .f32 := maximumf v33 v32
  v34

def fn_uniform {F : FTy → Type} [FloatOps F] (arg0 : IVec S2 32) (arg1 : FVec F S_ .f32) (arg2 : FVec F S_ .f32) : FVec F S128x100000 .f32 :=
  let v0 : FVec F S_ .f32 := id arg1
  let v1 : FVec F S_ .f32 := id arg2
  let v2 : FVec F S1x1 .f32 := broadcastInDim S1x1 ![] bcast_S_S1x1 v0
  let v3 : FVec F S1x1 .f32 := broadcastInDim S1x1 ![] bcast_S_S1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S128x100000 64 := iotaInDim S128x100000 64 0
  let v9 : IVec S128x100000 64 := iotaInDim S128x100000 64 1
  let c : IVec S_ 64 := constantI S_ 64 100000#64
  let v10 : IVec S128x100000 64 := broadcastInDim S128x100000 ![] bcast_S_S128x100000 c
  let v11 : IVec S128x100000 64 := muli v10 v8
  let c_0 : IVec S_ 64 := constantI S_ 64 1#64
  let v12 : IVec S128x100000 64 := broadcastInDim S128x100000 ![] bcast_S_S128x100000 c_0
  let v13 : IVec S128x100000 64 := muli v12 v9
  let v14 : IVec S128x100000 64 := addi v11 v13
  let c_1 : IVec S_ 64 := constantI S_ 64 32#64
  let v15 : IVec S128x100000 64 := broadcastInDim S128x100000 ![] bcast_S_S128x100000 c_1
  let v16 : IVec S128x100000 64 := Host.shrui v14 v15
  let v17 : IVec S128x100000 32 := (trunci 32 · natLt_32_64) v14
  let v18 : IVec S128x100000 32 := (trunci 32 · natLt_32_64) v16
  let v19_0 : IVec S128x100000 32 := (fn_threefry2x32 (F := F) v5 v7 v18 v17).1
  let v19_1 : IVec S128x100000 32 := (fn_threefry2x32 (F := F) v5 v7 v18 v17).2
  fn_uniform_part1 (F := F) v2 v3 v19_0 v19_1

def fn_part1 {F : FTy → Type} [FloatOps F] (main_arg0 : FVec F S128x100000 .f32) (main_v14 : FVec F S128x100000 .f32) (main_v16 : FVec F S128x1 .f32) : IVec S128x100000 1 :=
  let main_v17 : FVec F S128x100000 .f32 := broadcastInDim S128x100000 ![0, 1] bcast_S128x1_S128x100000_0_1 main_v16
  let main_v18 : IVec S128x100000 1 := cmpf .oge main_v14 main_v17
  let main_v19 : IVec S128x100000 32 := (extui 32 · natLt_1_32) main_v18
  let main_c_5 : IVec S_ 32 := constantI S_ 32 0#32
  let main_v20 : IVec S128 32 := (fun x v => Host.reduce IntOp.addi x v reducesTo_S128x100000_S128_d1 h_S_) main_v19 main_c_5
  let main_v21 : IVec S128x1 32 := broadcastInDim S128x1 ![0] bcast_S128_S128x1_0 main_v20
  let main_v22 : FVec F S128x100000 .f32 := Host.absf main_arg0
  let main_cst_6 : FVec F S_ .f32 := constant S_ .f32 0x7F800000#32
  let main_v23 : FVec F S128x100000 .f32 := broadcastInDim S128x100000 ![] bcast_S_S128x100000 main_cst_6
  let main_v24 : IVec S128x100000 1 := cmpf .olt main_v22 main_v23
  let main_c_7 : IVec S_ 32 := constantI S_ 32 3#32
  let main_v25 : IVec S128x1 32 := broadcastInDim S128x1 ![] bcast_S_S128x1 main_c_7
  let main_v26 : IVec S128x1 1 := cmpi .sle main_v21 main_v25
  let main_v27 : IVec S128x100000 1 := broadcastInDim S128x100000 ![0, 1] bcast_S128x1_S128x100000_0_1 main_v26
  let main_v28 : IVec S128x100000 1 := andi main_v24 main_v27
  main_v28

def fn {F : FTy → Type} [FloatOps F] (main_arg0 : FVec F S128x100000 .f32) : IVec S128x100000 1 :=
  let main_c : IVec S_ 32 := constantI S_ 32 1234#32
  let main_c_0 : IVec S_ 32 := constantI S_ 32 32#32
  let main_v0 : IVec S_ 32 := Host.shrui main_c main_c_0
  let main_v1 : IVec S_ 32 := id main_v0
  let main_v2 : IVec S1 32 := broadcastInDim S1 ![] bcast_S_S1 main_v1
  let main_c_1 : IVec S_ 32 := constantI S_ 32 4294967295#32
  let main_v3 : IVec S_ 32 := andi main_c main_c_1
  let main_v4 : IVec S_ 32 := id main_v3
  let main_v5 : IVec S1 32 := broadcastInDim S1 ![] bcast_S_S1 main_v4
  let main_v6 : IVec S2 32 := (fun a b => concatenate S2 0 [⟨S1, a⟩, ⟨S1, b⟩] concatenates_S1_S1_S2_d0) main_v2 main_v5
  let main_cst : FVec F S_ .f32 := constant S_ .f32 0x2EDBE6FF#32
  let main_cst_2 : FVec F S_ .f32 := constant S_ .f32 0x3F800000#32
  let main_v7 : FVec F S128x100000 .f32 := fn_uniform (F := F) main_v6 main_cst main_cst_2
  let main_v8 : FVec F S128x100000 .f32 := Host.log main_v7
  let main_v9 : FVec F S128x100000 .f32 := Host.negf main_v8
  let main_v10 : FVec F S128x100000 .f32 := Host.log main_v9
  let main_v11 : FVec F S128x100000 .f32 := Host.negf main_v10
  let main_v12 : FVec F S128x100000 .f32 := addf main_arg0 main_v11
  let main_cst_3 : FVec F S_ .f32 := constant S_ .f32 0x3DA00000#32
  let main_v13 : FVec F S128x100000 .f32 := broadcastInDim S128x100000 ![] bcast_S_S128x100000 main_cst_3
  let main_v14 : FVec F S128x100000 .f32 := addf main_v12 main_v13
  let main_cst_4 : FVec F S_ .f32 := constant S_ .f32 0xFF800000#32
  let main_v15 : FVec F S128 .f32 := (fun x v => Host.reduce FloatOps.maximumf x v reducesTo_S128x100000_S128_d1 h_S_) main_v12 main_cst_4
  let main_v16 : FVec F S128x1 .f32 := broadcastInDim S128x1 ![0] bcast_S128_S128x1_0 main_v15
  fn_part1 (F := F) main_arg0 main_v14 main_v16
-- ==== Kernel.lean ====
abbrev S128x100000 : Shape := ⟨2, ![128, 100000]⟩
abbrev S12800000 : Shape := ⟨1, ![12800000]⟩
abbrev S_ : Shape := ⟨0, ![]⟩
abbrev S64x100000 : Shape := ⟨2, ![64, 100000]⟩
abbrev S128x8192 : Shape := ⟨2, ![128, 8192]⟩
abbrev S64x8192 : Shape := ⟨2, ![64, 8192]⟩
abbrev S16x128x4 : Shape := ⟨3, ![16, 128, 4]⟩
abbrev S128x1 : Shape := ⟨2, ![128, 1]⟩
abbrev S128 : Shape := ⟨1, ![128]⟩
abbrev S1x128x1 : Shape := ⟨3, ![1, 128, 1]⟩
abbrev S128x4 : Shape := ⟨2, ![128, 4]⟩

abbrev nBuf : Space → Nat
  | .hbm => 282
  | .vmem => 11
  | .smem => 0
  | _ => 0

abbrev hbmTy0_0 (i : Nat) : BufTy := match i % 128 with
  | 0 => ⟨S128x100000, .f32⟩
  | 1 => ⟨S12800000, .i32⟩
  | 2 => ⟨S128x100000, .i32⟩
  | 3 => ⟨S_, .i32⟩
  | 4 => ⟨S128x100000, .i32⟩
  | 5 => ⟨S_, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S128x100000, .i32⟩
  | 28 => ⟨S128x100000, .i32⟩
  | 29 => ⟨S128x100000, .i32⟩
  | 30 => ⟨S_, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S_, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S128x100000, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S128x100000, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S128x100000, .f32⟩
  | 116 => ⟨S_, .f32⟩
  | 117 => ⟨S128x100000, .f32⟩
  | 118 => ⟨S128x100000, .f32⟩
  | 119 => ⟨S_, .f32⟩
  | 120 => ⟨S_, .f32⟩
  | 121 => ⟨S_, .f32⟩
  | 122 => ⟨S128x100000, .f32⟩
  | 123 => ⟨S128x100000, .f32⟩
  | 124 => ⟨S_, .f32⟩
  | 125 => ⟨S128x100000, .f32⟩
  | 126 => ⟨S128x100000, .f32⟩
  | 127 => ⟨S_, .f32⟩
  | _ => ⟨S128x100000, .f32⟩

abbrev hbmTy0_2 (i : Nat) : BufTy := match i % 128 with
  | 0 => ⟨S128x100000, .f32⟩
  | 1 => ⟨S128x100000, .f32⟩
  | 2 => ⟨S128x100000, .f32⟩
  | 3 => ⟨S128x100000, .f32⟩
  | 4 => ⟨S128x100000, .f32⟩
  | 5 => ⟨S128x100000, .f32⟩
  | 6 => ⟨S_, .f32⟩
  | 7 => ⟨S128x100000, .f32⟩
  | 8 => ⟨S128x100000, .f32⟩
  | 9 => ⟨S_, .f32⟩
  | 10 => ⟨S128x100000, .f32⟩
  | 11 => ⟨S128x100000, .f32⟩
  | 12 => ⟨S128x100000, .f32⟩
  | 13 => ⟨S_, .f32⟩
  | 14 => ⟨S_, .f32⟩
  | 15 => ⟨S_, .f32⟩
  | 16 => ⟨S128x100000, .f32⟩
  | 17 => ⟨S128x100000, .f32⟩
  | 18 => ⟨S_, .f32⟩
  | 19 => ⟨S128x100000, .f32⟩
  | 20 => ⟨S128x100000, .f32⟩
  | 21 => ⟨S128x100000, .i32⟩
  | 22 => ⟨S128x100000, .i8⟩
  | 23 => ⟨S64x100000, .i8⟩
  | 24 => ⟨S64x100000, .i8⟩
  | 25 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | .local _ .vmem, ⟨0, _⟩ => ⟨S128x8192, .f32⟩
  | .local _ .vmem, ⟨1, _⟩ => ⟨S128x8192, .f32⟩
  | .local _ .vmem, ⟨2, _⟩ => ⟨S64x8192, .i8⟩
  | .local _ .vmem, ⟨3, _⟩ => ⟨S64x8192, .i8⟩
  | .local _ .vmem, ⟨4, _⟩ => ⟨S64x8192, .i8⟩
  | .local _ .vmem, ⟨5, _⟩ => ⟨S64x8192, .i8⟩
  | .local _ .vmem, ⟨6, _⟩ => ⟨S128x8192, .f32⟩
  | .local _ .vmem, ⟨7, _⟩ => ⟨S128x8192, .f32⟩
  | .local _ .vmem, ⟨8, _⟩ => ⟨S16x128x4, .i32⟩
  | .local _ .vmem, ⟨9, _⟩ => ⟨S16x128x4, .f32⟩
  | .local _ .vmem, ⟨10, _⟩ => ⟨S128x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_4 : Ref sig .tc := ⟨.hbm, 21, rfl⟩
abbrev main_v15 : Ref sig .tc := ⟨.hbm, 22, rfl⟩
abbrev main_v16 : Ref sig .tc := ⟨.hbm, 23, rfl⟩
abbrev main_c_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_6 : Ref sig .tc := ⟨.hbm, 30, rfl⟩
abbrev main_v22 : Ref sig .tc := ⟨.hbm, 31, rfl⟩
abbrev main_v23 : Ref sig .tc := ⟨.hbm, 32, rfl⟩
abbrev main_c_7 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_8 : Ref sig .tc := ⟨.hbm, 39, rfl⟩
abbrev main_v29 : Ref sig .tc := ⟨.hbm, 40, rfl⟩
abbrev main_v30 : Ref sig .tc := ⟨.hbm, 41, rfl⟩
abbrev main_c_9 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_10 : Ref sig .tc := ⟨.hbm, 47, rfl⟩
abbrev main_v35 : Ref sig .tc := ⟨.hbm, 48, rfl⟩
abbrev main_v36 : Ref sig .tc := ⟨.hbm, 49, rfl⟩
abbrev main_c_11 : Ref sig .tc := ⟨.hbm, 50, rfl⟩
abbrev main_v37 : Ref sig .tc := ⟨.hbm, 51, rfl⟩
abbrev main_v38 : Ref sig .tc := ⟨.hbm, 52, rfl⟩
abbrev main_c_12 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_13 : Ref sig .tc := ⟨.hbm, 57, rfl⟩
abbrev main_v42 : Ref sig .tc := ⟨.hbm, 58, rfl⟩
abbrev main_v43 : Ref sig .tc := ⟨.hbm, 59, rfl⟩
abbrev main_c_14 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_15 : Ref sig .tc := ⟨.hbm, 66, rfl⟩
abbrev main_v49 : Ref sig .tc := ⟨.hbm, 67, rfl⟩
abbrev main_v50 : Ref sig .tc := ⟨.hbm, 68, rfl⟩
abbrev main_c_16 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_17 : Ref sig .tc := ⟨.hbm, 75, rfl⟩
abbrev main_v56 : Ref sig .tc := ⟨.hbm, 76, rfl⟩
abbrev main_v57 : Ref sig .tc := ⟨.hbm, 77, rfl⟩
abbrev main_c_18 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_19 : Ref sig .tc := ⟨.hbm, 84, rfl⟩
abbrev main_v63 : Ref sig .tc := ⟨.hbm, 85, rfl⟩
abbrev main_v64 : Ref sig .tc := ⟨.hbm, 86, rfl⟩
abbrev main_c_20 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_21 : Ref sig .tc := ⟨.hbm, 92, rfl⟩
abbrev main_v69 : Ref sig .tc := ⟨.hbm, 93, rfl⟩
abbrev main_v70 : Ref sig .tc := ⟨.hbm, 94, rfl⟩
abbrev main_c_22 : Ref sig .tc := ⟨.hbm, 95, rfl⟩
abbrev main_v71 : Ref sig .tc := ⟨.hbm, 96, rfl⟩
abbrev main_v72 : Ref sig .tc := ⟨.hbm, 97, rfl⟩
abbrev main_c_23 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_24 : Ref sig .tc := ⟨.hbm, 102, rfl⟩
abbrev main_v76 : Ref sig .tc := ⟨.hbm, 103, rfl⟩
abbrev main_v77 : Ref sig .tc := ⟨.hbm, 104, rfl⟩
abbrev main_c_25 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_26 : Ref sig .tc := ⟨.hbm, 111, rfl⟩
abbrev main_v83 : Ref sig .tc := ⟨.hbm, 112, rfl⟩
abbrev main_v84 : Ref sig .tc := ⟨.hbm, 113, rfl⟩
abbrev main_c_27 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_c_28 : Ref sig .tc := ⟨.hbm, 120, rfl⟩
abbrev main_v90 : Ref sig .tc := ⟨.hbm, 121, rfl⟩
abbrev main_v91 : Ref sig .tc := ⟨.hbm, 122, rfl⟩
abbrev main_c_29 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_30 : Ref sig .tc := ⟨.hbm, 129, rfl⟩
abbrev main_v97 : Ref sig .tc := ⟨.hbm, 130, rfl⟩
abbrev main_v98 : Ref sig .tc := ⟨.hbm, 131, rfl⟩
abbrev main_c_31 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_32 : Ref sig .tc := ⟨.hbm, 137, rfl⟩
abbrev main_v103 : Ref sig .tc := ⟨.hbm, 138, rfl⟩
abbrev main_v104 : Ref sig .tc := ⟨.hbm, 139, rfl⟩
abbrev main_c_33 : Ref sig .tc := ⟨.hbm, 140, rfl⟩
abbrev main_v105 : Ref sig .tc := ⟨.hbm, 141, rfl⟩
abbrev main_v106 : Ref sig .tc := ⟨.hbm, 142, rfl⟩
abbrev main_c_34 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_35 : Ref sig .tc := ⟨.hbm, 147, rfl⟩
abbrev main_v110 : Ref sig .tc := ⟨.hbm, 148, rfl⟩
abbrev main_v111 : Ref sig .tc := ⟨.hbm, 149, rfl⟩
abbrev main_c_36 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_37 : Ref sig .tc := ⟨.hbm, 156, rfl⟩
abbrev main_v117 : Ref sig .tc := ⟨.hbm, 157, rfl⟩
abbrev main_v118 : Ref sig .tc := ⟨.hbm, 158, rfl⟩
abbrev main_c_38 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_39 : Ref sig .tc := ⟨.hbm, 165, rfl⟩
abbrev main_v124 : Ref sig .tc := ⟨.hbm, 166, rfl⟩
abbrev main_v125 : Ref sig .tc := ⟨.hbm, 167, rfl⟩
abbrev main_c_40 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_c_41 : Ref sig .tc := ⟨.hbm, 174, rfl⟩
abbrev main_v131 : Ref sig .tc := ⟨.hbm, 175, rfl⟩
abbrev main_v132 : Ref sig .tc := ⟨.hbm, 176, rfl⟩
abbrev main_c_42 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_c_43 : Ref sig .tc := ⟨.hbm, 182, rfl⟩
abbrev main_v137 : Ref sig .tc := ⟨.hbm, 183, rfl⟩
abbrev main_v138 : Ref sig .tc := ⟨.hbm, 184, rfl⟩
abbrev main_c_44 : Ref sig .tc := ⟨.hbm, 185, rfl⟩
abbrev main_v139 : Ref sig .tc := ⟨.hbm, 186, rfl⟩
abbrev main_v140 : Ref sig .tc := ⟨.hbm, 187, rfl⟩
abbrev main_c_45 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_c_46 : Ref sig .tc := ⟨.hbm, 192, rfl⟩
abbrev main_v144 : Ref sig .tc := ⟨.hbm, 193, rfl⟩
abbrev main_v145 : Ref sig .tc := ⟨.hbm, 194, rfl⟩
abbrev main_c_47 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_c_48 : Ref sig .tc := ⟨.hbm, 201, rfl⟩
abbrev main_v151 : Ref sig .tc := ⟨.hbm, 202, rfl⟩
abbrev main_v152 : Ref sig .tc := ⟨.hbm, 203, rfl⟩
abbrev main_c_49 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_c_50 : Ref sig .tc := ⟨.hbm, 210, rfl⟩
abbrev main_v158 : Ref sig .tc := ⟨.hbm, 211, rfl⟩
abbrev main_v159 : Ref sig .tc := ⟨.hbm, 212, rfl⟩
abbrev main_c_51 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_c_52 : Ref sig .tc := ⟨.hbm, 219, rfl⟩
abbrev main_v165 : Ref sig .tc := ⟨.hbm, 220, rfl⟩
abbrev main_v166 : Ref sig .tc := ⟨.hbm, 221, rfl⟩
abbrev main_c_53 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_c_54 : Ref sig .tc := ⟨.hbm, 227, rfl⟩
abbrev main_v171 : Ref sig .tc := ⟨.hbm, 228, rfl⟩
abbrev main_v172 : Ref sig .tc := ⟨.hbm, 229, rfl⟩
abbrev main_c_55 : Ref sig .tc := ⟨.hbm, 230, rfl⟩
abbrev main_v173 : Ref sig .tc := ⟨.hbm, 231, rfl⟩
abbrev main_v174 : Ref sig .tc := ⟨.hbm, 232, rfl⟩
abbrev main_c_56 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_c_57 : Ref sig .tc := ⟨.hbm, 237, rfl⟩
abbrev main_v178 : Ref sig .tc := ⟨.hbm, 238, rfl⟩
abbrev main_v179 : Ref sig .tc := ⟨.hbm, 239, rfl⟩
abbrev main_c_58 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_cst : Ref sig .tc := ⟨.hbm, 244, rfl⟩
abbrev main_v183 : Ref sig .tc := ⟨.hbm, 245, rfl⟩
abbrev main_v184 : Ref sig .tc := ⟨.hbm, 246, rfl⟩
abbrev main_cst_59 : Ref sig .tc := ⟨.hbm, 247, rfl⟩
abbrev main_cst_60 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_cst_61 : Ref sig .tc := ⟨.hbm, 252, rfl⟩
abbrev main_v188 : Ref sig .tc := ⟨.hbm, 253, rfl⟩
abbrev main_v189 : Ref sig .tc := ⟨.hbm, 254, rfl⟩
abbrev main_cst_62 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_cst_63 : Ref sig .tc := ⟨.hbm, 262, rfl⟩
abbrev main_v196 : Ref sig .tc := ⟨.hbm, 263, rfl⟩
abbrev main_v197 : Ref sig .tc := ⟨.hbm, 264, rfl⟩
abbrev main_cst_64 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_cst_65 : Ref sig .tc := ⟨.hbm, 269, rfl⟩
abbrev main_cst_66 : Ref sig .tc := ⟨.hbm, 270, rfl⟩
abbrev main_call1_v0 : Ref sig .tc := ⟨.hbm, 271, rfl⟩
abbrev main_call1_v1 : Ref sig .tc := ⟨.hbm, 272, rfl⟩
abbrev main_call1_v2 : Ref sig .tc := ⟨.hbm, 273, rfl⟩
abbrev main_call1_v3 : Ref sig .tc := ⟨.hbm, 274, rfl⟩
abbrev main_call1_v4 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![26], ![false]⟩

def k0_cond2 (i : grid0.Coords) : BitVec 1 :=
  let arg0 : BitVec 32 := BitVec.ofNat 32 (i 0).val
  let c13_i32 : BitVec 32 := 13#32
  let v3 : BitVec 1 := Scalar.cmpi .slt arg0 c13_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v73 : Index := Scalar.indexCast arg0
  let c0_26 : Index := 0#32
  let c0_27 : Index := 0#32
  ![v73.toNat, 0, 0]
def k0_off2 (i : grid0.Coords) : Fin 3 → Nat :=
  let arg0 : BitVec 32 := BitVec.ofNat 32 (i 0).val
  let v77 : Index := Scalar.indexCast arg0
  let c0_28 : Index := 0#32
  let c1 : Index := 1#32
  ![v77.toNat, 0, 1]
def k0_off3 (i : grid0.Coords) : Fin 3 → Nat :=
  let arg0 : BitVec 32 := BitVec.ofNat 32 (i 0).val
  let v81 : Index := Scalar.indexCast arg0
  let c0_29 : Index := 0#32
  let c2 : Index := 2#32
  ![v81.toNat, 0, 2]
def k0_cond4 (i : grid0.Coords) : BitVec 1 :=
  let arg0 : BitVec 32 := BitVec.ofNat 32 (i 0).val
  let c13_i32_2 : BitVec 32 := 13#32
  let v6 : BitVec 1 := Scalar.cmpi .sge arg0 c13_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c13_i32 : BitVec 32 := 13#32
  let v0 : BitVec 1 := Scalar.cmpi .slt arg0 c13_i32
  let c0_i32 : BitVec 32 := 0#32
  let v1 : BitVec 32 := Scalar.select v0 arg0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let c13_i32 : BitVec 32 := 13#32
  let v0 : BitVec 1 := Scalar.cmpi .slt arg0 c13_i32
  let c0_i32 : BitVec 32 := 0#32
  let v1 : BitVec 32 := Scalar.select v0 arg0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c13_i32 : BitVec 32 := 13#32
  let v0 : BitVec 1 := Scalar.cmpi .slt arg0 c13_i32
  let c0_i32 : BitVec 32 := 0#32
  let v1 : BitVec 32 := Scalar.select v0 arg0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c13_i32 : BitVec 32 := 13#32
  let v0 : BitVec 1 := Scalar.cmpi .slt arg0 c13_i32
  let c13_i32_0 : BitVec 32 := 13#32
  let v1 : BitVec 32 := Scalar.subi arg0 c13_i32_0
  let c0_i32 : BitVec 32 := 0#32
  let v2 : BitVec 32 := Scalar.select v0 c0_i32 v1
  let c0_i32_1 : BitVec 32 := 0#32
  let c0_i32_2 : BitVec 32 := 0#32
  ![c0_i32_1.toNat, v2.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S1x100000 : Shape := ⟨2, ![1, 100000]⟩

abbrev nBuf : Space → Nat
  | .hbm => 310
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S128x100000, .f32⟩
  | 21 => ⟨S128x100000, .f32⟩
  | 22 => ⟨S128x100000, .f32⟩
  | 23 => ⟨S128x100000, .f32⟩
  | 24 => ⟨S_, .f32⟩
  | 25 => ⟨S128x100000, .f32⟩
  | 26 => ⟨S128x100000, .f32⟩
  | 27 => ⟨S_, .f32⟩
  | 28 => ⟨S128, .f32⟩
  | 29 => ⟨S_, .f32⟩
  | 30 => ⟨S128, .f32⟩
  | 31 => ⟨S128, .f32⟩
  | 32 => ⟨S128x1, .f32⟩
  | 33 => ⟨S128x100000, .f32⟩
  | 34 => ⟨S128x100000, .f32⟩
  | 35 => ⟨S128x100000, .f32⟩
  | 36 => ⟨S_, .f32⟩
  | 37 => ⟨S128, .f32⟩
  | 38 => ⟨S128x1, .f32⟩
  | 39 => ⟨S128x100000, .f32⟩
  | 40 => ⟨S128x100000, .f32⟩
  | 41 => ⟨S128x100000, .i32⟩
  | 42 => ⟨S_, .f32⟩
  | 43 => ⟨S_, .i32⟩
  | 44 => ⟨S128, .f32⟩
  | 45 => ⟨S128, .i32⟩
  | 46 => ⟨S128x1, .i32⟩
  | 47 => ⟨S1x100000, .i32⟩
  | 48 => ⟨S128x100000, .i32⟩
  | 49 => ⟨S128x100000, .i32⟩
  | 50 => ⟨S128x100000, .i1⟩
  | 51 => ⟨S128x100000, .f32⟩
  | 52 => ⟨S128x100000, .f32⟩
  | 53 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_v8 : Ref sig .tc := ⟨.hbm, 275, rfl⟩
abbrev main_v9 : Ref sig .tc := ⟨.hbm, 276, rfl⟩
abbrev main_v10 : Ref sig .tc := ⟨.hbm, 277, rfl⟩
abbrev main_v11 : Ref sig .tc := ⟨.hbm, 278, rfl⟩
abbrev main_v12 : Ref sig .tc := ⟨.hbm, 279, rfl⟩
abbrev main_cst_3 : Ref sig .tc := ⟨.hbm, 280, rfl⟩
abbrev main_v13 : Ref sig .tc := ⟨.hbm, 281, rfl⟩
abbrev main_v14 : Ref sig .tc := ⟨.hbm, 282, rfl⟩
abbrev main_cst_4 : Ref sig .tc := ⟨.hbm, 283, rfl⟩
abbrev main_v15 : Ref sig .tc := ⟨.hbm, 284, rfl⟩
abbrev main_cst_5 : Ref sig .tc := ⟨.hbm, 285, rfl⟩
abbrev main_v16 : Ref sig .tc := ⟨.hbm, 286, rfl⟩
abbrev main_v17 : Ref sig .tc := ⟨.hbm, 287, rfl⟩
abbrev main_v18 : Ref sig .tc := ⟨.hbm, 288, rfl⟩
abbrev main_v19 : Ref sig .tc := ⟨.hbm, 289, rfl⟩
abbrev main_v20 : Ref sig .tc := ⟨.hbm, 290, rfl⟩
abbrev main_v21 : Ref sig .tc := ⟨.hbm, 291, rfl⟩
abbrev main_cst_6 : Ref sig .tc := ⟨.hbm, 292, rfl⟩
abbrev main_v22 : Ref sig .tc := ⟨.hbm, 293, rfl⟩
abbrev main_v23 : Ref sig .tc := ⟨.hbm, 294, rfl⟩
abbrev main_v24 : Ref sig .tc := ⟨.hbm, 295, rfl⟩
abbrev main_v25 : Ref sig .tc := ⟨.hbm, 296, rfl⟩
abbrev main_call1_v0 : Ref sig .tc := ⟨.hbm, 297, rfl⟩
abbrev main_call1_cst : Ref sig .tc := ⟨.hbm, 298, rfl⟩
abbrev main_call1_c : Ref sig .tc := ⟨.hbm, 299, rfl⟩
abbrev main_call1_v1_0 : Ref sig .tc := ⟨.hbm, 300, rfl⟩
abbrev main_v26 : Ref sig .tc := ⟨.hbm, 301, rfl⟩
abbrev main_call2_v0 : Ref sig .tc := ⟨.hbm, 302, rfl⟩
abbrev main_call2_v1 : Ref sig .tc := ⟨.hbm, 303, rfl⟩
abbrev main_call2_v2 : Ref sig .tc := ⟨.hbm, 304, rfl⟩
abbrev main_call2_v3 : Ref sig .tc := ⟨.hbm, 305, rfl⟩
abbrev main_call2_v4 : Ref sig .tc := ⟨.hbm, 306, rfl⟩
abbrev main_v27 : Ref sig .tc := ⟨.hbm, 307, rfl⟩
abbrev main_v28 : Ref sig .tc := ⟨.hbm, 308, rfl⟩
abbrev main_v29 : Ref sig .tc := ⟨.hbm, 309, rfl⟩

abbrev nD : Nat := 1
abbrev τ : Topo := Topo.v7x

variable {F : FTy → Type} [FloatOps F]
-- ==== Proof.Body.lean ====
/- The kernel body at one grid point. Points 0‥12 screen a block of columns: three rectangles of the two tables in
   scratch are rewritten; point 0 first fills both tables; point 12 last picks the winning column of every row from the
   tables. Points 13‥25 write the one-hot rows of a block. What each point leaves is named as a function of what it
   found (`nextP`, `nextX`, `nextI`, `nextO`), and `body_runs` says that the body leaves just that. -/
module

public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.Value
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No loop of the program is bounded by a variant. -/
abbrev 𝒱₀ : Variants := Variants.none

/-! ## What a point leaves -/

/-- The column of a table's slot that a rectangle of one block, all rows and one place holds. -/
abbrev row1 (r : Fin 128) : S1x128x1.Idx := fun a => ⟨if a.val = 1 then r.val else 0, by
  match a with
  | ⟨0, _⟩ => exact Nat.one_pos
  | ⟨1, _⟩ => exact r.isLt
  | ⟨2, _⟩ => exact Nat.one_pos⟩

/-- A table after block `n`'s first three places are rewritten by `a`, `b`, `c`, one value a row each. -/
def stepS {α : Type} (n : ℕ) (a b c : S1x128x1.Idx → α) (P : S16x128x4.Idx → α) : S16x128x4.Idx → α := fun y =>
  if (y 0).val = n then
    if (y 2).val = 0 then a (row1 (y 1)) else if (y 2).val = 1 then b (row1 (y 1)) else if (y 2).val = 2 then c (row1 (y 1)) else P y
  else P y

/-- The grid coordinate as the body reads it. -/
abbrev pt (i : grid0.Coords) : BitVec 32 := BitVec.ofNat 32 (i 0).val

/-- The table of positions after a screening point, from the staged blocks and the table it rewrites. -/
def screenP (i : grid0.Coords) (A : S128x8192.Idx → Elt F .f32) (B C : S64x8192.Idx → Elt F .i8) (P : S16x128x4.Idx → Elt F .i32) :
    S16x128x4.Idx → Elt F .i32 :=
  stepS (i 0).val (k0_pay66 (k0_pay56 (pt i) A B C)) (k0_pay67 (k0_pay60 (pt i) A B C))
    (k0_pay68 (k0_pay54 (pt i)) (k0_pay59 (pt i) A B C) (k0_pay60 (pt i) A B C)) P

/-- The table of entries after a screening point, from the staged blocks and the table it rewrites. -/
def screenX (i : grid0.Coords) (A : S128x8192.Idx → Elt F .f32) (B C : S64x8192.Idx → Elt F .i8) (X : S16x128x4.Idx → Elt F .f32) :
    S16x128x4.Idx → Elt F .f32 :=
  stepS (i 0).val (k0_pay69 (k0_pay58 (pt i) A B C)) (k0_pay3 (k0_pay63 (k0_pay54 (pt i)) A (k0_pay60 (pt i) A B C)))
    (k0_pay4 (k0_pay65 (k0_pay54 (pt i)) A (k0_pay59 (pt i) A B C) (k0_pay60 (pt i) A B C))) X

/-- The table of positions after point `i`, from the staged blocks and the table before. -/
def nextP (i : grid0.Coords) (A : S128x8192.Idx → Elt F .f32) (B C : S64x8192.Idx → Elt F .i8) (P : S16x128x4.Idx → Elt F .i32) :
    S16x128x4.Idx → Elt F .i32 :=
  if (i 0).val < 13 then screenP i A B C (if (i 0).val = 0 then k0_pay1 else P) else P

/-- The table of entries after point `i`, from the staged blocks and the table before. -/
def nextX (i : grid0.Coords) (A : S128x8192.Idx → Elt F .f32) (B C : S64x8192.Idx → Elt F .i8) (X : S16x128x4.Idx → Elt F .f32) :
    S16x128x4.Idx → Elt F .f32 :=
  if (i 0).val < 13 then screenX i A B C (if (i 0).val = 0 then k0_pay2 else X) else X

/-- The second round's two words of the generator, from the positions. -/
def mid1 (P : S16x128x4.Idx → Elt F .i32) : IVec S16x128x4 32 × IVec S16x128x4 32 :=
  (k0_pay26 (k0_pay14 (F := F) P) (k0_pay15 (F := F) P) (k0_pay16 (F := F) P) k0_pay17,
    k0_pay27 (k0_pay14 (F := F) P) (k0_pay15 (F := F) P) (k0_pay16 (F := F) P) k0_pay17)

/-- The third round's two words of the generator, from the positions. -/
def mid2 (P : S16x128x4.Idx → Elt F .i32) : IVec S16x128x4 32 × IVec S16x128x4 32 :=
  (k0_pay38 (mid1 (F := F) P).1 (mid1 (F := F) P).2 k0_pay28, k0_pay39 (mid1 (F := F) P).1 (mid1 (F := F) P).2 k0_pay28)

/-- The winning column of every row, from the two tables. -/
def pick (P : S16x128x4.Idx → Elt F .i32) (X : S16x128x4.Idx → Elt F .f32) : S128x1.Idx → Elt F .i32 :=
  k0_pay5 (k0_pay53 P X (k0_pay7 (F := F) P) (k0_pay49 (mid2 (F := F) P).1 (mid2 (F := F) P).2)
    (k0_pay50 (mid2 (F := F) P).1 (mid2 (F := F) P).2) (k0_pay51 (mid2 (F := F) P).1 (mid2 (F := F) P).2) k0_pay52)

/-- The winners' buffer after point `i`, from the tables as the point leaves them. -/
def nextI (i : grid0.Coords) (P' : S16x128x4.Idx → Elt F .i32) (X' : S16x128x4.Idx → Elt F .f32) (I : S128x1.Idx → Elt F .i32) :
    S128x1.Idx → Elt F .i32 :=
  if (i 0).val = 12 then pick P' X' else I

/-- The result's staging buffer after point `i`. -/
def nextO (i : grid0.Coords) (I : S128x1.Idx → Elt F .i32) (O : S128x8192.Idx → Elt F .f32) : S128x8192.Idx → Elt F .f32 :=
  if (i 0).val < 13 then O else k0_pay6 i I

/-! ## The conditions and the offsets -/

theorem cond0_iff (i : grid0.Coords) :
    (Scalar.cmpi .ne (Scalar.extui (Scalar.cmpi .eq (BitVec.ofNat 32 (i 0).val) 0#32 : BitVec 1) : BitVec 32) 0#32 = 1#1)
      ↔ (i 0).val = 0 := by
  have h : ∀ n : Fin 26, (Scalar.cmpi .ne (Scalar.extui (Scalar.cmpi .eq (BitVec.ofNat 32 n.val) 0#32 : BitVec 1) : BitVec 32) 0#32 = 1#1)
      ↔ n.val = 0 := by decide
  exact h (i 0)

theorem cond12_iff (i : grid0.Coords) :
    (Scalar.cmpi .ne (Scalar.extui (Scalar.cmpi .eq (BitVec.ofNat 32 (i 0).val) 12#32 : BitVec 1) : BitVec 32) 0#32 = 1#1)
      ↔ (i 0).val = 12 := by
  have h : ∀ n : Fin 26, (Scalar.cmpi .ne (Scalar.extui (Scalar.cmpi .eq (BitVec.ofNat 32 n.val) 12#32 : BitVec 1) : BitVec 32) 0#32 = 1#1)
      ↔ n.val = 12 := by decide
  exact h (i 0)

theorem cond2_iff (i : grid0.Coords) : k0_cond2 i = 1#1 ↔ (i 0).val < 13 := by
  have h : ∀ n : Fin 26, (Scalar.cmpi .ne (Scalar.extui (Scalar.cmpi .slt (BitVec.ofNat 32 n.val) 13#32 : BitVec 1) : BitVec 32) 0#32 = 1#1)
      ↔ n.val < 13 := by decide
  exact h (i 0)

theorem cond4_iff (i : grid0.Coords) : k0_cond4 i = 1#1 ↔ ¬ (i 0).val < 13 := by
  have h : ∀ n : Fin 26, (Scalar.cmpi .ne (Scalar.extui (Scalar.cmpi .sge (BitVec.ofNat 32 n.val) 13#32 : BitVec 1) : BitVec 32) 0#32 = 1#1)
      ↔ ¬ n.val < 13 := by decide
  exact h (i 0)

theorem toNat_pt (i : grid0.Coords) : (Scalar.indexCast (BitVec.ofNat 32 (i 0).val) : Index).toNat = (i 0).val := by
  have h : ∀ n : Fin 26, (Scalar.indexCast (BitVec.ofNat 32 n.val) : Index).toNat = n.val := by decide
  exact h (i 0)

theorem off1_eq (i : grid0.Coords) : k0_off1 i = ![(i 0).val, 0, 0] := by
  show ![(Scalar.indexCast (BitVec.ofNat 32 (i 0).val) : Index).toNat, 0, 0] = _
  rw [toNat_pt]
theorem off2_eq (i : grid0.Coords) : k0_off2 i = ![(i 0).val, 0, 1] := by
  show ![(Scalar.indexCast (BitVec.ofNat 32 (i 0).val) : Index).toNat, 0, 1] = _
  rw [toNat_pt]
theorem off3_eq (i : grid0.Coords) : k0_off3 i = ![(i 0).val, 0, 2] := by
  show ![(Scalar.indexCast (BitVec.ofNat 32 (i 0).val) : Index).toNat, 0, 2] = _
  rw [toNat_pt]

/-! ## Loads and stores read as functions -/

omit [FloatOps F] in
/-- A load of the whole of a memref reads what it holds. -/
theorem readAt_all {s : Shape} {e : EltTy} (v : View sig .tc .vmem s e) (f : v.ty.Contents (Elt F)) (off : Fin s.rank → ℕ)
    (hoff : off = fun _ => 0) (h : ∀ a, off a + s.size a ≤ s.size a) :
    View.readAt (Elt F) v (Rect.unit (s := s) off s.size h).toLoadRect f = v.read (Elt F) f := by
  rw [View.readAt_eq_ld]; exact View.ld_unit_zero hoff h _

omit [FloatOps F] in
/-- A store over the whole of a memref leaves the payload. -/
theorem read_all {s : Shape} {e : EltTy} (v : View sig .tc .vmem s e) (f : v.ty.Contents (Elt F)) (off : Fin s.rank → ℕ)
    (hoff : off = fun _ => 0) (h : ∀ a, off a + s.size a ≤ s.size a) (w : s.Idx → Elt F e) :
    v.read (Elt F) (v.writes (Elt F) f [⟨Rect.unit (s := s) off s.size h, w⟩]) = w := by
  subst hoff
  funext y
  exact View.read_writes_cons_hit_of_coords v f (Rect.unit (s := s) (fun _ => 0) s.size h) w [] y y fun a => by
    show (y a).val = 0 + 1 * (y a).val
    omega

omit [FloatOps F] in
/-- Three stores at a block's first three places leave `stepS`. -/
theorem read_step {e : EltTy} (v : View sig .tc .vmem S16x128x4 e) (f : v.ty.Contents (Elt F)) (n : ℕ) (o1 o2 o3 : Fin 3 → ℕ)
    (e1 : o1 = ![n, 0, 0]) (e2 : o2 = ![n, 0, 1]) (e3 : o3 = ![n, 0, 2])
    (h1 : ∀ a, o1 a + S1x128x1.size a ≤ S16x128x4.size a) (h2 : ∀ a, o2 a + S1x128x1.size a ≤ S16x128x4.size a)
    (h3 : ∀ a, o3 a + S1x128x1.size a ≤ S16x128x4.size a) (a b c : S1x128x1.Idx → Elt F e) (L : List (View.Piece (Elt F) S16x128x4 e)) :
    v.read (Elt F) (v.writes (Elt F) f (⟨Rect.unit (s := S16x128x4) o3 S1x128x1.size h3, c⟩
        :: ⟨Rect.unit (s := S16x128x4) o2 S1x128x1.size h2, b⟩ :: ⟨Rect.unit (s := S16x128x4) o1 S1x128x1.size h1, a⟩ :: L))
      = stepS n a b c (v.read (Elt F) (v.writes (Elt F) f L)) := by
  subst e1 e2 e3
  funext y
  have hy0 := (y 0).isLt
  have hy2 : (y 2).val < 4 := (y 2).isLt
  have hit : ∀ (k : ℕ) (hk : ∀ a, (![n, 0, k] : Fin 3 → ℕ) a + S1x128x1.size a ≤ S16x128x4.size a) (w : S1x128x1.Idx → Elt F e) L',
      (y 0).val = n → (y 2).val = k →
      v.read (Elt F) (v.writes (Elt F) f (⟨Rect.unit (s := S16x128x4) ![n, 0, k] S1x128x1.size hk, w⟩ :: L')) y = w (row1 (y 1)) := by
    intro k hk w L' h0 h2
    refine View.read_writes_cons_hit_of_coords v f (Rect.unit (s := S16x128x4) ![n, 0, k] S1x128x1.size hk) w L' (row1 (y 1)) y fun a => ?_
    match a with
    | ⟨0, _⟩ => show (y 0).val = n + 1 * 0; omega
    | ⟨1, _⟩ => show (y 1).val = 0 + 1 * (y 1).val; omega
    | ⟨2, _⟩ => show (y 2).val = k + 1 * 0; omega
  have miss : ∀ (k : ℕ) (hk : ∀ a, (![n, 0, k] : Fin 3 → ℕ) a + S1x128x1.size a ≤ S16x128x4.size a) (w : S1x128x1.Idx → Elt F e) L',
      ((y 0).val ≠ n ∨ (y 2).val ≠ k) →
      v.read (Elt F) (v.writes (Elt F) f (⟨Rect.unit (s := S16x128x4) ![n, 0, k] S1x128x1.size hk, w⟩ :: L')) y
        = v.read (Elt F) (v.writes (Elt F) f L') y := by
    intro k hk w L' h
    rcases h with h | h
    · exact View.read_writes_cons_miss_of_axis v f _ L' y (0 : Fin 3) n 1 rfl rfl rfl (by omega)
    · exact View.read_writes_cons_miss_of_axis v f _ L' y (2 : Fin 3) k 1 rfl rfl rfl (by omega)
  unfold stepS
  split_ifs with g0 g20 g21 g22
  · rw [miss 2 h3 _ _ (.inr (by omega)), miss 1 h2 _ _ (.inr (by omega)), hit 0 h1 _ _ g0 g20]
  · rw [miss 2 h3 _ _ (.inr (by omega)), hit 1 h2 _ _ g0 g21]
  · rw [hit 2 h3 _ _ g0 g22]
  · rw [miss 2 h3 _ _ (.inr (by omega)), miss 1 h2 _ _ (.inr (by omega)), miss 0 h1 _ _ (.inr (by omega))]
  · rw [miss 2 h3 _ _ (.inl g0), miss 1 h2 _ _ (.inl g0), miss 0 h1 _ _ (.inl g0)]

/-! ## The body -/

theorem z2 : (![0, 0] : Fin 2 → ℕ) = fun _ => 0 := funext fun a => by fin_cases a <;> rfl
theorem z3 : (![0, 0, 0] : Fin 3 → ℕ) = fun _ => 0 := funext fun a => by fin_cases a <;> rfl

omit [FloatOps F] in
theorem rdA (v : View sig .tc .vmem S128x8192 .f32) (f : v.ty.Contents (Elt F)) (h) :
    View.readAt (Elt F) v (Rect.unit (s := S128x8192) ![0, 0] S128x8192.size h).toLoadRect f = v.read (Elt F) f :=
  readAt_all v f _ z2 h
omit [FloatOps F] in
theorem rdB (v : View sig .tc .vmem S64x8192 .i8) (f : v.ty.Contents (Elt F)) (h) :
    View.readAt (Elt F) v (Rect.unit (s := S64x8192) ![0, 0] S64x8192.size h).toLoadRect f = v.read (Elt F) f :=
  readAt_all v f _ z2 h
omit [FloatOps F] in
theorem rdI (v : View sig .tc .vmem S128x1 .i32) (f : v.ty.Contents (Elt F)) (h) :
    View.readAt (Elt F) v (Rect.unit (s := S128x1) ![0, 0] S128x1.size h).toLoadRect f = v.read (Elt F) f :=
  readAt_all v f _ z2 h
omit [FloatOps F] in
theorem rdS {e : EltTy} (v : View sig .tc .vmem S16x128x4 e) (f : v.ty.Contents (Elt F)) (h) :
    View.readAt (Elt F) v (Rect.unit (s := S16x128x4) ![0, 0, 0] S16x128x4.size h).toLoadRect f = v.read (Elt F) f :=
  readAt_all v f _ z3 h
omit [FloatOps F] in
theorem wrS {e : EltTy} (v : View sig .tc .vmem S16x128x4 e) (f : v.ty.Contents (Elt F)) (h) (w : S16x128x4.Idx → Elt F e) :
    v.read (Elt F) (v.writes (Elt F) f [⟨Rect.unit (s := S16x128x4) ![0, 0, 0] S16x128x4.size h, w⟩]) = w :=
  read_all v f _ z3 h w
omit [FloatOps F] in
theorem wrI (v : View sig .tc .vmem S128x1 .i32) (f : v.ty.Contents (Elt F)) (h) (w : S128x1.Idx → Elt F .i32) :
    v.read (Elt F) (v.writes (Elt F) f [⟨Rect.unit (s := S128x1) ![0, 0] S128x1.size h, w⟩]) = w :=
  read_all v f _ z2 h w
omit [FloatOps F] in
theorem wrA (v : View sig .tc .vmem S128x8192 .f32) (f : v.ty.Contents (Elt F)) (h) (w : S128x8192.Idx → Elt F .f32) :
    v.read (Elt F) (v.writes (Elt F) f [⟨Rect.unit (s := S128x8192) ![0, 0] S128x8192.size h, w⟩]) = w :=
  read_all v f _ z2 h w

theorem screenP_congr (i : grid0.Coords) {A A' : S128x8192.Idx → Elt F .f32} {B B' C C' : S64x8192.Idx → Elt F .i8}
    {P : S16x128x4.Idx → Elt F .i32} (P' : S16x128x4.Idx → Elt F .i32) (hA : A = A') (hB : B = B') (hC : C = C') (hP : P = P') :
    screenP i A B C P = screenP i A' B' C' P' := by
  subst hA hB hC hP; rfl

theorem screenX_congr (i : grid0.Coords) {A A' : S128x8192.Idx → Elt F .f32} {B B' C C' : S64x8192.Idx → Elt F .i8}
    {P : S16x128x4.Idx → Elt F .f32} (P' : S16x128x4.Idx → Elt F .f32) (hA : A = A') (hB : B = B') (hC : C = C') (hP : P = P') :
    screenX i A B C P = screenX i A' B' C' P' := by
  subst hA hB hC hP; rfl

/-- The seven buffers the body works on, whole, at the contents named. -/
abbrev Held (c : Dev nD) (arg1 : Memref sig .tc .vmem S128x8192 .f32) (arg2 : Memref sig .tc .vmem S64x8192 .i8)
    (arg3 : Memref sig .tc .vmem S64x8192 .i8) (arg4 : Memref sig .tc .vmem S128x8192 .f32)
    (arg5 : Memref sig .tc .vmem S16x128x4 .i32) (arg6 : Memref sig .tc .vmem S16x128x4 .f32)
    (arg7 : Memref sig .tc .vmem S128x1 .i32)
    (A : S128x8192.Idx → Elt F .f32) (B C : S64x8192.Idx → Elt F .i8) (O : S128x8192.Idx → Elt F .f32)
    (P : S16x128x4.Idx → Elt F .i32) (X : S16x128x4.Idx → Elt F .f32) (I : S128x1.Idx → Elt F .i32) : sProp 𝕄 :=
  iprop(owns (c : Thread nD τ) arg1 fullShare A ∗ owns (c : Thread nD τ) arg2 fullShare B ∗ owns (c : Thread nD τ) arg3 fullShare C
    ∗ owns (c : Thread nD τ) arg4 fullShare O ∗ owns (c : Thread nD τ) arg5 fullShare P ∗ owns (c : Thread nD τ) arg6 fullShare X
    ∗ owns (c : Thread nD τ) arg7 fullShare I)

/-- A point of one-hot rows: the result's buffer takes the winners' block, nothing else changes. -/
theorem body_one (c : Dev nD) (E : Set ℕ) (i : grid0.Coords)
    (arg1 : Memref sig .tc .vmem S128x8192 .f32) (harg1 : arg1.IsWhole) (arg2 : Memref sig .tc .vmem S64x8192 .i8) (harg2 : arg2.IsWhole)
    (arg3 : Memref sig .tc .vmem S64x8192 .i8) (harg3 : arg3.IsWhole) (arg4 : Memref sig .tc .vmem S128x8192 .f32) (harg4 : arg4.IsWhole)
    (arg5 : Memref sig .tc .vmem S16x128x4 .i32) (harg5 : arg5.IsWhole) (arg6 : Memref sig .tc .vmem S16x128x4 .f32) (harg6 : arg6.IsWhole)
    (arg7 : Memref sig .tc .vmem S128x1 .i32) (harg7 : arg7.IsWhole)
    (A : S128x8192.Idx → Elt F .f32) (B C : S64x8192.Idx → Elt F .i8) (O : S128x8192.Idx → Elt F .f32)
    (P : S16x128x4.Idx → Elt F .i32) (X : S16x128x4.Idx → Elt F .f32) (I : S128x1.Idx → Elt F .i32)
    (h1 : ¬ (Scalar.cmpi .ne (Scalar.extui (Scalar.cmpi .eq (BitVec.ofNat 32 (i 0).val) 0#32 : BitVec 1) : BitVec 32) 0#32 = 1#1)) (h2 : ¬ k0_cond2 i = 1#1) (h4 : k0_cond4 i = 1#1) :
    Held c arg1 arg2 arg3 arg4 arg5 arg6 arg7 A B C O P X I
      ⊢ wp frame (wpE (defs₀ (F := F)) 𝒱₀ (c : Thread nD τ) none) E
          (cc0__fused_kernel i arg1 harg1 arg2 harg2 arg3 harg3 arg4 harg4 arg5 harg5 arg6 harg6 arg7 harg7)
          fun _ => Held c arg1 arg2 arg3 arg4 arg5 arg6 arg7 A B C (k0_pay6 i I) P X I := by
  unfold Held owns
  simp only [cc0__fused_kernel_eq_skeleton]; unfold cc0__fused_kernel_skel
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  subst e1 e2 e3 e4 e5 e6 e7
  sl_exec
  sl_step
  isplitl [H1]
  · iexists _; isplitr
    rotate_left
    · iexact H1
    · ipureintro
      rfl
  isplitl [H2]
  · iexists _; isplitr
    rotate_left
    · iexact H2
    · ipureintro
      rfl
  isplitl [H3]
  · iexists _; isplitr
    rotate_left
    · iexact H3
    · ipureintro
      rfl
  isplitl [H4]
  · iexists _; isplitr
    rotate_left
    · iexact H4
    · ipureintro
      rw [wrA, rdI]
  isplitl [H5]
  · iexists _; isplitr
    rotate_left
    · iexact H5
    · ipureintro
      rfl
  isplitl [H6]
  · iexists _; isplitr
    rotate_left
    · iexact H6
    · ipureintro
      rfl
  · iexists _; isplitr
    rotate_left
    · iexact H7
    · ipureintro
      rfl

/-- A screening point neither first nor last: three places of the block in each table. -/
theorem body_mid (c : Dev nD) (E : Set ℕ) (i : grid0.Coords)
    (arg1 : Memref sig .tc .vmem S128x8192 .f32) (harg1 : arg1.IsWhole) (arg2 : Memref sig .tc .vmem S64x8192 .i8) (harg2 : arg2.IsWhole)
    (arg3 : Memref sig .tc .vmem S64x8192 .i8) (harg3 : arg3.IsWhole) (arg4 : Memref sig .tc .vmem S128x8192 .f32) (harg4 : arg4.IsWhole)
    (arg5 : Memref sig .tc .vmem S16x128x4 .i32) (harg5 : arg5.IsWhole) (arg6 : Memref sig .tc .vmem S16x128x4 .f32) (harg6 : arg6.IsWhole)
    (arg7 : Memref sig .tc .vmem S128x1 .i32) (harg7 : arg7.IsWhole)
    (A : S128x8192.Idx → Elt F .f32) (B C : S64x8192.Idx → Elt F .i8) (O : S128x8192.Idx → Elt F .f32)
    (P : S16x128x4.Idx → Elt F .i32) (X : S16x128x4.Idx → Elt F .f32) (I : S128x1.Idx → Elt F .i32)
    (h1 : ¬ (Scalar.cmpi .ne (Scalar.extui (Scalar.cmpi .eq (BitVec.ofNat 32 (i 0).val) 0#32 : BitVec 1) : BitVec 32) 0#32 = 1#1)) (h2 : k0_cond2 i = 1#1)
    (h3 : ¬ (Scalar.cmpi .ne (Scalar.extui (Scalar.cmpi .eq (BitVec.ofNat 32 (i 0).val) 12#32 : BitVec 1) : BitVec 32) 0#32 = 1#1)) (h4 : ¬ k0_cond4 i = 1#1) :
    Held c arg1 arg2 arg3 arg4 arg5 arg6 arg7 A B C O P X I
      ⊢ wp frame (wpE (defs₀ (F := F)) 𝒱₀ (c : Thread nD τ) none) E
          (cc0__fused_kernel i arg1 harg1 arg2 harg2 arg3 harg3 arg4 harg4 arg5 harg5 arg6 harg6 arg7 harg7)
          fun _ => Held c arg1 arg2 arg3 arg4 arg5 arg6 arg7 A B C O
    (screenP i A B C P)
    (screenX i A B C X) I := by
  unfold Held owns
  simp only [cc0__fused_kernel_eq_skeleton]; unfold cc0__fused_kernel_skel
  simp only [k0_part6_eq_skeleton, k0_part7_eq_skeleton]
  unfold k0_part6_skel k0_part7_skel
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  subst e1 e2 e3 e4 e5 e6 e7
  sl_exec
  sl_step
  isplitl [H1]
  · iexists _; isplitr
    rotate_left
    · iexact H1
    · ipureintro
      rfl
  isplitl [H2]
  · iexists _; isplitr
    rotate_left
    · iexact H2
    · ipureintro
      rfl
  isplitl [H3]
  · iexists _; isplitr
    rotate_left
    · iexact H3
    · ipureintro
      rfl
  isplitl [H4]
  · iexists _; isplitr
    rotate_left
    · iexact H4
    · ipureintro
      rfl
  isplitl [H5]
  · iexists _; isplitr
    rotate_left
    · iexact H5
    · ipureintro
      refine (read_step _ _ _ _ _ _ (off1_eq i) (off2_eq i) (off3_eq i) _ _ _ _ _ _ []).trans ?_; rw [rdA arg1.view f1, rdB arg2.view f2, rdB arg3.view f3]; dsimp only; rfl
  isplitl [H6]
  · iexists _; isplitr
    rotate_left
    · iexact H6
    · ipureintro
      refine (read_step _ _ _ _ _ _ (off1_eq i) (off2_eq i) (off3_eq i) _ _ _ _ _ _ []).trans ?_; rw [rdA arg1.view f1, rdB arg2.view f2, rdB arg3.view f3]; dsimp only; rfl
  · iexists _; isplitr
    rotate_left
    · iexact H7
    · ipureintro
      rfl

/-- The first point: both tables filled, then three places of the block in each. -/
theorem body_first (c : Dev nD) (E : Set ℕ) (i : grid0.Coords)
    (arg1 : Memref sig .tc .vmem S128x8192 .f32) (harg1 : arg1.IsWhole) (arg2 : Memref sig .tc .vmem S64x8192 .i8) (harg2 : arg2.IsWhole)
    (arg3 : Memref sig .tc .vmem S64x8192 .i8) (harg3 : arg3.IsWhole) (arg4 : Memref sig .tc .vmem S128x8192 .f32) (harg4 : arg4.IsWhole)
    (arg5 : Memref sig .tc .vmem S16x128x4 .i32) (harg5 : arg5.IsWhole) (arg6 : Memref sig .tc .vmem S16x128x4 .f32) (harg6 : arg6.IsWhole)
    (arg7 : Memref sig .tc .vmem S128x1 .i32) (harg7 : arg7.IsWhole)
    (A : S128x8192.Idx → Elt F .f32) (B C : S64x8192.Idx → Elt F .i8) (O : S128x8192.Idx → Elt F .f32)
    (P : S16x128x4.Idx → Elt F .i32) (X : S16x128x4.Idx → Elt F .f32) (I : S128x1.Idx → Elt F .i32)
    (h1 : (Scalar.cmpi .ne (Scalar.extui (Scalar.cmpi .eq (BitVec.ofNat 32 (i 0).val) 0#32 : BitVec 1) : BitVec 32) 0#32 = 1#1)) (h2 : k0_cond2 i = 1#1)
    (h3 : ¬ (Scalar.cmpi .ne (Scalar.extui (Scalar.cmpi .eq (BitVec.ofNat 32 (i 0).val) 12#32 : BitVec 1) : BitVec 32) 0#32 = 1#1)) (h4 : ¬ k0_cond4 i = 1#1) :
    Held c arg1 arg2 arg3 arg4 arg5 arg6 arg7 A B C O P X I
      ⊢ wp frame (wpE (defs₀ (F := F)) 𝒱₀ (c : Thread nD τ) none) E
          (cc0__fused_kernel i arg1 harg1 arg2 harg2 arg3 harg3 arg4 harg4 arg5 harg5 arg6 harg6 arg7 harg7)
          fun _ => Held c arg1 arg2 arg3 arg4 arg5 arg6 arg7 A B C O
    (screenP i A B C k0_pay1)
    (screenX i A B C (k0_pay2 (F := F))) I := by
  unfold Held owns
  simp only [cc0__fused_kernel_eq_skeleton]; unfold cc0__fused_kernel_skel
  simp only [k0_part6_eq_skeleton, k0_part7_eq_skeleton]
  unfold k0_part6_skel k0_part7_skel
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  subst e1 e2 e3 e4 e5 e6 e7
  sl_exec
  sl_step
  isplitl [H1]
  · iexists _; isplitr
    rotate_left
    · iexact H1
    · ipureintro
      rfl
  isplitl [H2]
  · iexists _; isplitr
    rotate_left
    · iexact H2
    · ipureintro
      rfl
  isplitl [H3]
  · iexists _; isplitr
    rotate_left
    · iexact H3
    · ipureintro
      rfl
  isplitl [H4]
  · iexists _; isplitr
    rotate_left
    · iexact H4
    · ipureintro
      rfl
  isplitl [H5]
  · iexists _; isplitr
    rotate_left
    · iexact H5
    · ipureintro
      refine (read_step _ _ _ _ _ _ (off1_eq i) (off2_eq i) (off3_eq i) _ _ _ _ _ _ _).trans ?_; rw [wrS, rdA arg1.view f1, rdB arg2.view f2, rdB arg3.view f3]; dsimp only; rfl
  isplitl [H6]
  · iexists _; isplitr
    rotate_left
    · iexact H6
    · ipureintro
      refine (read_step _ _ _ _ _ _ (off1_eq i) (off2_eq i) (off3_eq i) _ _ _ _ _ _ _).trans ?_; rw [wrS, rdA arg1.view f1, rdB arg2.view f2, rdB arg3.view f3]; dsimp only; rfl
  · iexists _; isplitr
    rotate_left
    · iexact H7
    · ipureintro
      rfl

/-- The last screening point: three places of the block in each table, then the winners from the tables so left. -/
theorem body_last (c : Dev nD) (E : Set ℕ) (i : grid0.Coords)
    (arg1 : Memref sig .tc .vmem S128x8192 .f32) (harg1 : arg1.IsWhole) (arg2 : Memref sig .tc .vmem S64x8192 .i8) (harg2 : arg2.IsWhole)
    (arg3 : Memref sig .tc .vmem S64x8192 .i8) (harg3 : arg3.IsWhole) (arg4 : Memref sig .tc .vmem S128x8192 .f32) (harg4 : arg4.IsWhole)
    (arg5 : Memref sig .tc .vmem S16x128x4 .i32) (harg5 : arg5.IsWhole) (arg6 : Memref sig .tc .vmem S16x128x4 .f32) (harg6 : arg6.IsWhole)
    (arg7 : Memref sig .tc .vmem S128x1 .i32) (harg7 : arg7.IsWhole)
    (A : S128x8192.Idx → Elt F .f32) (B C : S64x8192.Idx → Elt F .i8) (O : S128x8192.Idx → Elt F .f32)
    (P : S16x128x4.Idx → Elt F .i32) (X : S16x128x4.Idx → Elt F .f32) (I : S128x1.Idx → Elt F .i32)
    (h1 : ¬ (Scalar.cmpi .ne (Scalar.extui (Scalar.cmpi .eq (BitVec.ofNat 32 (i 0).val) 0#32 : BitVec 1) : BitVec 32) 0#32 = 1#1)) (h2 : k0_cond2 i = 1#1)
    (h3 : (Scalar.cmpi .ne (Scalar.extui (Scalar.cmpi .eq (BitVec.ofNat 32 (i 0).val) 12#32 : BitVec 1) : BitVec 32) 0#32 = 1#1)) (h4 : ¬ k0_cond4 i = 1#1) :
    Held c arg1 arg2 arg3 arg4 arg5 arg6 arg7 A B C O P X I
      ⊢ wp frame (wpE (defs₀ (F := F)) 𝒱₀ (c : Thread nD τ) none) E
          (cc0__fused_kernel i arg1 harg1 arg2 harg2 arg3 harg3 arg4 harg4 arg5 harg5 arg6 harg6 arg7 harg7)
          fun _ => Held c arg1 arg2 arg3 arg4 arg5 arg6 arg7 A B C O
    (screenP i A B C P)
    (screenX i A B C X)
    (pick (screenP i A B C P)
    (screenX i A B C X)) := by
  unfold Held owns
  simp only [cc0__fused_kernel_eq_skeleton]; unfold cc0__fused_kernel_skel
  simp only [k0_part6_eq_skeleton, k0_part7_eq_skeleton, k0_part1_eq_skeleton, k0_part2_eq_skeleton, k0_part3_eq_skeleton, k0_part4_eq_skeleton, k0_part5_eq_skeleton]
  unfold k0_part6_skel k0_part7_skel k0_part1_skel k0_part2_skel k0_part3_skel k0_part4_skel k0_part5_skel
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩
  subst e1 e2 e3 e4 e5 e6 e7
  sl_exec
  sl_step
  isplitl [H1]
  · iexists _; isplitr
    rotate_left
    · iexact H1
    · ipureintro
      rfl
  isplitl [H2]
  · iexists _; isplitr
    rotate_left
    · iexact H2
    · ipureintro
      rfl
  isplitl [H3]
  · iexists _; isplitr
    rotate_left
    · iexact H3
    · ipureintro
      rfl
  isplitl [H4]
  · iexists _; isplitr
    rotate_left
    · iexact H4
    · ipureintro
      rfl
  isplitl [H5]
  · iexists _; isplitr
    rotate_left
    · iexact H5
    · ipureintro
      refine (read_step _ _ _ _ _ _ (off1_eq i) (off2_eq i) (off3_eq i) _ _ _ _ _ _ []).trans ?_; rw [rdA arg1.view f1, rdB arg2.view f2, rdB arg3.view f3]; dsimp only; rfl
  isplitl [H6]
  · iexists _; isplitr
    rotate_left
    · iexact H6
    · ipureintro
      refine (read_step _ _ _ _ _ _ (off1_eq i) (off2_eq i) (off3_eq i) _ _ _ _ _ _ []).trans ?_; rw [rdA arg1.view f1, rdB arg2.view f2, rdB arg3.view f3]; dsimp only; rfl
  · iexists _; isplitr
    rotate_left
    · iexact H7
    · ipureintro
      refine (wrI _ _ _ _).trans (Eq.trans (b := pick
        (View.readAt (Elt F) arg5.view (Rect.unit (s := S16x128x4) ![0, 0, 0] S16x128x4.size inb_S16x128x4_S16x128x4_0_0_0).toLoadRect (arg5.view.writes (Elt F) f5 (body_last.sl.H5_3 i arg1 arg2 arg3 h2 f1 f2 f3)))
        (View.readAt (Elt F) arg6.view (Rect.unit (s := S16x128x4) ![0, 0, 0] S16x128x4.size inb_S16x128x4_S16x128x4_0_0_0).toLoadRect (arg6.view.writes (Elt F) f6 (body_last.sl.H6_3 i arg1 arg2 arg3 h2 f1 f2 f3)))) rfl (congrArg₂ pick ?_ ?_))
      · refine (rdS _ _ _).trans ?_; refine (read_step _ _ _ _ _ _ (off1_eq i) (off2_eq i) (off3_eq i) _ _ _ _ _ _ []).trans ?_; rw [rdA arg1.view f1, rdB arg2.view f2, rdB arg3.view f3]; dsimp only; rfl
      · refine (rdS _ _ _).trans ?_; refine (read_step _ _ _ _ _ _ (off1_eq i) (off2_eq i) (off3_eq i) _ _ _ _ _ _ []).trans ?_; rw [rdA arg1.view f1, rdB arg2.view f2, rdB arg3.view f3]; dsimp only; rfl

/-- The body at any point leaves the tables, the winners and the result's buffer as `nextP`, `nextX`, `nextI` and `nextO` say, and
    the staged blocks as found. -/
theorem body_runs (c : Dev nD) (E : Set ℕ) (i : grid0.Coords)
    (arg1 : Memref sig .tc .vmem S128x8192 .f32) (harg1 : arg1.IsWhole) (arg2 : Memref sig .tc .vmem S64x8192 .i8) (harg2 : arg2.IsWhole)
    (arg3 : Memref sig .tc .vmem S64x8192 .i8) (harg3 : arg3.IsWhole) (arg4 : Memref sig .tc .vmem S128x8192 .f32) (harg4 : arg4.IsWhole)
    (arg5 : Memref sig .tc .vmem S16x128x4 .i32) (harg5 : arg5.IsWhole) (arg6 : Memref sig .tc .vmem S16x128x4 .f32) (harg6 : arg6.IsWhole)
    (arg7 : Memref sig .tc .vmem S128x1 .i32) (harg7 : arg7.IsWhole)
    (A : S128x8192.Idx → Elt F .f32) (B C : S64x8192.Idx → Elt F .i8) (O : S128x8192.Idx → Elt F .f32)
    (P : S16x128x4.Idx → Elt F .i32) (X : S16x128x4.Idx → Elt F .f32) (I : S128x1.Idx → Elt F .i32) :
    Held c arg1 arg2 arg3 arg4 arg5 arg6 arg7 A B C O P X I
      ⊢ wp frame (wpE (defs₀ (F := F)) 𝒱₀ (c : Thread nD τ) none) E
          (cc0__fused_kernel i arg1 harg1 arg2 harg2 arg3 harg3 arg4 harg4 arg5 harg5 arg6 harg6 arg7 harg7)
          fun _ => Held c arg1 arg2 arg3 arg4 arg5 arg6 arg7 A B C (nextO i I O) (nextP i A B C P) (nextX i A B C X)
            (nextI i (nextP i A B C P) (nextX i A B C X) I) := by
  by_cases h13 : (i 0).val < 13
  · have c2 := (cond2_iff i).2 h13
    have c4 : ¬ k0_cond4 i = 1#1 := fun h => (cond4_iff i).1 h h13
    by_cases h0 : (i 0).val = 0
    · have h12 : ¬ (i 0).val = 12 := by omega
      simp only [nextO, nextP, nextX, nextI, if_pos h13, if_pos h0, if_neg h12]
      exact body_first c E i arg1 harg1 arg2 harg2 arg3 harg3 arg4 harg4 arg5 harg5 arg6 harg6 arg7 harg7 A B C O P X I
        ((cond0_iff i).2 h0) c2 (fun h => h12 ((cond12_iff i).1 h)) c4
    · by_cases h12 : (i 0).val = 12
      · simp only [nextO, nextP, nextX, nextI, if_pos h13, if_neg h0, if_pos h12]
        exact body_last c E i arg1 harg1 arg2 harg2 arg3 harg3 arg4 harg4 arg5 harg5 arg6 harg6 arg7 harg7 A B C O P X I
          (fun h => h0 ((cond0_iff i).1 h)) c2 ((cond12_iff i).2 h12) c4
      · simp only [nextO, nextP, nextX, nextI, if_pos h13, if_neg h0, if_neg h12]
        exact body_mid c E i arg1 harg1 arg2 harg2 arg3 harg3 arg4 harg4 arg5 harg5 arg6 harg6 arg7 harg7 A B C O P X I
          (fun h => h0 ((cond0_iff i).1 h)) c2 (fun h => h12 ((cond12_iff i).1 h)) c4
  · have h0 : ¬ (i 0).val = 0 := by omega
    have h12 : ¬ (i 0).val = 12 := by omega
    simp only [nextO, nextP, nextX, nextI, if_neg h13, if_neg h12]
    exact body_one c E i arg1 harg1 arg2 harg2 arg3 harg3 arg4 harg4 arg5 harg5 arg6 harg6 arg7 harg7 A B C O P X I
      (fun h => h0 ((cond0_iff i).1 h)) (fun h => h13 ((cond2_iff i).1 h)) ((cond4_iff i).2 h13)

end Cert.KernelIdeal.Body
-- ==== Proof.Run.lean ====
/- The kernel's run, at an invariant of the two tables and the winners' buffer and a predicate of the blocks written back, both the
   certificate's to choose: if the body keeps the invariant (`Keeps`) then the launch terminates with no fault, its input
   unchanged, and every block of the result satisfies the predicate. -/
module

public import proofs.«01_k».proof.Proof.Body
public import Idealize.ShloMosaic.Lib.Pipeline.Frame
public import Idealize.ShloMosaic.Lib.Pipeline.ArrRel

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- An invariant of the tables and the winners, before each point. -/
abbrev TInv (F : FTy → Type) := Dev nD → ℕ → (S16x128x4.Idx → Elt F .i32) → (S16x128x4.Idx → Elt F .f32) → (S128x1.Idx → Elt F .i32) → Prop
/-- A predicate of the block written back at each point. -/
abbrev TOut (F : FTy → Type) := Dev nD → Fin cfg0.N → (S128x8192.Idx → Elt F .f32) → Prop

/-- What the entries' staging buffer may hold once the fetch at point `t` has landed. -/
def FetA (c : Dev nD) (t : Fin cfg0.N) (A : S128x8192.Idx → Elt F .f32) : Prop := ∃ d, A = win0_0.fill (grid0.coords t) d (iblk m c 0 t)
/-- What the upper half's staging buffer may hold once the fetch at point `t` has landed. -/
def FetB (c : Dev nD) (t : Fin cfg0.N) (B : S64x8192.Idx → Elt F .i8) : Prop := ∃ d, B = win0_1.fill (grid0.coords t) d (iblk m c 1 t)
/-- What the lower half's staging buffer may hold once the fetch at point `t` has landed. -/
def FetC (c : Dev nD) (t : Fin cfg0.N) (C : S64x8192.Idx → Elt F .i8) : Prop := ∃ d, C = win0_2.fill (grid0.coords t) d (iblk m c 2 t)

/-- What the body must keep: at a screening point from the staged blocks as fetched, at the others from anything. -/
structure Keeps (Inv : TInv F) (Out : TOut F) : Prop where
  init : ∀ c P X I, Inv c 0 P X I
  screen : ∀ c (t : Fin cfg0.N), t.val < 13 → ∀ A B C P X I, FetA m c t A → FetB m c t B → FetC m c t C → Inv c t.val P X I →
    Inv c (t.val + 1) (nextP (grid0.coords t) A B C P) (nextX (grid0.coords t) A B C X)
      (nextI (grid0.coords t) (nextP (grid0.coords t) A B C P) (nextX (grid0.coords t) A B C X) I)
  later : ∀ c (t : Fin cfg0.N), ¬ t.val < 13 → ∀ P X I, Inv c t.val P X I → Inv c (t.val + 1) P X I ∧ Out c t (k0_pay6 (grid0.coords t) I)

/-- The coordinate of point `t` is `t`. -/
theorem coords_val (t : Fin cfg0.N) : (grid0.coords t 0).val = t.val := by
  have h : ∀ t : Fin cfg0.N, (grid0.coords t 0).val = t.val := by decide +kernel
  exact h t

theorem fetch_0 (t : Fin cfg0.N) (h : t.val < 13) : (cfg0.win 0).fetch t = true := by
  have h' : ∀ t : Fin cfg0.N, t.val < 13 → (cfg0.win 0).fetch t = true := by decide +kernel
  exact h' t h
theorem fetch_1 (t : Fin cfg0.N) (h : t.val < 13) : (cfg0.win 1).fetch t = true := by
  have h' : ∀ t : Fin cfg0.N, t.val < 13 → (cfg0.win 1).fetch t = true := by decide +kernel
  exact h' t h
theorem fetch_2 (t : Fin cfg0.N) (h : t.val < 13) : (cfg0.win 2).fetch t = true := by
  have h' : ∀ t : Fin cfg0.N, t.val < 13 → (cfg0.win 2).fetch t = true := by decide +kernel
  exact h' t h
theorem flush_3 (t : Fin cfg0.N) : (cfg0.win 3).flush t = true ↔ ¬ t.val < 13 := by
  have h' : ∀ t : Fin cfg0.N, (cfg0.win 3).flush t = true ↔ ¬ t.val < 13 := by decide +kernel
  exact h' t

/-- The relation that an input's buffer is handed back as found, and that the result's block satisfies `Out` once it is written. -/
def aft (Out : TOut F) (c : Dev nD) : (w : Fin cfg0.W) → Fin cfg0.N → (Y X : (cfg0.win w).block.Idx → Elt F (cfg0.win w).elt) → Prop
  | ⟨0, _⟩, _, Y, X => X = Y
  | ⟨1, _⟩, _, Y, X => X = Y
  | ⟨2, _⟩, _, Y, X => X = Y
  | ⟨3, _⟩, t, _, X => ¬ t.val < 13 → Out c t X

/-- The scratch before a point: the tables and the winners at contents the invariant allows, and the generator register. -/
def scr (Inv : TInv F) (c : Dev nD) (n : ℕ) : sProp 𝕄 :=
  iprop(∃ P X I, ⌜Inv c n P X I⌝ ∗ owns (c : Thread nD τ) (Memref.whole cc0_scratch0) fullShare P
    ∗ owns (c : Thread nD τ) (Memref.whole cc0_scratch1) fullShare X ∗ owns (c : Thread nD τ) (Memref.whole cc0_scratch2) fullShare I
    ∗ ∃ r, prngReg c r)

/-- The proof data of the run. -/
def rdat (Inv : TInv F) (Out : TOut F) (c : Dev nD) : RDat τ (Elt F) Unit ℕ (UR sig nD τ) ℕ cfg0 c where
  A w := V m c (Pipeline.arrRef spec0 w)
  after := aft Out c
  Φ t := scr Inv c t.val
  q _ := fullShare
  owed _ := 0

section
variable {m}

theorem fetA_of (Inv : TInv F) (Out : TOut F) (c : Dev nD) (t : Fin cfg0.N) (h : t.val < 13) (X) (hX : (rdat m Inv Out c).Finds 0 t X) :
    FetA m c t X := ((rdat m Inv Out c).finds_of_fetch (fetch_0 t h) _).1 hX
theorem fetB_of (Inv : TInv F) (Out : TOut F) (c : Dev nD) (t : Fin cfg0.N) (h : t.val < 13) (X) (hX : (rdat m Inv Out c).Finds 1 t X) :
    FetB m c t X := ((rdat m Inv Out c).finds_of_fetch (fetch_1 t h) _).1 hX
theorem fetC_of (Inv : TInv F) (Out : TOut F) (c : Dev nD) (t : Fin cfg0.N) (h : t.val < 13) (X) (hX : (rdat m Inv Out c).Finds 2 t X) :
    FetC m c t X := ((rdat m Inv Out c).finds_of_fetch (fetch_2 t h) _).1 hX

/-- At any point the body keeps the invariant, and from the first written-back block on what it leaves for the result satisfies `Out`. -/
theorem keeps_next {Inv : TInv F} {Out : TOut F} (hK : Keeps m Inv Out) (c : Dev nD) (t : Fin cfg0.N)
    (A : S128x8192.Idx → Elt F .f32) (B C : S64x8192.Idx → Elt F .i8) (O : S128x8192.Idx → Elt F .f32)
    (hA : t.val < 13 → FetA m c t A) (hB : t.val < 13 → FetB m c t B) (hC : t.val < 13 → FetC m c t C)
    (P X I) (hI : Inv c t.val P X I) :
    Inv c (t.val + 1) (nextP (grid0.coords t) A B C P) (nextX (grid0.coords t) A B C X)
        (nextI (grid0.coords t) (nextP (grid0.coords t) A B C P) (nextX (grid0.coords t) A B C X) I)
      ∧ (¬ t.val < 13 → Out c t (nextO (grid0.coords t)
          (nextI (grid0.coords t) (nextP (grid0.coords t) A B C P) (nextX (grid0.coords t) A B C X) I) O)) := by
  by_cases h : t.val < 13
  · exact ⟨hK.screen c t h A B C P X I (hA h) (hB h) (hC h) hI, fun h' => absurd h h'⟩
  · have hi : ¬ (grid0.coords t 0).val < 13 := by rw [coords_val]; exact h
    have h12 : ¬ (grid0.coords t 0).val = 12 := by omega
    simp only [nextP, nextX, nextI, nextO, if_neg hi, if_neg h12]
    exact ⟨(hK.later c t h P X I hI).1, fun _ => (hK.later c t h P X I hI).2⟩

theorem defs₀_row (t : Fin cfg0.N) : defs₀ (F := F) .tc cfg0.body (cfg0.bodyArgs t (cfg0.slots t)) = Gen.bodyAt0 t := by
  unfold defs₀; rw [Defs.onTc_tc]

theorem nextO_later (i : grid0.Coords) (P X I) (A : S128x8192.Idx → Elt F .f32) (B C : S64x8192.Idx → Elt F .i8) (O : S128x8192.Idx → Elt F .f32) :
    nextO i (nextI i (nextP i A B C P) (nextX i A B C X) I) O = nextO i I O := by
  unfold nextO nextI
  split_ifs with h1 h2
  · rfl
  · omega
  · rfl

/-- `body_runs` before a continuation. -/
theorem body_runs_then (c : Dev nD) (E : Set ℕ) (i : grid0.Coords)
    (arg1 : Memref sig .tc .vmem S128x8192 .f32) (harg1 : arg1.IsWhole) (arg2 : Memref sig .tc .vmem S64x8192 .i8) (harg2 : arg2.IsWhole)
    (arg3 : Memref sig .tc .vmem S64x8192 .i8) (harg3 : arg3.IsWhole) (arg4 : Memref sig .tc .vmem S128x8192 .f32) (harg4 : arg4.IsWhole)
    (arg5 : Memref sig .tc .vmem S16x128x4 .i32) (harg5 : arg5.IsWhole) (arg6 : Memref sig .tc .vmem S16x128x4 .f32) (harg6 : arg6.IsWhole)
    (arg7 : Memref sig .tc .vmem S128x1 .i32) (harg7 : arg7.IsWhole)
    (A : S128x8192.Idx → Elt F .f32) (B C : S64x8192.Idx → Elt F .i8) (O : S128x8192.Idx → Elt F .f32)
    (P : S16x128x4.Idx → Elt F .i32) (X : S16x128x4.Idx → Elt F .f32) (I : S128x1.Idx → Elt F .i32) (K : PUnit → sProp 𝕄) :
    iprop(Held c arg1 arg2 arg3 arg4 arg5 arg6 arg7 A B C O P X I
        ∗ (Held c arg1 arg2 arg3 arg4 arg5 arg6 arg7 A B C (nextO i I O) (nextP i A B C P) (nextX i A B C X)
            (nextI i (nextP i A B C P) (nextX i A B C X) I) -∗ K ⟨⟩))
      ⊢ wp frame (wpE (defs₀ (F := F)) 𝒱₀ (c : Thread nD τ) none) E
          (cc0__fused_kernel i arg1 harg1 arg2 harg2 arg3 harg3 arg4 harg4 arg5 harg5 arg6 harg6 arg7 harg7) K :=
  (BI.sep_mono (body_runs c E i arg1 harg1 arg2 harg2 arg3 harg3 arg4 harg4 arg5 harg5 arg6 harg6 arg7 harg7 A B C O P X I)
    (sProp.forall_intro fun _ => BIClass.entails_refl _)).trans (wp_wand_r _ _ _)

/-- The library's body obligation. -/
theorem obligation {Inv : TInv F} {Out : TOut F} (hK : Keeps m Inv Out) (c : Dev nD) :
    (rdat m Inv Out c).BodyObligation (defs₀ (F := F)) 𝒱₀ () Set.univ := fun t Y hY => by
  rw [defs₀_row, bigSep_W0, bigSep_W0]
  show iprop(scr Inv c t.val ∗ (rdat m Inv Out c).owesAt () t.succ ∗ _) ⊢ wp _ _ _ _ fun _ => iprop(scr Inv c (t.val + 1) ∗ _)
  unfold scr
  iintro ⟨⟨%P, %X, %I, %hI, HP, HX, HI, Hr⟩, Ho, H0, H1, H2, H3⟩
  have hk := keeps_next hK c t (Y 0) (Y 1) (Y 2) (Y 3) (fun h => fetA_of Inv Out c t h _ (hY 0)) (fun h => fetB_of Inv Out c t h _ (hY 1))
    (fun h => fetC_of Inv Out c t h _ (hY 2)) P X I hI
  rw [nextO_later] at hk
  iapply (body_runs_then c Set.univ (grid0.coords t) _ _ _ _ _ _ _ _ _ _ _ _ _ _ (Y 0) (Y 1) (Y 2) (Y 3) P X I _)
  isplitl [H0 H1 H2 H3 HP HX HI]
  · unfold Held
    isplitl [H0]; · iexact H0
    isplitl [H1]; · iexact H1
    isplitl [H2]; · iexact H2
    isplitl [H3]; · iexact H3
    isplitl [HP]; · iexact HP
    isplitl [HX]; · iexact HX
    iexact HI
  unfold Held
  iintro ⟨H0, H1, H2, H3, HP, HX, HI⟩
  isplitl [HP HX HI Hr]
  · iexists _; iexists _; iexists _
    isplitr
    rotate_left
    · isplitl [HP]; · iexact HP
      isplitl [HX]; · iexact HX
      isplitl [HI]; · iexact HI
      iexact Hr
    · ipureintro; exact hk.1
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  · iexists (nextO (grid0.coords t) I (Y 3)); isplitr; · ipureintro; exact hk.2
    iexact H3

/-- The invariant is entered from the scratch at any contents. -/
theorem scr_in {Inv : TInv F} {Out : TOut F} (hK : Keeps m Inv Out) (c : Dev nD) :
    Pipeline.ΦA (Val := Elt F) (U := UR sig nD τ) spec0 c ⊢ scr Inv c 0 := by
  unfold Pipeline.ΦA scr
  rw [scopedRest0_eq]
  simp only [owns_whole]
  iintro ⟨⟨⟨%P, HP⟩, ⟨%X, HX⟩, ⟨%I, HI⟩⟩, Hr⟩
  iexists P; iexists X; iexists I
  isplitr; · ipureintro; exact hK.init c P X I
  isplitl [HP]; · iexact HP
  isplitl [HX]; · iexact HX
  isplitl [HI]; · iexact HI
  iexact Hr

/-- The invariant is forgotten at the end. -/
theorem scr_out (Inv : TInv F) (c : Dev nD) (n : ℕ) :
    scr Inv c n ⊢ Pipeline.ΦA (Val := Elt F) (U := UR sig nD τ) spec0 c := by
  unfold Pipeline.ΦA scr
  rw [scopedRest0_eq]
  simp only [owns_whole]
  iintro ⟨%P, %X, %I, -, HP, HX, HI, Hr⟩
  isplitl [HP HX HI]
  · isplitl [HP]; · iexists P; iexact HP
    isplitl [HX]; · iexists X; iexact HX
    iexists I; iexact HI
  · iexact Hr

/-- The run: no fault, every semaphore at zero, and the arrays as the pipeline's write-backs leave them. -/
theorem run {Inv : TInv F} {Out : TOut F} (hK : Keeps m Inv Out) (g : Dev nD → PrngReg)
    (Q : PUnit × MemSt nD τ sig (Elt F) → Prop)
    (hQ : ∀ r, RDat.FramePost cfg0 (rdat m Inv Out) (Gen.V m) r ∧ r.2.sem = (fun _ => 0) → Q r) :
    θ_run (defs (F := F)) (onTc (τ := τ) (main (F := F))) ⟨m, fun _ => 0, g⟩ Q :=
  Pipeline.RDat.θ_run_frame_track cfgs 0 launch0 defs₀ 𝒱₀ (rdat m Inv Out) m g main (fun c => obligation hK c)
    (fun c w => by unfold RDat.share; split <;> rfl) (fun _ _ => rfl) (Gen.V m) (hmain m 𝒱₀) (fun _ _ => rfl)
    (fun c => scr_in hK c) (fun c => scr_out Inv c _) Q hQ

end

/-- The frame claim's run: the entries end as launched and every semaphore at zero. -/
theorem quiet (g : Dev nD → PrngReg) :
    θ_run (defs (F := F)) (onTc (τ := τ) (main (F := F))) ⟨m, fun _ => 0, g⟩ fun r =>
      (∀ c : Dev nD, r.2.mem ((c : Thread nD τ).loc main_arg0) = m ((c : Thread nD τ).loc main_arg0)) ∧ r.2.sem = fun _ => 0 :=
  run (Inv := fun _ _ _ _ _ => True) (Out := fun _ _ _ => True)
    ⟨fun _ _ _ _ => trivial, fun _ _ _ _ _ _ _ _ _ _ _ _ _ => trivial, fun _ _ _ _ _ _ _ => ⟨trivial, trivial⟩⟩ g _
    fun r h => ⟨fun c => (RDat.FramePost.arr_in h.1 c 0 rfl).trans (V_main_arg0 m c), h.2⟩

end Cert.KernelIdeal.Body
-- ==== Proof.Line.lean ====
/- The reference's host line, listed: its operations in order, the functions it calls written in the calls' places, cut where the
   generator's groups of four rounds end; and its run, which terminates with its input unchanged. -/
module

public import proofs.«01_k».proof.Defs
public import proofs.«01_k».proof.Proof.Gen.ReferenceIdeal
public import Idealize.ShloMosaic.Lib.StableHlo.RunRead
public import Idealize.ShloMosaic.Lib.StableHlo.ReadAt
public import Idealize.ShloMosaic.Lib.Pipeline.Frame

@[expose] public section

noncomputable section

namespace Cert.ReferenceIdeal.Line

open Cert.ReferenceIdeal Cert.ReferenceIdeal.Gen
open Idealize.ShloMosaic Idealize.ShloMosaic.TcCoe Idealize.SL.Sem
open Idealize.ShloMosaic.StableHlo

variable {F : FTy → Type} [FloatOps F]

/-- The reference up to the first round of its generator: the key, the positions, the first key injection. -/
def lineHead : List (HloOp τ sig (Elt F)) := [
  StableHlo.nullary main_c (constantI S_ 32 1234#32),
  StableHlo.nullary main_c_0 (constantI S_ 32 32#32),
  StableHlo.binary main_c main_c_0 main_v0 (Host.shrui : (⟨S_, .i32⟩ : BufTy).Contents (Elt F) → (⟨S_, .i32⟩ : BufTy).Contents (Elt F) → (⟨S_, .i32⟩ : BufTy).Contents (Elt F)),
  StableHlo.unary main_v0 main_v1 (id : (⟨S_, .i32⟩ : BufTy).Contents (Elt F) → (⟨S_, .i32⟩ : BufTy).Contents (Elt F)),
  StableHlo.unary main_v1 main_v2 (broadcastInDim S1 ![] bcast_S_S1 : (⟨S_, .i32⟩ : BufTy).Contents (Elt F) → (⟨S1, .i32⟩ : BufTy).Contents (Elt F)),
  StableHlo.nullary main_c_1 (constantI S_ 32 4294967295#32),
  StableHlo.binary main_c main_c_1 main_v3 (andi : (⟨S_, .i32⟩ : BufTy).Contents (Elt F) → (⟨S_, .i32⟩ : BufTy).Contents (Elt F) → (⟨S_, .i32⟩ : BufTy).Contents (Elt F)),
  StableHlo.unary main_v3 main_v4 (id : (⟨S_, .i32⟩ : BufTy).Contents (Elt F) → (⟨S_, .i32⟩ : BufTy).Contents (Elt F)),
  StableHlo.unary main_v4 main_v5 (broadcastInDim S1 ![] bcast_S_S1 : (⟨S_, .i32⟩ : BufTy).Contents (Elt F) → (⟨S1, .i32⟩ : BufTy).Contents (Elt F)),
  StableHlo.binary main_v2 main_v5 main_v6 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
  StableHlo.nullary main_cst (constant S_ .f32 0x2EDBE6FF#32),
  StableHlo.nullary main_cst_2 (constant S_ .f32 0x3F800000#32),
  StableHlo.unary main_cst main_call0_v0 (id : (⟨S_, .f32⟩ : BufTy).Contents (Elt F) → (⟨S_, .f32⟩ : BufTy).Contents (Elt F)),
  StableHlo.unary main_cst_2 main_call0_v1 (id : (⟨S_, .f32⟩ : BufTy).Contents (Elt F) → (⟨S_, .f32⟩ : BufTy).Contents (Elt F)),
  StableHlo.unary main_call0_v0 main_call0_v2 ((broadcastInDim S1x1 ![] bcast_S_S1x1) : (⟨S_, .f32⟩ : BufTy).Contents (Elt F) → (⟨S1x1, .f32⟩ : BufTy).Contents (Elt F)),
  StableHlo.unary main_call0_v1 main_call0_v3 ((broadcastInDim S1x1 ![] bcast_S_S1x1) : (⟨S_, .f32⟩ : BufTy).Contents (Elt F) → (⟨S1x1, .f32⟩ : BufTy).Contents (Elt F)),
  StableHlo.unary main_v6 main_call0_v4 ((extractStridedSlice S1 ![0] · slices_S2_S1_0) : (⟨S2, .i32⟩ : BufTy).Contents (Elt F) → (⟨S1, .i32⟩ : BufTy).Contents (Elt F)),
  StableHlo.reshape main_call0_v4 main_call0_v5 (rfl : (.i32 : EltTy) = .i32) shapeCasts_S1_S_,
  StableHlo.unary main_v6 main_call0_v6 ((extractStridedSlice S1 ![1] · slices_S2_S1_1) : (⟨S2, .i32⟩ : BufTy).Contents (Elt F) → (⟨S1, .i32⟩ : BufTy).Contents (Elt F)),
  StableHlo.reshape main_call0_v6 main_call0_v7 (rfl : (.i32 : EltTy) = .i32) shapeCasts_S1_S_,
  StableHlo.nullary main_call0_v8 ((iotaInDim S128x100000 64 0)),
  StableHlo.nullary main_call0_v9 ((iotaInDim S128x100000 64 1)),
  StableHlo.nullary main_call0_c ((constantI S_ 64 100000#64)),
  StableHlo.unary main_call0_c main_call0_v10 ((broadcastInDim S128x100000 ![] bcast_S_S128x100000) : (⟨S_, .i64⟩ : BufTy).Contents (Elt F) → (⟨S128x100000, .i64⟩ : BufTy).Contents (Elt F)),
  StableHlo.binary main_call0_v10 main_call0_v8 main_call0_v11 (muli : (⟨S128x100000, .i64⟩ : BufTy).Contents (Elt F) → (⟨S128x100000, .i64⟩ : BufTy).Contents (Elt F) → (⟨S128x100000, .i64⟩ : BufTy).Contents (Elt F)),
  StableHlo.nullary main_call0_c_0 ((constantI S_ 64 1#64)),
  StableHlo.unary main_call0_c_0 main_call0_v12 ((broadcastInDim S128x100000 ![] bcast_S_S128x100000) : (⟨S_, .i64⟩ : BufTy).Contents (Elt F) → (⟨S128x100000, .i64⟩ : BufTy).Contents (Elt F)),
  StableHlo.binary main_call0_v12 main_call0_v9 main_call0_v13 (muli : (⟨S128x100000, .i64⟩ : BufTy).Contents (Elt F) → (⟨S128x100000, .i64⟩ : BufTy).Contents (Elt F) → (⟨S128x100000, .i64⟩ : BufTy).Contents (Elt F)),
  StableHlo.binary main_call0_v11 main_call0_v13 main_call0_v14 (addi : (⟨S128x100000, .i64⟩ : BufTy).Contents (Elt F) → (⟨S128x100000, .i64⟩ : BufTy).Contents (Elt F) → (⟨S128x100000, .i64⟩ : BufTy).Contents (Elt F)),
  StableHlo.nullary main_call0_c_1 ((constantI S_ 64 32#64)),
  StableHlo.unary main_call0_c_1 main_call0_v15 ((broadcastInDim S128x100000 ![] bcast_S_S128x100000) : (⟨S_, .i64⟩ : BufTy).Contents (Elt F) → (⟨S128x100000, .i64⟩ : BufTy).Contents (Elt F)),
  StableHlo.binary main_call0_v14 main_call0_v15 main_call0_v16 (Host.shrui : (⟨S128x100000, .i64⟩ : BufTy).Contents (Elt F) → (⟨S128x100000, .i64⟩ : BufTy).Contents (Elt F) → (⟨S128x100000, .i64⟩ : BufTy).Contents (Elt F)),
  StableHlo.unary main_call0_v14 main_call0_v17 ((trunci 32 · natLt_32_64) : (⟨S128x100000, .i64⟩ : BufTy).Contents (Elt F) → (⟨S128x100000, .i32⟩ : BufTy).Contents (Elt F)),
  StableHlo.unary main_call0_v16 main_call0_v18 ((trunci 32 · natLt_32_64) : (⟨S128x100000, .i64⟩ : BufTy).Contents (Elt F) → (⟨S128x100000, .i32⟩ : BufTy).Contents (Elt F)),
  StableHlo.binary main_call0_v5 main_call0_v7 main_call0_call0_v0 (xori : (⟨S_, .i32⟩ : BufTy).Contents (Elt F) → (⟨S_, .i32⟩ : BufTy).Contents (Elt F) → (⟨S_, .i32⟩ : BufTy).Contents (Elt F)),
  StableHlo.nullary main_call0_call0_c ((constantI S_ 32 466688986#32)),
  StableHlo.binary main_call0_call0_v0 main_call0_call0_c main_call0_call0_v1 (xori : (⟨S_, .i32⟩ : BufTy).Contents (Elt F) → (⟨S_, .i32⟩ : BufTy).Contents (Elt F) → (⟨S_, .i32⟩ : BufTy).Contents (Elt F)),
  StableHlo.unary main_call0_v5 main_call0_call0_v2 ((broadcastInDim S128x100000 ![] bcast_S_S128x100000) : (⟨S_, .i32⟩ : BufTy).Contents (Elt F) → (⟨S128x100000, .i32⟩ : BufTy).Contents (Elt F)),
  StableHlo.binary main_call0_v18 main_call0_call0_v2 main_call0_call0_v3 (addi : (⟨S128x100000, .i32⟩ : BufTy).Contents (Elt F) → (⟨S128x100000, .i32⟩ : BufTy).Contents (Elt F) → (⟨S128x100000, .i32⟩ : BufTy).Contents (Elt F)),
  StableHlo.unary main_call0_v7 main_call0_call0_v4 ((broadcastInDim S128x100000 ![] bcast_S_S128x100000) : (⟨S_, .i32⟩ : BufTy).Contents (Elt F) → (⟨S128x100000, .i32⟩ : BufTy).Contents (Elt F)),
  StableHlo.binary main_call0_v17 main_call0_call0_v4 main_call0_call0_v5 (addi : (⟨S128x100000, .i32⟩ : BufTy).Contents (Elt F) → (⟨S128x100000, .i32⟩ : BufTy).Contents (Elt F) → (⟨S128x100000, .i32⟩ : BufTy).Contents (Elt F))]

/-- Group 1 of the generator: four rounds and a key injection. -/
def lineQuad1 : List (HloOp τ sig (Elt F)) := [
  StableHlo.binary main_call0_call0_v3 main_call0_call0_v5 main_call0_call0_v6 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_0 ((constantI S_ 32 13#32)),
  StableHlo.unary main_call0_call0_c_0 main_call0_call0_v7 ((broadcastInDim S128x100000 ![] bcast_S_S128x100000) : (⟨S_, .i32⟩ : BufTy).Contents (Elt F) → (⟨S128x100000, .i32⟩ : BufTy).Contents (Elt F)),
  StableHlo.binary main_call0_call0_v5 main_call0_call0_v7 main_call0_call0_v8 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_1 ((constantI S_ 32 19#32)),
  StableHlo.unary main_call0_call0_c_1 main_call0_call0_v9 ((broadcastInDim S128x100000 ![] bcast_S_S128x100000) : (⟨S_, .i32⟩ : BufTy).Contents (Elt F) → (⟨S128x100000, .i32⟩ : BufTy).Contents (Elt F)),
  StableHlo.binary main_call0_call0_v5 main_call0_call0_v9 main_call0_call0_v10 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v8 main_call0_call0_v10 main_call0_call0_v11 (ori : (⟨S128x100000, .i32⟩ : BufTy).Contents (Elt F) → (⟨S128x100000, .i32⟩ : BufTy).Contents (Elt F) → (⟨S128x100000, .i32⟩ : BufTy).Contents (Elt F)),
  StableHlo.binary main_call0_call0_v6 main_call0_call0_v11 main_call0_call0_v12 (xori : (⟨S128x100000, .i32⟩ : BufTy).Contents (Elt F) → (⟨S128x100000, .i32⟩ : BufTy).Contents (Elt F) → (⟨S128x100000, .i32⟩ : BufTy).Contents (Elt F)),
  StableHlo.binary main_call0_call0_v6 main_call0_call0_v12 main_call0_call0_v13 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_2 ((constantI S_ 32 15#32)),
  StableHlo.unary main_call0_call0_c_2 main_call0_call0_v14 ((broadcastInDim S128x100000 ![] bcast_S_S128x100000) : (⟨S_, .i32⟩ : BufTy).Contents (Elt F) → (⟨S128x100000, .i32⟩ : BufTy).Contents (Elt F)),
  StableHlo.binary main_call0_call0_v12 main_call0_call0_v14 main_call0_call0_v15 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_3 ((constantI S_ 32 17#32)),
  StableHlo.unary main_call0_call0_c_3 main_call0_call0_v16 ((broadcastInDim S128x100000 ![] bcast_S_S128x100000) : (⟨S_, .i32⟩ : BufTy).Contents (Elt F) → (⟨S128x100000, .i32⟩ : BufTy).Contents (Elt F)),
  StableHlo.binary main_call0_call0_v12 main_call0_call0_v16 main_call0_call0_v17 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v15 main_call0_call0_v17 main_call0_call0_v18 (ori : (⟨S128x100000, .i32⟩ : BufTy).Contents (Elt F) → (⟨S128x100000, .i32⟩ : BufTy).Contents (Elt F) → (⟨S128x100000, .i32⟩ : BufTy).Contents (Elt F)),
  StableHlo.binary main_call0_call0_v13 main_call0_call0_v18 main_call0_call0_v19 (xori : (⟨S128x100000, .i32⟩ : BufTy).Contents (Elt F) → (⟨S128x100000, .i32⟩ : BufTy).Contents (Elt F) → (⟨S128x100000, .i32⟩ : BufTy).Contents (Elt F)),
  StableHlo.binary main_call0_call0_v13 main_call0_call0_v19 main_call0_call0_v20 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_4 ((constantI S_ 32 26#32)),
  StableHlo.unary main_call0_call0_c_4 main_call0_call0_v21 ((broadcastInDim S128x100000 ![] bcast_S_S128x100000) : (⟨S_, .i32⟩ : BufTy).Contents (Elt F) → (⟨S128x100000, .i32⟩ : BufTy).Contents (Elt F)),
  StableHlo.binary main_call0_call0_v19 main_call0_call0_v21 main_call0_call0_v22 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_5 ((constantI S_ 32 6#32)),
  StableHlo.unary main_call0_call0_c_5 main_call0_call0_v23 ((broadcastInDim S128x100000 ![] bcast_S_S128x100000) : (⟨S_, .i32⟩ : BufTy).Contents (Elt F) → (⟨S128x100000, .i32⟩ : BufTy).Contents (Elt F)),
  StableHlo.binary main_call0_call0_v19 main_call0_call0_v23 main_call0_call0_v24 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v22 main_call0_call0_v24 main_call0_call0_v25 (ori : (⟨S128x100000, .i32⟩ : BufTy).Contents (Elt F) → (⟨S128x100000, .i32⟩ : BufTy).Contents (Elt F) → (⟨S128x100000, .i32⟩ : BufTy).Contents (Elt F)),
  StableHlo.binary main_call0_call0_v20 main_call0_call0_v25 main_call0_call0_v26 (xori : (⟨S128x100000, .i32⟩ : BufTy).Contents (Elt F) → (⟨S128x100000, .i32⟩ : BufTy).Contents (Elt F) → (⟨S128x100000, .i32⟩ : BufTy).Contents (Elt F)),
  StableHlo.binary main_call0_call0_v20 main_call0_call0_v26 main_call0_call0_v27 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_6 ((constantI S_ 32 6#32)),
  StableHlo.unary main_call0_call0_c_6 main_call0_call0_v28 ((broadcastInDim S128x100000 ![] bcast_S_S128x100000) : (⟨S_, .i32⟩ : BufTy).Contents (Elt F) → (⟨S128x100000, .i32⟩ : BufTy).Contents (Elt F)),
  StableHlo.binary main_call0_call0_v26 main_call0_call0_v28 main_call0_call0_v29 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_7 ((constantI S_ 32 26#32)),
  StableHlo.unary main_call0_call0_c_7 main_call0_call0_v30 ((broadcastInDim S128x100000 ![] bcast_S_S128x100000) : (⟨S_, .i32⟩ : BufTy).Contents (Elt F) → (⟨S128x100000, .i32⟩ : BufTy).Contents (Elt F)),
  StableHlo.binary main_call0_call0_v26 main_call0_call0_v30 main_call0_call0_v31 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v29 main_call0_call0_v31 main_call0_call0_v32 (ori : (⟨S128x100000, .i32⟩ : BufTy).Contents (Elt F) → (⟨S128x100000, .i32⟩ : BufTy).Contents (Elt F) → (⟨S128x100000, .i32⟩ : BufTy).Contents (Elt F)),
  StableHlo.binary main_call0_call0_v27 main_call0_call0_v32 main_call0_call0_v33 (xori : (⟨S128x100000, .i32⟩ : BufTy).Contents (Elt F) → (⟨S128x100000, .i32⟩ : BufTy).Contents (Elt F) → (⟨S128x100000, .i32⟩ : BufTy).Contents (Elt F)),
  StableHlo.unary main_call0_v7 main_call0_call0_v34 ((broadcastInDim S128x100000 ![] bcast_S_S128x100000) : (⟨S_, .i32⟩ : BufTy).Contents (Elt F) → (⟨S128x100000, .i32⟩ : BufTy).Contents (Elt F)),
  StableHlo.binary main_call0_call0_v27 main_call0_call0_v34 main_call0_call0_v35 (addi : (⟨S128x100000, .i32⟩ : BufTy).Contents (Elt F) → (⟨S128x100000, .i32⟩ : BufTy).Contents (Elt F) → (⟨S128x100000, .i32⟩ : BufTy).Contents (Elt F)),
  StableHlo.unary main_call0_call0_v1 main_call0_call0_v36 ((broadcastInDim S128x100000 ![] bcast_S_S128x100000) : (⟨S_, .i32⟩ : BufTy).Contents (Elt F) → (⟨S128x100000, .i32⟩ : BufTy).Contents (Elt F)),
  StableHlo.binary main_call0_call0_v33 main_call0_call0_v36 main_call0_call0_v37 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_8 ((constantI S_ 32 1#32)),
  StableHlo.unary main_call0_call0_c_8 main_call0_call0_v38 ((broadcastInDim S128x100000 ![] bcast_S_S128x100000) : (⟨S_, .i32⟩ : BufTy).Contents (Elt F) → (⟨S128x100000, .i32⟩ : BufTy).Contents (Elt F)),
  StableHlo.binary main_call0_call0_v37 main_call0_call0_v38 main_call0_call0_v39 (addi : (⟨S128x100000, .i32⟩ : BufTy).Contents (Elt F) → (⟨S128x100000, .i32⟩ : BufTy).Contents (Elt F) → (⟨S128x100000, .i32⟩ : BufTy).Contents (Elt F))]

/-- Group 2 of the generator: four rounds and a key injection. -/
def lineQuad2 : List (HloOp τ sig (Elt F)) := [
  StableHlo.binary main_call0_call0_v35 main_call0_call0_v39 main_call0_call0_v40 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_9 ((constantI S_ 32 17#32)),
  StableHlo.unary main_call0_call0_c_9 main_call0_call0_v41 ((broadcastInDim S128x100000 ![] bcast_S_S128x100000) : (⟨S_, .i32⟩ : BufTy).Contents (Elt F) → (⟨S128x100000, .i32⟩ : BufTy).Contents (Elt F)),
  StableHlo.binary main_call0_call0_v39 main_call0_call0_v41 main_call0_call0_v42 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_10 ((constantI S_ 32 15#32)),
  StableHlo.unary main_call0_call0_c_10 main_call0_call0_v43 ((broadcastInDim S128x100000 ![] bcast_S_S128x100000) : (⟨S_, .i32⟩ : BufTy).Contents (Elt F) → (⟨S128x100000, .i32⟩ : BufTy).Contents (Elt F)),
  StableHlo.binary main_call0_call0_v39 main_call0_call0_v43 main_call0_call0_v44 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v42 main_call0_call0_v44 main_call0_call0_v45 (ori : (⟨S128x100000, .i32⟩ : BufTy).Contents (Elt F) → (⟨S128x100000, .i32⟩ : BufTy).Contents (Elt F) → (⟨S128x100000, .i32⟩ : BufTy).Contents (Elt F)),
  StableHlo.binary main_call0_call0_v40 main_call0_call0_v45 main_call0_call0_v46 (xori : (⟨S128x100000, .i32⟩ : BufTy).Contents (Elt F) → (⟨S128x100000, .i32⟩ : BufTy).Contents (Elt F) → (⟨S128x100000, .i32⟩ : BufTy).Contents (Elt F)),
  StableHlo.binary main_call0_call0_v40 main_call0_call0_v46 main_call0_call0_v47 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_11 ((constantI S_ 32 29#32)),
  StableHlo.unary main_call0_call0_c_11 main_call0_call0_v48 ((broadcastInDim S128x100000 ![] bcast_S_S128x100000) : (⟨S_, .i32⟩ : BufTy).Contents (Elt F) → (⟨S128x100000, .i32⟩ : BufTy).Contents (Elt F)),
  StableHlo.binary main_call0_call0_v46 main_call0_call0_v48 main_call0_call0_v49 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_12 ((constantI S_ 32 3#32)),
  StableHlo.unary main_call0_call0_c_12 main_call0_call0_v50 ((broadcastInDim S128x100000 ![] bcast_S_S128x100000) : (⟨S_, .i32⟩ : BufTy).Contents (Elt F) → (⟨S128x100000, .i32⟩ : BufTy).Contents (Elt F)),
  StableHlo.binary main_call0_call0_v46 main_call0_call0_v50 main_call0_call0_v51 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v49 main_call0_call0_v51 main_call0_call0_v52 (ori : (⟨S128x100000, .i32⟩ : BufTy).Contents (Elt F) → (⟨S128x100000, .i32⟩ : BufTy).Contents (Elt F) → (⟨S128x100000, .i32⟩ : BufTy).Contents (Elt F)),
  StableHlo.binary main_call0_call0_v47 main_call0_call0_v52 main_call0_call0_v53 (xori : (⟨S128x100000, .i32⟩ : BufTy).Contents (Elt F) → (⟨S128x100000, .i32⟩ : BufTy).Contents (Elt F) → (⟨S128x100000, .i32⟩ : BufTy).Contents (Elt F)),
  StableHlo.binary main_call0_call0_v47 main_call0_call0_v53 main_call0_call0_v54 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_13 ((constantI S_ 32 16#32)),
  StableHlo.unary main_call0_call0_c_13 main_call0_call0_v55 ((broadcastInDim S128x100000 ![] bcast_S_S128x100000) : (⟨S_, .i32⟩ : BufTy).Contents (Elt F) → (⟨S128x100000, .i32⟩ : BufTy).Contents (Elt F)),
  StableHlo.binary main_call0_call0_v53 main_call0_call0_v55 main_call0_call0_v56 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_14 ((constantI S_ 32 16#32)),
  StableHlo.unary main_call0_call0_c_14 main_call0_call0_v57 ((broadcastInDim S128x100000 ![] bcast_S_S128x100000) : (⟨S_, .i32⟩ : BufTy).Contents (Elt F) → (⟨S128x100000, .i32⟩ : BufTy).Contents (Elt F)),
  StableHlo.binary main_call0_call0_v53 main_call0_call0_v57 main_call0_call0_v58 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v56 main_call0_call0_v58 main_call0_call0_v59 (ori : (⟨S128x100000, .i32⟩ : BufTy).Contents (Elt F) → (⟨S128x100000, .i32⟩ : BufTy).Contents (Elt F) → (⟨S128x100000, .i32⟩ : BufTy).Contents (Elt F)),
  StableHlo.binary main_call0_call0_v54 main_call0_call0_v59 main_call0_call0_v60 (xori : (⟨S128x100000, .i32⟩ : BufTy).Contents (Elt F) → (⟨S128x100000, .i32⟩ : BufTy).Contents (Elt F) → (⟨S128x100000, .i32⟩ : BufTy).Contents (Elt F)),
  StableHlo.binary main_call0_call0_v54 main_call0_call0_v60 main_call0_call0_v61 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_15 ((constantI S_ 32 24#32)),
  StableHlo.unary main_call0_call0_c_15 main_call0_call0_v62 ((broadcastInDim S128x100000 ![] bcast_S_S128x100000) : (⟨S_, .i32⟩ : BufTy).Contents (Elt F) → (⟨S128x100000, .i32⟩ : BufTy).Contents (Elt F)),
  StableHlo.binary main_call0_call0_v60 main_call0_call0_v62 main_call0_call0_v63 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_16 ((constantI S_ 32 8#32)),
  StableHlo.unary main_call0_call0_c_16 main_call0_call0_v64 ((broadcastInDim S128x100000 ![] bcast_S_S128x100000) : (⟨S_, .i32⟩ : BufTy).Contents (Elt F) → (⟨S128x100000, .i32⟩ : BufTy).Contents (Elt F)),
  StableHlo.binary main_call0_call0_v60 main_call0_call0_v64 main_call0_call0_v65 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v63 main_call0_call0_v65 main_call0_call0_v66 (ori : (⟨S128x100000, .i32⟩ : BufTy).Contents (Elt F) → (⟨S128x100000, .i32⟩ : BufTy).Contents (Elt F) → (⟨S128x100000, .i32⟩ : BufTy).Contents (Elt F)),
  StableHlo.binary main_call0_call0_v61 main_call0_call0_v66 main_call0_call0_v67 (xori : (⟨S128x100000, .i32⟩ : BufTy).Contents (Elt F) → (⟨S128x100000, .i32⟩ : BufTy).Contents (Elt F) → (⟨S128x100000, .i32⟩ : BufTy).Contents (Elt F)),
  StableHlo.unary main_call0_call0_v1 main_call0_call0_v68 ((broadcastInDim S128x100000 ![] bcast_S_S128x100000) : (⟨S_, .i32⟩ : BufTy).Contents (Elt F) → (⟨S128x100000, .i32⟩ : BufTy).Contents (Elt F)),
  StableHlo.binary main_call0_call0_v61 main_call0_call0_v68 main_call0_call0_v69 (addi : (⟨S128x100000, .i32⟩ : BufTy).Contents (Elt F) → (⟨S128x100000, .i32⟩ : BufTy).Contents (Elt F) → (⟨S128x100000, .i32⟩ : BufTy).Contents (Elt F)),
  StableHlo.unary main_call0_v5 main_call0_call0_v70 ((broadcastInDim S128x100000 ![] bcast_S_S128x100000) : (⟨S_, .i32⟩ : BufTy).Contents (Elt F) → (⟨S128x100000, .i32⟩ : BufTy).Contents (Elt F)),
  StableHlo.binary main_call0_call0_v67 main_call0_call0_v70 main_call0_call0_v71 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_17 ((constantI S_ 32 2#32)),
  StableHlo.unary main_call0_call0_c_17 main_call0_call0_v72 ((broadcastInDim S128x100000 ![] bcast_S_S128x100000) : (⟨S_, .i32⟩ : BufTy).Contents (Elt F) → (⟨S128x100000, .i32⟩ : BufTy).Contents (Elt F)),
  StableHlo.binary main_call0_call0_v71 main_call0_call0_v72 main_call0_call0_v73 (addi : (⟨S128x100000, .i32⟩ : BufTy).Contents (Elt F) → (⟨S128x100000, .i32⟩ : BufTy).Contents (Elt F) → (⟨S128x100000, .i32⟩ : BufTy).Contents (Elt F))]

/-- Group 3 of the generator: four rounds and a key injection. -/
def lineQuad3 : List (HloOp τ sig (Elt F)) := [
  StableHlo.binary main_call0_call0_v69 main_call0_call0_v73 main_call0_call0_v74 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_18 ((constantI S_ 32 13#32)),
  StableHlo.unary main_call0_call0_c_18 main_call0_call0_v75 ((broadcastInDim S128x100000 ![] bcast_S_S128x100000) : (⟨S_, .i32⟩ : BufTy).Contents (Elt F) → (⟨S128x100000, .i32⟩ : BufTy).Contents (Elt F)),
  StableHlo.binary main_call0_call0_v73 main_call0_call0_v75 main_call0_call0_v76 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_19 ((constantI S_ 32 19#32)),
  StableHlo.unary main_call0_call0_c_19 main_call0_call0_v77 ((broadcastInDim S128x100000 ![] bcast_S_S128x100000) : (⟨S_, .i32⟩ : BufTy).Contents (Elt F) → (⟨S128x100000, .i32⟩ : BufTy).Contents (Elt F)),
  StableHlo.binary main_call0_call0_v73 main_call0_call0_v77 main_call0_call0_v78 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v76 main_call0_call0_v78 main_call0_call0_v79 (ori : (⟨S128x100000, .i32⟩ : BufTy).Contents (Elt F) → (⟨S128x100000, .i32⟩ : BufTy).Contents (Elt F) → (⟨S128x100000, .i32⟩ : BufTy).Contents (Elt F)),
  StableHlo.binary main_call0_call0_v74 main_call0_call0_v79 main_call0_call0_v80 (xori : (⟨S128x100000, .i32⟩ : BufTy).Contents (Elt F) → (⟨S128x100000, .i32⟩ : BufTy).Contents (Elt F) → (⟨S128x100000, .i32⟩ : BufTy).Contents (Elt F)),
  StableHlo.binary main_call0_call0_v74 main_call0_call0_v80 main_call0_call0_v81 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_20 ((constantI S_ 32 15#32)),
  StableHlo.unary main_call0_call0_c_20 main_call0_call0_v82 ((broadcastInDim S128x100000 ![] bcast_S_S128x100000) : (⟨S_, .i32⟩ : BufTy).Contents (Elt F) → (⟨S128x100000, .i32⟩ : BufTy).Contents (Elt F)),
  StableHlo.binary main_call0_call0_v80 main_call0_call0_v82 main_call0_call0_v83 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_21 ((constantI S_ 32 17#32)),
  StableHlo.unary main_call0_call0_c_21 main_call0_call0_v84 ((broadcastInDim S128x100000 ![] bcast_S_S128x100000) : (⟨S_, .i32⟩ : BufTy).Contents (Elt F) → (⟨S128x100000, .i32⟩ : BufTy).Contents (Elt F)),
  StableHlo.binary main_call0_call0_v80 main_call0_call0_v84 main_call0_call0_v85 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v83 main_call0_call0_v85 main_call0_call0_v86 (ori : (⟨S128x100000, .i32⟩ : BufTy).Contents (Elt F) → (⟨S128x100000, .i32⟩ : BufTy).Contents (Elt F) → (⟨S128x100000, .i32⟩ : BufTy).Contents (Elt F)),
  StableHlo.binary main_call0_call0_v81 main_call0_call0_v86 main_call0_call0_v87 (xori : (⟨S128x100000, .i32⟩ : BufTy).Contents (Elt F) → (⟨S128x100000, .i32⟩ : BufTy).Contents (Elt F) → (⟨S128x100000, .i32⟩ : BufTy).Contents (Elt F)),
  StableHlo.binary main_call0_call0_v81 main_call0_call0_v87 main_call0_call0_v88 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_22 ((constantI S_ 32 26#32)),
  StableHlo.unary main_call0_call0_c_22 main_call0_call0_v89 ((broadcastInDim S128x100000 ![] bcast_S_S128x100000) : (⟨S_, .i32⟩ : BufTy).Contents (Elt F) → (⟨S128x100000, .i32⟩ : BufTy).Contents (Elt F)),
  StableHlo.binary main_call0_call0_v87 main_call0_call0_v89 main_call0_call0_v90 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_23 ((constantI S_ 32 6#32)),
  StableHlo.unary main_call0_call0_c_23 main_call0_call0_v91 ((broadcastInDim S128x100000 ![] bcast_S_S128x100000) : (⟨S_, .i32⟩ : BufTy).Contents (Elt F) → (⟨S128x100000, .i32⟩ : BufTy).Contents (Elt F)),
  StableHlo.binary main_call0_call0_v87 main_call0_call0_v91 main_call0_call0_v92 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v90 main_call0_call0_v92 main_call0_call0_v93 (ori : (⟨S128x100000, .i32⟩ : BufTy).Contents (Elt F) → (⟨S128x100000, .i32⟩ : BufTy).Contents (Elt F) → (⟨S128x100000, .i32⟩ : BufTy).Contents (Elt F)),
  StableHlo.binary main_call0_call0_v88 main_call0_call0_v93 main_call0_call0_v94 (xori : (⟨S128x100000, .i32⟩ : BufTy).Contents (Elt F) → (⟨S128x100000, .i32⟩ : BufTy).Contents (Elt F) → (⟨S128x100000, .i32⟩ : BufTy).Contents (Elt F)),
  StableHlo.binary main_call0_call0_v88 main_call0_call0_v94 main_call0_call0_v95 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_24 ((constantI S_ 32 6#32)),
  StableHlo.unary main_call0_call0_c_24 main_call0_call0_v96 ((broadcastInDim S128x100000 ![] bcast_S_S128x100000) : (⟨S_, .i32⟩ : BufTy).Contents (Elt F) → (⟨S128x100000, .i32⟩ : BufTy).Contents (Elt F)),
  StableHlo.binary main_call0_call0_v94 main_call0_call0_v96 main_call0_call0_v97 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_25 ((constantI S_ 32 26#32)),
  StableHlo.unary main_call0_call0_c_25 main_call0_call0_v98 ((broadcastInDim S128x100000 ![] bcast_S_S128x100000) : (⟨S_, .i32⟩ : BufTy).Contents (Elt F) → (⟨S128x100000, .i32⟩ : BufTy).Contents (Elt F)),
  StableHlo.binary main_call0_call0_v94 main_call0_call0_v98 main_call0_call0_v99 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v97 main_call0_call0_v99 main_call0_call0_v100 (ori : (⟨S128x100000, .i32⟩ : BufTy).Contents (Elt F) → (⟨S128x100000, .i32⟩ : BufTy).Contents (Elt F) → (⟨S128x100000, .i32⟩ : BufTy).Contents (Elt F)),
  StableHlo.binary main_call0_call0_v95 main_call0_call0_v100 main_call0_call0_v101 (xori : (⟨S128x100000, .i32⟩ : BufTy).Contents (Elt F) → (⟨S128x100000, .i32⟩ : BufTy).Contents (Elt F) → (⟨S128x100000, .i32⟩ : BufTy).Contents (Elt F)),
  StableHlo.unary main_call0_v5 main_call0_call0_v102 ((broadcastInDim S128x100000 ![] bcast_S_S128x100000) : (⟨S_, .i32⟩ : BufTy).Contents (Elt F) → (⟨S128x100000, .i32⟩ : BufTy).Contents (Elt F)),
  StableHlo.binary main_call0_call0_v95 main_call0_call0_v102 main_call0_call0_v103 (addi : (⟨S128x100000, .i32⟩ : BufTy).Contents (Elt F) → (⟨S128x100000, .i32⟩ : BufTy).Contents (Elt F) → (⟨S128x100000, .i32⟩ : BufTy).Contents (Elt F)),
  StableHlo.unary main_call0_v7 main_call0_call0_v104 ((broadcastInDim S128x100000 ![] bcast_S_S128x100000) : (⟨S_, .i32⟩ : BufTy).Contents (Elt F) → (⟨S128x100000, .i32⟩ : BufTy).Contents (Elt F)),
  StableHlo.binary main_call0_call0_v101 main_call0_call0_v104 main_call0_call0_v105 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_26 ((constantI S_ 32 3#32)),
  StableHlo.unary main_call0_call0_c_26 main_call0_call0_v106 ((broadcastInDim S128x100000 ![] bcast_S_S128x100000) : (⟨S_, .i32⟩ : BufTy).Contents (Elt F) → (⟨S128x100000, .i32⟩ : BufTy).Contents (Elt F)),
  StableHlo.binary main_call0_call0_v105 main_call0_call0_v106 main_call0_call0_v107 (addi : (⟨S128x100000, .i32⟩ : BufTy).Contents (Elt F) → (⟨S128x100000, .i32⟩ : BufTy).Contents (Elt F) → (⟨S128x100000, .i32⟩ : BufTy).Contents (Elt F))]

/-- Group 4 of the generator: four rounds and a key injection. -/
def lineQuad4 : List (HloOp τ sig (Elt F)) := [
  StableHlo.binary main_call0_call0_v103 main_call0_call0_v107 main_call0_call0_v108 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_27 ((constantI S_ 32 17#32)),
  StableHlo.unary main_call0_call0_c_27 main_call0_call0_v109 ((broadcastInDim S128x100000 ![] bcast_S_S128x100000) : (⟨S_, .i32⟩ : BufTy).Contents (Elt F) → (⟨S128x100000, .i32⟩ : BufTy).Contents (Elt F)),
  StableHlo.binary main_call0_call0_v107 main_call0_call0_v109 main_call0_call0_v110 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_28 ((constantI S_ 32 15#32)),
  StableHlo.unary main_call0_call0_c_28 main_call0_call0_v111 ((broadcastInDim S128x100000 ![] bcast_S_S128x100000) : (⟨S_, .i32⟩ : BufTy).Contents (Elt F) → (⟨S128x100000, .i32⟩ : BufTy).Contents (Elt F)),
  StableHlo.binary main_call0_call0_v107 main_call0_call0_v111 main_call0_call0_v112 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v110 main_call0_call0_v112 main_call0_call0_v113 (ori : (⟨S128x100000, .i32⟩ : BufTy).Contents (Elt F) → (⟨S128x100000, .i32⟩ : BufTy).Contents (Elt F) → (⟨S128x100000, .i32⟩ : BufTy).Contents (Elt F)),
  StableHlo.binary main_call0_call0_v108 main_call0_call0_v113 main_call0_call0_v114 (xori : (⟨S128x100000, .i32⟩ : BufTy).Contents (Elt F) → (⟨S128x100000, .i32⟩ : BufTy).Contents (Elt F) → (⟨S128x100000, .i32⟩ : BufTy).Contents (Elt F)),
  StableHlo.binary main_call0_call0_v108 main_call0_call0_v114 main_call0_call0_v115 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_29 ((constantI S_ 32 29#32)),
  StableHlo.unary main_call0_call0_c_29 main_call0_call0_v116 ((broadcastInDim S128x100000 ![] bcast_S_S128x100000) : (⟨S_, .i32⟩ : BufTy).Contents (Elt F) → (⟨S128x100000, .i32⟩ : BufTy).Contents (Elt F)),
  StableHlo.binary main_call0_call0_v114 main_call0_call0_v116 main_call0_call0_v117 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_30 ((constantI S_ 32 3#32)),
  StableHlo.unary main_call0_call0_c_30 main_call0_call0_v118 ((broadcastInDim S128x100000 ![] bcast_S_S128x100000) : (⟨S_, .i32⟩ : BufTy).Contents (Elt F) → (⟨S128x100000, .i32⟩ : BufTy).Contents (Elt F)),
  StableHlo.binary main_call0_call0_v114 main_call0_call0_v118 main_call0_call0_v119 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v117 main_call0_call0_v119 main_call0_call0_v120 (ori : (⟨S128x100000, .i32⟩ : BufTy).Contents (Elt F) → (⟨S128x100000, .i32⟩ : BufTy).Contents (Elt F) → (⟨S128x100000, .i32⟩ : BufTy).Contents (Elt F)),
  StableHlo.binary main_call0_call0_v115 main_call0_call0_v120 main_call0_call0_v121 (xori : (⟨S128x100000, .i32⟩ : BufTy).Contents (Elt F) → (⟨S128x100000, .i32⟩ : BufTy).Contents (Elt F) → (⟨S128x100000, .i32⟩ : BufTy).Contents (Elt F)),
  StableHlo.binary main_call0_call0_v115 main_call0_call0_v121 main_call0_call0_v122 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_31 ((constantI S_ 32 16#32)),
  StableHlo.unary main_call0_call0_c_31 main_call0_call0_v123 ((broadcastInDim S128x100000 ![] bcast_S_S128x100000) : (⟨S_, .i32⟩ : BufTy).Contents (Elt F) → (⟨S128x100000, .i32⟩ : BufTy).Contents (Elt F)),
  StableHlo.binary main_call0_call0_v121 main_call0_call0_v123 main_call0_call0_v124 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_32 ((constantI S_ 32 16#32)),
  StableHlo.unary main_call0_call0_c_32 main_call0_call0_v125 ((broadcastInDim S128x100000 ![] bcast_S_S128x100000) : (⟨S_, .i32⟩ : BufTy).Contents (Elt F) → (⟨S128x100000, .i32⟩ : BufTy).Contents (Elt F)),
  StableHlo.binary main_call0_call0_v121 main_call0_call0_v125 main_call0_call0_v126 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v124 main_call0_call0_v126 main_call0_call0_v127 (ori : (⟨S128x100000, .i32⟩ : BufTy).Contents (Elt F) → (⟨S128x100000, .i32⟩ : BufTy).Contents (Elt F) → (⟨S128x100000, .i32⟩ : BufTy).Contents (Elt F)),
  StableHlo.binary main_call0_call0_v122 main_call0_call0_v127 main_call0_call0_v128 (xori : (⟨S128x100000, .i32⟩ : BufTy).Contents (Elt F) → (⟨S128x100000, .i32⟩ : BufTy).Contents (Elt F) → (⟨S128x100000, .i32⟩ : BufTy).Contents (Elt F)),
  StableHlo.binary main_call0_call0_v122 main_call0_call0_v128 main_call0_call0_v129 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_33 ((constantI S_ 32 24#32)),
  StableHlo.unary main_call0_call0_c_33 main_call0_call0_v130 ((broadcastInDim S128x100000 ![] bcast_S_S128x100000) : (⟨S_, .i32⟩ : BufTy).Contents (Elt F) → (⟨S128x100000, .i32⟩ : BufTy).Contents (Elt F)),
  StableHlo.binary main_call0_call0_v128 main_call0_call0_v130 main_call0_call0_v131 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_34 ((constantI S_ 32 8#32)),
  StableHlo.unary main_call0_call0_c_34 main_call0_call0_v132 ((broadcastInDim S128x100000 ![] bcast_S_S128x100000) : (⟨S_, .i32⟩ : BufTy).Contents (Elt F) → (⟨S128x100000, .i32⟩ : BufTy).Contents (Elt F)),
  StableHlo.binary main_call0_call0_v128 main_call0_call0_v132 main_call0_call0_v133 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v131 main_call0_call0_v133 main_call0_call0_v134 (ori : (⟨S128x100000, .i32⟩ : BufTy).Contents (Elt F) → (⟨S128x100000, .i32⟩ : BufTy).Contents (Elt F) → (⟨S128x100000, .i32⟩ : BufTy).Contents (Elt F)),
  StableHlo.binary main_call0_call0_v129 main_call0_call0_v134 main_call0_call0_v135 (xori : (⟨S128x100000, .i32⟩ : BufTy).Contents (Elt F) → (⟨S128x100000, .i32⟩ : BufTy).Contents (Elt F) → (⟨S128x100000, .i32⟩ : BufTy).Contents (Elt F)),
  StableHlo.unary main_call0_v7 main_call0_call0_v136 ((broadcastInDim S128x100000 ![] bcast_S_S128x100000) : (⟨S_, .i32⟩ : BufTy).Contents (Elt F) → (⟨S128x100000, .i32⟩ : BufTy).Contents (Elt F)),
  StableHlo.binary main_call0_call0_v129 main_call0_call0_v136 main_call0_call0_v137 (addi : (⟨S128x100000, .i32⟩ : BufTy).Contents (Elt F) → (⟨S128x100000, .i32⟩ : BufTy).Contents (Elt F) → (⟨S128x100000, .i32⟩ : BufTy).Contents (Elt F)),
  StableHlo.unary main_call0_call0_v1 main_call0_call0_v138 ((broadcastInDim S128x100000 ![] bcast_S_S128x100000) : (⟨S_, .i32⟩ : BufTy).Contents (Elt F) → (⟨S128x100000, .i32⟩ : BufTy).Contents (Elt F)),
  StableHlo.binary main_call0_call0_v135 main_call0_call0_v138 main_call0_call0_v139 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_35 ((constantI S_ 32 4#32)),
  StableHlo.unary main_call0_call0_c_35 main_call0_call0_v140 ((broadcastInDim S128x100000 ![] bcast_S_S128x100000) : (⟨S_, .i32⟩ : BufTy).Contents (Elt F) → (⟨S128x100000, .i32⟩ : BufTy).Contents (Elt F)),
  StableHlo.binary main_call0_call0_v139 main_call0_call0_v140 main_call0_call0_v141 (addi : (⟨S128x100000, .i32⟩ : BufTy).Contents (Elt F) → (⟨S128x100000, .i32⟩ : BufTy).Contents (Elt F) → (⟨S128x100000, .i32⟩ : BufTy).Contents (Elt F))]

/-- Group 5 of the generator: four rounds and a key injection. -/
def lineQuad5 : List (HloOp τ sig (Elt F)) := [
  StableHlo.binary main_call0_call0_v137 main_call0_call0_v141 main_call0_call0_v142 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_36 ((constantI S_ 32 13#32)),
  StableHlo.unary main_call0_call0_c_36 main_call0_call0_v143 ((broadcastInDim S128x100000 ![] bcast_S_S128x100000) : (⟨S_, .i32⟩ : BufTy).Contents (Elt F) → (⟨S128x100000, .i32⟩ : BufTy).Contents (Elt F)),
  StableHlo.binary main_call0_call0_v141 main_call0_call0_v143 main_call0_call0_v144 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_37 ((constantI S_ 32 19#32)),
  StableHlo.unary main_call0_call0_c_37 main_call0_call0_v145 ((broadcastInDim S128x100000 ![] bcast_S_S128x100000) : (⟨S_, .i32⟩ : BufTy).Contents (Elt F) → (⟨S128x100000, .i32⟩ : BufTy).Contents (Elt F)),
  StableHlo.binary main_call0_call0_v141 main_call0_call0_v145 main_call0_call0_v146 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v144 main_call0_call0_v146 main_call0_call0_v147 (ori : (⟨S128x100000, .i32⟩ : BufTy).Contents (Elt F) → (⟨S128x100000, .i32⟩ : BufTy).Contents (Elt F) → (⟨S128x100000, .i32⟩ : BufTy).Contents (Elt F)),
  StableHlo.binary main_call0_call0_v142 main_call0_call0_v147 main_call0_call0_v148 (xori : (⟨S128x100000, .i32⟩ : BufTy).Contents (Elt F) → (⟨S128x100000, .i32⟩ : BufTy).Contents (Elt F) → (⟨S128x100000, .i32⟩ : BufTy).Contents (Elt F)),
  StableHlo.binary main_call0_call0_v142 main_call0_call0_v148 main_call0_call0_v149 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_38 ((constantI S_ 32 15#32)),
  StableHlo.unary main_call0_call0_c_38 main_call0_call0_v150 ((broadcastInDim S128x100000 ![] bcast_S_S128x100000) : (⟨S_, .i32⟩ : BufTy).Contents (Elt F) → (⟨S128x100000, .i32⟩ : BufTy).Contents (Elt F)),
  StableHlo.binary main_call0_call0_v148 main_call0_call0_v150 main_call0_call0_v151 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_39 ((constantI S_ 32 17#32)),
  StableHlo.unary main_call0_call0_c_39 main_call0_call0_v152 ((broadcastInDim S128x100000 ![] bcast_S_S128x100000) : (⟨S_, .i32⟩ : BufTy).Contents (Elt F) → (⟨S128x100000, .i32⟩ : BufTy).Contents (Elt F)),
  StableHlo.binary main_call0_call0_v148 main_call0_call0_v152 main_call0_call0_v153 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v151 main_call0_call0_v153 main_call0_call0_v154 (ori : (⟨S128x100000, .i32⟩ : BufTy).Contents (Elt F) → (⟨S128x100000, .i32⟩ : BufTy).Contents (Elt F) → (⟨S128x100000, .i32⟩ : BufTy).Contents (Elt F)),
  StableHlo.binary main_call0_call0_v149 main_call0_call0_v154 main_call0_call0_v155 (xori : (⟨S128x100000, .i32⟩ : BufTy).Contents (Elt F) → (⟨S128x100000, .i32⟩ : BufTy).Contents (Elt F) → (⟨S128x100000, .i32⟩ : BufTy).Contents (Elt F)),
  StableHlo.binary main_call0_call0_v149 main_call0_call0_v155 main_call0_call0_v156 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_40 ((constantI S_ 32 26#32)),
  StableHlo.unary main_call0_call0_c_40 main_call0_call0_v157 ((broadcastInDim S128x100000 ![] bcast_S_S128x100000) : (⟨S_, .i32⟩ : BufTy).Contents (Elt F) → (⟨S128x100000, .i32⟩ : BufTy).Contents (Elt F)),
  StableHlo.binary main_call0_call0_v155 main_call0_call0_v157 main_call0_call0_v158 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_41 ((constantI S_ 32 6#32)),
  StableHlo.unary main_call0_call0_c_41 main_call0_call0_v159 ((broadcastInDim S128x100000 ![] bcast_S_S128x100000) : (⟨S_, .i32⟩ : BufTy).Contents (Elt F) → (⟨S128x100000, .i32⟩ : BufTy).Contents (Elt F)),
  StableHlo.binary main_call0_call0_v155 main_call0_call0_v159 main_call0_call0_v160 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v158 main_call0_call0_v160 main_call0_call0_v161 (ori : (⟨S128x100000, .i32⟩ : BufTy).Contents (Elt F) → (⟨S128x100000, .i32⟩ : BufTy).Contents (Elt F) → (⟨S128x100000, .i32⟩ : BufTy).Contents (Elt F)),
  StableHlo.binary main_call0_call0_v156 main_call0_call0_v161 main_call0_call0_v162 (xori : (⟨S128x100000, .i32⟩ : BufTy).Contents (Elt F) → (⟨S128x100000, .i32⟩ : BufTy).Contents (Elt F) → (⟨S128x100000, .i32⟩ : BufTy).Contents (Elt F)),
  StableHlo.binary main_call0_call0_v156 main_call0_call0_v162 main_call0_call0_v163 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_42 ((constantI S_ 32 6#32)),
  StableHlo.unary main_call0_call0_c_42 main_call0_call0_v164 ((broadcastInDim S128x100000 ![] bcast_S_S128x100000) : (⟨S_, .i32⟩ : BufTy).Contents (Elt F) → (⟨S128x100000, .i32⟩ : BufTy).Contents (Elt F)),
  StableHlo.binary main_call0_call0_v162 main_call0_call0_v164 main_call0_call0_v165 (Host.shli : (⟨S128x100000, .i32⟩ : BufTy).Contents (Elt F) → (⟨S128x100000, .i32⟩ : BufTy).Contents (Elt F) → (⟨S128x100000, .i32⟩ : BufTy).Contents (Elt F)),
  StableHlo.nullary main_call0_call0_c_43 ((constantI S_ 32 26#32)),
  StableHlo.unary main_call0_call0_c_43 main_call0_call0_v166 ((broadcastInDim S128x100000 ![] bcast_S_S128x100000) : (⟨S_, .i32⟩ : BufTy).Contents (Elt F) → (⟨S128x100000, .i32⟩ : BufTy).Contents (Elt F)),
  StableHlo.binary main_call0_call0_v162 main_call0_call0_v166 main_call0_call0_v167 (Host.shrui : (⟨S128x100000, .i32⟩ : BufTy).Contents (Elt F) → (⟨S128x100000, .i32⟩ : BufTy).Contents (Elt F) → (⟨S128x100000, .i32⟩ : BufTy).Contents (Elt F)),
  StableHlo.binary main_call0_call0_v165 main_call0_call0_v167 main_call0_call0_v168 (ori : (⟨S128x100000, .i32⟩ : BufTy).Contents (Elt F) → (⟨S128x100000, .i32⟩ : BufTy).Contents (Elt F) → (⟨S128x100000, .i32⟩ : BufTy).Contents (Elt F)),
  StableHlo.binary main_call0_call0_v163 main_call0_call0_v168 main_call0_call0_v169 (xori : (⟨S128x100000, .i32⟩ : BufTy).Contents (Elt F) → (⟨S128x100000, .i32⟩ : BufTy).Contents (Elt F) → (⟨S128x100000, .i32⟩ : BufTy).Contents (Elt F)),
  StableHlo.unary main_call0_call0_v1 main_call0_call0_v170 ((broadcastInDim S128x100000 ![] bcast_S_S128x100000) : (⟨S_, .i32⟩ : BufTy).Contents (Elt F) → (⟨S128x100000, .i32⟩ : BufTy).Contents (Elt F)),
  StableHlo.binary main_call0_call0_v163 main_call0_call0_v170 main_call0_v19_0 (addi : (⟨S128x100000, .i32⟩ : BufTy).Contents (Elt F) → (⟨S128x100000, .i32⟩ : BufTy).Contents (Elt F) → (⟨S128x100000, .i32⟩ : BufTy).Contents (Elt F)),
  StableHlo.unary main_call0_v5 main_call0_call0_v172 ((broadcastInDim S128x100000 ![] bcast_S_S128x100000) : (⟨S_, .i32⟩ : BufTy).Contents (Elt F) → (⟨S128x100000, .i32⟩ : BufTy).Contents (Elt F)),
  StableHlo.binary main_call0_call0_v169 main_call0_call0_v172 main_call0_call0_v173 (addi : (⟨S128x100000, .i32⟩ : BufTy).Contents (Elt F) → (⟨S128x100000, .i32⟩ : BufTy).Contents (Elt F) → (⟨S128x100000, .i32⟩ : BufTy).Contents (Elt F)),
  StableHlo.nullary main_call0_call0_c_44 ((constantI S_ 32 5#32)),
  StableHlo.unary main_call0_call0_c_44 main_call0_call0_v174 ((broadcastInDim S128x100000 ![] bcast_S_S128x100000) : (⟨S_, .i32⟩ : BufTy).Contents (Elt F) → (⟨S128x100000, .i32⟩ : BufTy).Contents (Elt F)),
  StableHlo.binary main_call0_call0_v173 main_call0_call0_v174 main_call0_v19_1 (addi : (⟨S128x100000, .i32⟩ : BufTy).Contents (Elt F) → (⟨S128x100000, .i32⟩ : BufTy).Contents (Elt F) → (⟨S128x100000, .i32⟩ : BufTy).Contents (Elt F))]

/-- The reference after its generator: the uniform, the Gumbel noise, the softmax, its argmax, the one-hot. -/
def lineTail : List (HloOp τ sig (Elt F)) := [
  StableHlo.binary main_call0_v19_0 main_call0_v19_1 main_call0_v20 (xori : (⟨S128x100000, .i32⟩ : BufTy).Contents (Elt F) → (⟨S128x100000, .i32⟩ : BufTy).Contents (Elt F) → (⟨S128x100000, .i32⟩ : BufTy).Contents (Elt F)),
  StableHlo.nullary main_call0_c_2 ((constantI S_ 32 9#32)),
  StableHlo.unary main_call0_c_2 main_call0_v21 ((broadcastInDim S128x100000 ![] bcast_S_S128x100000) : (⟨S_, .i32⟩ : BufTy).Contents (Elt F) → (⟨S128x100000, .i32⟩ : BufTy).Contents (Elt F)),
  StableHlo.binary main_call0_v20 main_call0_v21 main_call0_v22 (Host.shrui : (⟨S128x100000, .i32⟩ : BufTy).Contents (Elt F) → (⟨S128x100000, .i32⟩ : BufTy).Contents (Elt F) → (⟨S128x100000, .i32⟩ : BufTy).Contents (Elt F)),
  StableHlo.nullary main_call0_c_3 ((constantI S_ 32 1065353216#32)),
  StableHlo.unary main_call0_c_3 main_call0_v23 ((broadcastInDim S128x100000 ![] bcast_S_S128x100000) : (⟨S_, .i32⟩ : BufTy).Contents (Elt F) → (⟨S128x100000, .i32⟩ : BufTy).Contents (Elt F)),
  StableHlo.binary main_call0_v22 main_call0_v23 main_call0_v24 (ori : (⟨S128x100000, .i32⟩ : BufTy).Contents (Elt F) → (⟨S128x100000, .i32⟩ : BufTy).Contents (Elt F) → (⟨S128x100000, .i32⟩ : BufTy).Contents (Elt F)),
  StableHlo.unary main_call0_v24 main_call0_v25 ((bitcastToFloat .f32) : (⟨S128x100000, .i32⟩ : BufTy).Contents (Elt F) → (⟨S128x100000, .f32⟩ : BufTy).Contents (Elt F)),
  StableHlo.nullary main_call0_cst ((constant S_ .f32 0x3F800000#32)),
  StableHlo.unary main_call0_cst main_call0_v26 ((broadcastInDim S128x100000 ![] bcast_S_S128x100000) : (⟨S_, .f32⟩ : BufTy).Contents (Elt F) → (⟨S128x100000, .f32⟩ : BufTy).Contents (Elt F)),
  StableHlo.binary main_call0_v25 main_call0_v26 main_call0_v27 (subf : (⟨S128x100000, .f32⟩ : BufTy).Contents (Elt F) → (⟨S128x100000, .f32⟩ : BufTy).Contents (Elt F) → (⟨S128x100000, .f32⟩ : BufTy).Contents (Elt F)),
  StableHlo.binary main_call0_v3 main_call0_v2 main_call0_v28 (subf : (⟨S1x1, .f32⟩ : BufTy).Contents (Elt F) → (⟨S1x1, .f32⟩ : BufTy).Contents (Elt F) → (⟨S1x1, .f32⟩ : BufTy).Contents (Elt F)),
  StableHlo.unary main_call0_v28 main_call0_v29 ((broadcastInDim S128x100000 ![0, 1] bcast_S1x1_S128x100000_0_1) : (⟨S1x1, .f32⟩ : BufTy).Contents (Elt F) → (⟨S128x100000, .f32⟩ : BufTy).Contents (Elt F)),
  StableHlo.binary main_call0_v27 main_call0_v29 main_call0_v30 (mulf : (⟨S128x100000, .f32⟩ : BufTy).Contents (Elt F) → (⟨S128x100000, .f32⟩ : BufTy).Contents (Elt F) → (⟨S128x100000, .f32⟩ : BufTy).Contents (Elt F)),
  StableHlo.unary main_call0_v2 main_call0_v31 ((broadcastInDim S128x100000 ![0, 1] bcast_S1x1_S128x100000_0_1) : (⟨S1x1, .f32⟩ : BufTy).Contents (Elt F) → (⟨S128x100000, .f32⟩ : BufTy).Contents (Elt F)),
  StableHlo.binary main_call0_v30 main_call0_v31 main_call0_v32 (addf : (⟨S128x100000, .f32⟩ : BufTy).Contents (Elt F) → (⟨S128x100000, .f32⟩ : BufTy).Contents (Elt F) → (⟨S128x100000, .f32⟩ : BufTy).Contents (Elt F)),
  StableHlo.unary main_call0_v2 main_call0_v33 ((broadcastInDim S128x100000 ![0, 1] bcast_S1x1_S128x100000_0_1) : (⟨S1x1, .f32⟩ : BufTy).Contents (Elt F) → (⟨S128x100000, .f32⟩ : BufTy).Contents (Elt F)),
  StableHlo.binary main_call0_v33 main_call0_v32 main_v7 (maximumf : (⟨S128x100000, .f32⟩ : BufTy).Contents (Elt F) → (⟨S128x100000, .f32⟩ : BufTy).Contents (Elt F) → (⟨S128x100000, .f32⟩ : BufTy).Contents (Elt F)),
  StableHlo.unary main_v7 main_v8 (Host.log : (⟨S128x100000, .f32⟩ : BufTy).Contents (Elt F) → (⟨S128x100000, .f32⟩ : BufTy).Contents (Elt F)),
  StableHlo.unary main_v8 main_v9 (Host.negf : (⟨S128x100000, .f32⟩ : BufTy).Contents (Elt F) → (⟨S128x100000, .f32⟩ : BufTy).Contents (Elt F)),
  StableHlo.unary main_v9 main_v10 (Host.log : (⟨S128x100000, .f32⟩ : BufTy).Contents (Elt F) → (⟨S128x100000, .f32⟩ : BufTy).Contents (Elt F)),
  StableHlo.unary main_v10 main_v11 (Host.negf : (⟨S128x100000, .f32⟩ : BufTy).Contents (Elt F) → (⟨S128x100000, .f32⟩ : BufTy).Contents (Elt F)),
  StableHlo.binary main_arg0 main_v11 main_v12 (addf : (⟨S128x100000, .f32⟩ : BufTy).Contents (Elt F) → (⟨S128x100000, .f32⟩ : BufTy).Contents (Elt F) → (⟨S128x100000, .f32⟩ : BufTy).Contents (Elt F)),
  StableHlo.nullary main_cst_3 (constant S_ .f32 0x3F800000#32),
  StableHlo.unary main_cst_3 main_v13 (broadcastInDim S128x100000 ![] bcast_S_S128x100000 : (⟨S_, .f32⟩ : BufTy).Contents (Elt F) → (⟨S128x100000, .f32⟩ : BufTy).Contents (Elt F)),
  StableHlo.binary main_v12 main_v13 main_v14 (Host.divf : (⟨S128x100000, .f32⟩ : BufTy).Contents (Elt F) → (⟨S128x100000, .f32⟩ : BufTy).Contents (Elt F) → (⟨S128x100000, .f32⟩ : BufTy).Contents (Elt F)),
  StableHlo.nullary main_cst_4 (constant S_ .f32 0xFF800000#32),
  StableHlo.binary main_v14 main_cst_4 main_v15 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
  StableHlo.nullary main_cst_5 (constant S_ .f32 0xFF800000#32),
  StableHlo.unary main_cst_5 main_v16 (broadcastInDim S128 ![] bcast_S_S128 : (⟨S_, .f32⟩ : BufTy).Contents (Elt F) → (⟨S128, .f32⟩ : BufTy).Contents (Elt F)),
  StableHlo.binary main_v16 main_v15 main_v17 (maximumf : (⟨S128, .f32⟩ : BufTy).Contents (Elt F) → (⟨S128, .f32⟩ : BufTy).Contents (Elt F) → (⟨S128, .f32⟩ : BufTy).Contents (Elt F)),
  StableHlo.unary main_v17 main_v18 (broadcastInDim S128x1 ![0] bcast_S128_S128x1_0 : (⟨S128, .f32⟩ : BufTy).Contents (Elt F) → (⟨S128x1, .f32⟩ : BufTy).Contents (Elt F)),
  StableHlo.unary main_v18 main_v19 (broadcastInDim S128x100000 ![0, 1] bcast_S128x1_S128x100000_0_1 : (⟨S128x1, .f32⟩ : BufTy).Contents (Elt F) → (⟨S128x100000, .f32⟩ : BufTy).Contents (Elt F)),
  StableHlo.binary main_v14 main_v19 main_v20 (subf : (⟨S128x100000, .f32⟩ : BufTy).Contents (Elt F) → (⟨S128x100000, .f32⟩ : BufTy).Contents (Elt F) → (⟨S128x100000, .f32⟩ : BufTy).Contents (Elt F)),
  StableHlo.unary main_v20 main_v21 (Host.exp : (⟨S128x100000, .f32⟩ : BufTy).Contents (Elt F) → (⟨S128x100000, .f32⟩ : BufTy).Contents (Elt F)),
  StableHlo.nullary main_cst_6 (constant S_ .f32 0x00000000#32),
  StableHlo.binary main_v21 main_cst_6 main_v22 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
  StableHlo.unary main_v22 main_v23 (broadcastInDim S128x1 ![0] bcast_S128_S128x1_0 : (⟨S128, .f32⟩ : BufTy).Contents (Elt F) → (⟨S128x1, .f32⟩ : BufTy).Contents (Elt F)),
  StableHlo.unary main_v23 main_v24 (broadcastInDim S128x100000 ![0, 1] bcast_S128x1_S128x100000_0_1 : (⟨S128x1, .f32⟩ : BufTy).Contents (Elt F) → (⟨S128x100000, .f32⟩ : BufTy).Contents (Elt F)),
  StableHlo.binary main_v21 main_v24 main_v25 (Host.divf : (⟨S128x100000, .f32⟩ : BufTy).Contents (Elt F) → (⟨S128x100000, .f32⟩ : BufTy).Contents (Elt F) → (⟨S128x100000, .f32⟩ : BufTy).Contents (Elt F)),
  StableHlo.nullary main_call1_v0 ((iotaInDim S128x100000 32 1)),
  StableHlo.nullary main_call1_cst ((constant S_ .f32 0xFF800000#32)),
  StableHlo.nullary main_call1_c ((constantI S_ 32 0#32)),
  StableHlo.quaternary main_v25 main_call1_v0 main_call1_cst main_call1_c main_call1_v1_0 ((fun x y u v j => (Host.argReduce reducer_argmax_f32_i32 x y u v reducesTo_S128x100000_S128_d1 h_S_ j).1) : (⟨S128x100000, .f32⟩ : BufTy).Contents (Elt F) → (⟨S128x100000, .i32⟩ : BufTy).Contents (Elt F) → (⟨S_, .f32⟩ : BufTy).Contents (Elt F) → (⟨S_, .i32⟩ : BufTy).Contents (Elt F) → (⟨S128, .f32⟩ : BufTy).Contents (Elt F)),
  StableHlo.quaternary main_v25 main_call1_v0 main_call1_cst main_call1_c main_v26 ((fun x y u v j => (Host.argReduce reducer_argmax_f32_i32 x y u v reducesTo_S128x100000_S128_d1 h_S_ j).2) : (⟨S128x100000, .f32⟩ : BufTy).Contents (Elt F) → (⟨S128x100000, .i32⟩ : BufTy).Contents (Elt F) → (⟨S_, .f32⟩ : BufTy).Contents (Elt F) → (⟨S_, .i32⟩ : BufTy).Contents (Elt F) → (⟨S128, .i32⟩ : BufTy).Contents (Elt F)),
  StableHlo.unary main_v26 main_call2_v0 ((broadcastInDim S128x1 ![0] bcast_S128_S128x1_0) : (⟨S128, .i32⟩ : BufTy).Contents (Elt F) → (⟨S128x1, .i32⟩ : BufTy).Contents (Elt F)),
  StableHlo.nullary main_call2_v1 ((iotaInDim S1x100000 32 1)),
  StableHlo.unary main_call2_v0 main_call2_v2 ((broadcastInDim S128x100000 ![0, 1] bcast_S128x1_S128x100000_0_1) : (⟨S128x1, .i32⟩ : BufTy).Contents (Elt F) → (⟨S128x100000, .i32⟩ : BufTy).Contents (Elt F)),
  StableHlo.unary main_call2_v1 main_call2_v3 ((broadcastInDim S128x100000 ![0, 1] bcast_S1x100000_S128x100000_0_1) : (⟨S1x100000, .i32⟩ : BufTy).Contents (Elt F) → (⟨S128x100000, .i32⟩ : BufTy).Contents (Elt F)),
  StableHlo.binary main_call2_v2 main_call2_v3 main_call2_v4 ((cmpi .eq) : (⟨S128x100000, .i32⟩ : BufTy).Contents (Elt F) → (⟨S128x100000, .i32⟩ : BufTy).Contents (Elt F) → (⟨S128x100000, .i1⟩ : BufTy).Contents (Elt F)),
  StableHlo.unary main_call2_v4 main_v27 ((uitofp .f32) : (⟨S128x100000, .i1⟩ : BufTy).Contents (Elt F) → (⟨S128x100000, .f32⟩ : BufTy).Contents (Elt F)),
  StableHlo.binary main_v27 main_v25 main_v28 (subf : (⟨S128x100000, .f32⟩ : BufTy).Contents (Elt F) → (⟨S128x100000, .f32⟩ : BufTy).Contents (Elt F) → (⟨S128x100000, .f32⟩ : BufTy).Contents (Elt F)),
  StableHlo.binary main_v28 main_v25 main_v29 (addf : (⟨S128x100000, .f32⟩ : BufTy).Contents (Elt F) → (⟨S128x100000, .f32⟩ : BufTy).Contents (Elt F) → (⟨S128x100000, .f32⟩ : BufTy).Contents (Elt F))]

/-- The whole line. -/
def line : List (HloOp τ sig (Elt F)) :=
  lineHead ++ (lineQuad1 ++ (lineQuad2 ++ (lineQuad3 ++ (lineQuad4 ++ (lineQuad5 ++ lineTail)))))

set_option maxRecDepth 20000 in
/-- The program is its line. -/
theorem main_eq (c : Dev nD) : main (F := F) c = seq line := rfl

theorem refs_none : (Finset.univ.filter fun b : Ref sig .tc => b.isScoped) = ∅ := by decide
theorem sems_none : (Finset.univ.filter fun sm : SemLoc sig => sm.isScoped .tc) = ∅ := by decide

theorem lineHead_sub : (lineHead : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., nullary_bufs_sub .., binary_bufs_sub .., unary_bufs_sub .., binary_bufs_sub .., unary_bufs_sub .., binary_bufs_sub ..⟩
theorem lineQuad1_sub : (lineQuad1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
theorem lineQuad2_sub : (lineQuad2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
theorem lineQuad3_sub : (lineQuad3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
theorem lineQuad4_sub : (lineQuad4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
theorem lineQuad5_sub : (lineQuad5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub ..⟩
theorem lineTail_sub : (lineTail : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub .., unary_bufs_sub .., binary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub ..⟩

theorem line_sub : (line : List (HloOp τ sig (Elt F))).Forall fun op => op.bufs ⊆ tcRefs τ sig := by
  simp only [line, List.forall_append]
  exact ⟨lineHead_sub, lineQuad1_sub, lineQuad2_sub, lineQuad3_sub, lineQuad4_sub, lineQuad5_sub, lineTail_sub⟩

theorem line_fresh : ∀ op ∈ (line : List (HloOp τ sig (Elt F))), op.fresh = ∅ := by
  have h : (line : List (HloOp τ sig (Elt F))).Forall fun op => op.fresh = ∅ := forall_fresh_of_map rfl
  exact List.forall_iff_forall_mem.mp h

/-- Every buffer at the end of the run is what the line leaves there. -/
theorem run (m : (ℓ : Loc nD τ sig) → Buf (Elt F) ℓ) (g : Dev nD → PrngReg) :
    θ_run defs (onTc (τ := τ) main) ⟨m, fun _ => 0, g⟩ fun r =>
      ∀ (c : Dev nD) (b : Ref sig .tc), r.2.mem ((c.tc : Thread nD τ).loc b) = after line (launchContents m c) (Proc.devRef .tc b) :=
  run_seq refs_none sems_none defs main (fun _ => line) main_eq (fun _ => line_sub) m g (fun _ => line_fresh)

/-- The line does not write the input. -/
theorem arg0_kept (V : Valuation τ sig (Elt F)) : after line V (Proc.devRef .tc main_arg0) = V (Proc.devRef .tc main_arg0) := by
  after_reads_simp

/-- The program has no semaphore. -/
theorem sem_none (f : GSem nD τ sig → Int) : f = fun _ => 0 := by
  funext s
  rcases s with ⟨t, a | a⟩ <;> exact absurd a.isLt (by decide +revert)

/-- The reference terminates with its input unchanged and every counter at zero. -/
theorem quiet (m : (ℓ : Loc nD τ sig) → Buf (Elt F) ℓ) (g : Dev nD → PrngReg) :
    θ_run defs (onTc (τ := τ) main) ⟨m, fun _ => 0, g⟩ fun r =>
      (∀ c : Dev nD, r.2.mem ((c.tc : Thread nD τ).loc main_arg0) = m ((c.tc : Thread nD τ).loc main_arg0)) ∧ r.2.sem = fun _ => 0 :=
  (θ_run defs _ _).mono (fun _ h => ⟨fun c => (h c main_arg0).trans (arg0_kept _), sem_none _⟩) (run m g)

end Cert.ReferenceIdeal.Line

end
-- ==== Proof.Noise.lean ====
/- The noise of one entry as a function of its position, on words and extended reals: the generator's rounds, the uniform it
   draws and the Gumbel value of that. Every program of the certificate computes this function, entry by entry. -/
module

public import Idealize.ShloMosaic.PureOps
public import Mathlib.Data.EReal.Basic
public import Mathlib.Analysis.SpecialFunctions.Log.Basic

@[expose] public section

noncomputable section

namespace Cert.Noise

open Idealize.ShloMosaic

/-- One round of the generator, the rotation as a shift left by `a` and one right by `b`. -/
def rnd (a b : BitVec 32) (p : BitVec 32 × BitVec 32) : BitVec 32 × BitVec 32 :=
  (IntOp.addi p.1 p.2,
    IntOp.xori (IntOp.addi p.1 p.2) (IntOp.ori (IntOp.shli .host p.2 a) (IntOp.shrui .host p.2 b)))

/-- The same round as the kernel's unit computes it, the exclusive or's operands in the other order. -/
def rndV (a b : BitVec 32) (p : BitVec 32 × BitVec 32) : BitVec 32 × BitVec 32 :=
  (IntOp.addi p.1 p.2,
    IntOp.xori (IntOp.ori (IntOp.shli .vector p.2 a) (IntOp.shrui .vector p.2 b)) (IntOp.addi p.1 p.2))

/-- The same round as the kernel's host lines compute it. -/
def rndH (a b : BitVec 32) (p : BitVec 32 × BitVec 32) : BitVec 32 × BitVec 32 :=
  (IntOp.addi p.1 p.2,
    IntOp.xori (IntOp.ori (IntOp.shli .host p.2 a) (IntOp.shrui .host p.2 b)) (IntOp.addi p.1 p.2))

theorem rndH_eq (a b : BitVec 32) (p : BitVec 32 × BitVec 32) : rndH a b p = rnd a b p := by
  simp only [rndH, rnd, IntOp.xori, BitVec.xor_comm]

theorem rndV_eq {a b : BitVec 32} (ha : a.toNat < 32) (hb : b.toNat < 32) (p : BitVec 32 × BitVec 32) : rndV a b p = rnd a b p := by
  simp only [rndV, rnd, IntOp.xori, IntOp.shli, IntOp.shrui, ha, hb, if_true, BitVec.xor_comm]

/-- Four rounds with rotations by 13, 15, 26 and 6, over any round. -/
def quadA (R : BitVec 32 → BitVec 32 → BitVec 32 × BitVec 32 → BitVec 32 × BitVec 32) (p : BitVec 32 × BitVec 32) : BitVec 32 × BitVec 32 :=
  R 6#32 26#32 (R 26#32 6#32 (R 15#32 17#32 (R 13#32 19#32 p)))

/-- Four rounds with rotations by 17, 29, 16 and 24, over any round. -/
def quadB (R : BitVec 32 → BitVec 32 → BitVec 32 × BitVec 32 → BitVec 32 × BitVec 32) (p : BitVec 32 × BitVec 32) : BitVec 32 × BitVec 32 :=
  R 24#32 8#32 (R 16#32 16#32 (R 29#32 3#32 (R 17#32 15#32 p)))

/-- A key injection: a word on each side, and the group's number on the second. -/
def inj (k l e : BitVec 32) (p : BitVec 32 × BitVec 32) : BitVec 32 × BitVec 32 :=
  (IntOp.addi p.1 k, IntOp.addi (IntOp.addi p.2 l) e)

/-- The third key word. -/
def key2 (k0 k1 : BitVec 32) : BitVec 32 := IntOp.xori (IntOp.xori k0 k1) 466688986#32

/-- The generator's two words from its key and its position's two words, over any round. -/
def words (R : BitVec 32 → BitVec 32 → BitVec 32 × BitVec 32 → BitVec 32 × BitVec 32) (k0 k1 k2 hi lo : BitVec 32) : BitVec 32 × BitVec 32 :=
  inj k2 k0 5#32 (quadA R (inj k1 k2 4#32 (quadB R (inj k0 k1 3#32 (quadA R (inj k2 k0 2#32 (quadB R
    (inj k1 k2 1#32 (quadA R (IntOp.addi hi k0, IntOp.addi lo k1))))))))))

theorem words_H (k0 k1 k2 hi lo : BitVec 32) : words rndH k0 k1 k2 hi lo = words rnd k0 k1 k2 hi lo := by
  have h : rndH = rnd := by funext a b p; exact rndH_eq a b p
  rw [h]

theorem words_V (k0 k1 k2 hi lo : BitVec 32) : words rndV k0 k1 k2 hi lo = words rnd k0 k1 k2 hi lo := by
  have hA : quadA rndV = quadA rnd := by
    funext p
    simp only [quadA]
    repeat rw [rndV_eq (by decide) (by decide)]
  have hB : quadB rndV = quadB rnd := by
    funext p
    simp only [quadB]
    repeat rw [rndV_eq (by decide) (by decide)]
  simp only [words, hA, hB]

/-- The generator's word at position `n`, the key being the literal one. -/
def bits (n : BitVec 32) : BitVec 32 :=
  IntOp.xori (words rnd 0#32 1234#32 466689800#32 0#32 n).1 (words rnd 0#32 1234#32 466689800#32 0#32 n).2

variable {F : FTy → Type} [FloatOps F]

/-- The least uniform drawn. -/
def lo : F .f32 := FloatOps.ofBits .f32 0x2EDBE6FF#32

/-- One. -/
def one : F .f32 := FloatOps.ofBits .f32 0x3F800000#32

/-- The uniform of a generator's word. -/
def uni (w : BitVec 32) : F .f32 :=
  FloatOps.maximumf lo (FloatOps.addf (FloatOps.mulf
    (FloatOps.subf (FloatOps.ofBits .f32 (IntOp.ori (IntOp.shrui .host w 9#32) 1065353216#32)) one) (FloatOps.subf one lo)) lo)

/-- The Gumbel value of a generator's word. -/
def gum (w : BitVec 32) : F .f32 := FloatOps.hostNegf (FloatOps.hostUnary .log (FloatOps.hostNegf (FloatOps.hostUnary .log (uni w))))

/-- A Gumbel value in quantisation steps from the middle, rounded and clamped. -/
def steps (g : F .f32) : F .f32 :=
  FloatOps.minimumf (FloatOps.ofBits .f32 0x42FE0000#32) (FloatOps.maximumf (FloatOps.ofBits .f32 0xC3000000#32)
    (FloatOps.hostUnary .roundeven (FloatOps.hostDivf (FloatOps.subf g (FloatOps.ofBits .f32 0x40D80000#32)) (FloatOps.ofBits .f32 0x3D9FD306#32))))

/-- The signed byte of a Gumbel value. -/
def quan (g : F .f32) : BitVec 8 := BitVec.setWidth 8 (FloatOps.fptosi 32 (steps g))

end Cert.Noise

end
-- ==== Proof.Bounds.lean ====
/- The noise at the extended reals: every Gumbel value drawn is a real number, and its byte is within half a step of it. -/
module

public import proofs.«01_k».proof.Proof.Noise
public import Idealize.ShloMosaic.PureOps.Ideal
public import Idealize.ShloMosaic.PureOps.Ideal.Laws

@[expose] public section

noncomputable section

namespace Cert.Noise

open Idealize.ShloMosaic

/-- The quantisation step. -/
def stp : ℝ := 10474246 / 134217728

/-- The least uniform, as a real. -/
def loR : ℝ := 14411519 / 144115188075855872

theorem stp_pos : 0 < stp := by norm_num [stp]

theorem ofBits_one : Ideal.ofBits .f32 0x3F800000#32 = ((1 : ℝ) : EReal) := by
  unfold Ideal.ofBits Ideal.ieee
  dsimp only
  rw [if_neg (by decide), if_neg (by decide)]
  refine congrArg _ ?_
  simp
  try norm_num

theorem ofBits_lo : Ideal.ofBits .f32 0x2EDBE6FF#32 = ((loR : ℝ) : EReal) := by
  unfold Ideal.ofBits Ideal.ieee
  dsimp only
  rw [if_neg (by decide), if_neg (by decide)]
  refine congrArg _ ?_
  simp [loR]
  try norm_num

theorem ofBits_mid : Ideal.ofBits .f32 0x40D80000#32 = ((6.75 : ℝ) : EReal) := by
  unfold Ideal.ofBits Ideal.ieee
  dsimp only
  rw [if_neg (by decide), if_neg (by decide)]
  refine congrArg _ ?_
  simp
  try norm_num

theorem ofBits_stp : Ideal.ofBits .f32 0x3D9FD306#32 = ((stp : ℝ) : EReal) := by
  unfold Ideal.ofBits Ideal.ieee
  dsimp only
  rw [if_neg (by decide), if_neg (by decide)]
  refine congrArg _ ?_
  simp [stp]
  try norm_num

theorem ofBits_band : Ideal.ofBits .f32 0x3DA00000#32 = ((5 / 64 : ℝ) : EReal) := by
  unfold Ideal.ofBits Ideal.ieee
  dsimp only
  rw [if_neg (by decide), if_neg (by decide)]
  refine congrArg _ ?_
  simp
  try norm_num

theorem ofBits_top : Ideal.ofBits .f32 0x42FE0000#32 = ((127 : ℝ) : EReal) := by
  unfold Ideal.ofBits Ideal.ieee
  dsimp only
  rw [if_neg (by decide), if_neg (by decide)]
  refine congrArg _ ?_
  simp
  try norm_num

theorem ofBits_bot : Ideal.ofBits .f32 0xC3000000#32 = ((-128 : ℝ) : EReal) := by
  unfold Ideal.ofBits Ideal.ieee
  dsimp only
  rw [if_neg (by decide), if_neg (by decide)]
  refine congrArg _ ?_
  simp
  try norm_num

theorem ofBits_ninf : Ideal.ofBits .f32 0xFF800000#32 = (⊥ : EReal) := by
  simp [Ideal.ofBits, Ideal.ieee]

theorem ofBits_inf : Ideal.ofBits .f32 0x7F800000#32 = (⊤ : EReal) := by
  simp [Ideal.ofBits, Ideal.ieee]

/-- A word whose upper bits are those of one is a real from one up to two. -/
theorem ofBits_unit (w : BitVec 32) : ∃ k : ℕ, k < 8388608 ∧
    Ideal.ofBits .f32 (IntOp.ori (IntOp.shrui .host w 9#32) 1065353216#32) = ((1 + k / 8388608 : ℝ) : EReal) := by
  have e : IntOp.ori (IntOp.shrui .host w 9#32) 1065353216#32 = (w >>> 9) ||| 1065353216#32 := rfl
  rw [e]
  have h1 : ((w >>> 9) ||| 1065353216#32).extractLsb' 31 1 = 0#1 := by
    ext i hi
    have : i = 0 := by omega
    subst this
    simp
  have h2 : ((w >>> 9) ||| 1065353216#32).extractLsb' 23 8 = 127#8 := by
    ext i hi
    interval_cases i <;> simp
  refine ⟨(((w >>> 9) ||| 1065353216#32).extractLsb' 0 23).toNat, (((w >>> 9) ||| 1065353216#32).extractLsb' 0 23).isLt, ?_⟩
  unfold Ideal.ofBits Ideal.ieee
  dsimp only
  rw [show 8 + 23 = 31 from rfl, h1, h2, if_neg (by decide), if_neg (by decide)]
  refine congrArg _ ?_
  generalize (((w >>> 9) ||| 1065353216#32).extractLsb' 0 23).toNat = k
  simp
  ring

/-- The uniform drawn is a real, well inside the unit interval. -/
theorem uni_real (w : BitVec 32) : ∃ u : ℝ, uni (F := Ideal) w = (u : EReal) ∧ loR ≤ u ∧ u ≤ 1 - 1 / 16777216 := by
  obtain ⟨k, hk, e⟩ := ofBits_unit w
  refine ⟨max loR ((1 + k / 8388608 - 1) * (1 - loR) + loR), ?_, le_max_left _ _, ?_⟩
  · simp only [uni, lo, one, Ideal.ofBits_def, e, ofBits_one, ofBits_lo, Ideal.maximumf_def, Ideal.addf_def, Ideal.mulf_def, Ideal.subf_def]
    norm_cast
  · have hk' : (k : ℝ) ≤ 8388607 := by exact_mod_cast Nat.le_of_lt_succ hk
    have h0 : (0 : ℝ) ≤ k := Nat.cast_nonneg k
    refine max_le (by norm_num [loR]) ?_
    norm_num [loR]
    linarith

theorem exp_one_ge : (2.7 : ℝ) ≤ Real.exp 1 := by
  have h := Real.sum_le_exp_of_nonneg (x := 1) (by norm_num) 5
  norm_num [Finset.sum_range_succ, Nat.factorial] at h
  linarith

theorem exp_24 : (1 : ℝ) / loR ≤ Real.exp 24 := by
  have h : Real.exp 24 = Real.exp 1 ^ 24 := by rw [← Real.exp_nat_mul]; norm_num
  rw [h]
  refine le_trans ?_ (pow_le_pow_left₀ (by norm_num) exp_one_ge 24)
  norm_num [loR]

theorem exp_326 : (24 : ℝ) ≤ Real.exp 3.26 := by
  have h : Real.exp 3.26 = Real.exp 1 ^ 3 * Real.exp 0.26 := by rw [← Real.exp_nat_mul, ← Real.exp_add]; norm_num
  rw [h]
  have h1 := pow_le_pow_left₀ (by norm_num) exp_one_ge 3
  have h2 := Real.add_one_le_exp 0.26
  calc (24 : ℝ) ≤ 2.7 ^ 3 * (0.26 + 1) := by norm_num
    _ ≤ _ := mul_le_mul h1 h2 (by norm_num) (by positivity)

theorem log_two_le : Real.log 2 ≤ 0.695 := by
  rw [Real.log_le_iff_le_exp (by norm_num)]
  have h := Real.sum_le_exp_of_nonneg (x := 0.695) (by norm_num) 6
  refine le_trans ?_ h
  norm_num [Finset.sum_range_succ, Nat.factorial]

/-- The Gumbel value drawn is a real, within the byte's reach. -/
theorem gum_real (w : BitVec 32) : ∃ γ : ℝ, gum (F := Ideal) w = (γ : EReal) ∧ -3.26 ≤ γ ∧ γ ≤ 16.68 := by
  obtain ⟨u, e, h1, h2⟩ := uni_real w
  have hlo : (0 : ℝ) < loR := by norm_num [loR]
  have hu : 0 < u := lt_of_lt_of_le hlo h1
  have hL1 : 1 - u ≤ -Real.log u := by have := Real.log_le_sub_one_of_pos hu; linarith
  have hL2 : (1 / 16777216 : ℝ) ≤ -Real.log u := by linarith
  have hL : 0 < -Real.log u := lt_of_lt_of_le (by norm_num) hL2
  have hL3 : -Real.log u ≤ 24 := by
    rw [← Real.log_inv, Real.log_le_iff_le_exp (inv_pos.mpr hu)]
    refine le_trans ?_ exp_24
    rw [one_div]
    exact inv_anti₀ hlo h1
  refine ⟨-Real.log (-Real.log u), ?_, ?_, ?_⟩
  · have e1 : Ideal.log (u : EReal) = ((Real.log u : ℝ) : EReal) := if_neg (not_le.mpr hu)
    have e2 : Ideal.log ((-Real.log u : ℝ) : EReal) = ((Real.log (-Real.log u) : ℝ) : EReal) := if_neg (not_le.mpr hL)
    change -(Ideal.log (-(Ideal.log (uni (F := Ideal) w)))) = _
    rw [e, e1, ← EReal.coe_neg, e2, ← EReal.coe_neg]
  · have : Real.log (-Real.log u) ≤ 3.26 := by
      rw [Real.log_le_iff_le_exp hL]
      exact le_trans hL3 exp_326
    linarith
  · have h3 : Real.log (1 / 16777216) ≤ Real.log (-Real.log u) := Real.log_le_log (by norm_num) hL2
    have h4 : Real.log (1 / 16777216) = -(24 * Real.log 2) := by
      rw [one_div, Real.log_inv, show (16777216 : ℝ) = 2 ^ 24 by norm_num, Real.log_pow]
      norm_num
    have := log_two_le
    linarith

theorem roundHalfEven_near (t : ℝ) : |(Ideal.roundHalfEven t : ℝ) - t| ≤ 1 / 2 := by
  have h1 := Int.floor_le t
  have h2 := Int.lt_floor_add_one t
  unfold Ideal.roundHalfEven
  rw [abs_le]
  dsimp only
  split_ifs <;> constructor <;> push_cast <;> linarith

theorem byte_toInt : ∀ k : Fin 256, (BitVec.setWidth 8 (BitVec.ofInt 32 ((k : ℤ) - 128))).toInt = (k : ℤ) - 128 := by decide

/-- The byte of a Gumbel value stands for it within half a step. -/
theorem quan_near (γ : ℝ) (h1 : -3.26 ≤ γ) (h2 : γ ≤ 16.68) :
    |γ - ((quan (F := Ideal) (γ : EReal)).toInt * stp + 6.75)| ≤ stp / 2 := by
  have hs := stp_pos
  have ht := roundHalfEven_near ((γ - 6.75) / stp)
  obtain ⟨q, hq⟩ : ∃ q, q = Ideal.roundHalfEven ((γ - 6.75) / stp) := ⟨_, rfl⟩
  rw [← hq, abs_le] at ht
  have hlow : -128.3 ≤ (γ - 6.75) / stp := by
    rw [le_div_iff₀ hs]
    norm_num [stp]
    linarith
  have hhigh : (γ - 6.75) / stp ≤ 127.3 := by
    rw [div_le_iff₀ hs]
    norm_num [stp]
    linarith
  have hq1 : -128 ≤ q := by
    have : (-129 : ℝ) < q := by linarith
    have : -129 < q := by exact_mod_cast this
    omega
  have hq2 : q ≤ 127 := by
    have : (q : ℝ) < 128 := by linarith
    have : q < 128 := by exact_mod_cast this
    omega
  have hdiv : Ideal.div (((γ - 6.75 : ℝ)) : EReal) (stp : EReal) = (((γ - 6.75) / stp : ℝ) : EReal) := by
    rw [Ideal.div, if_neg (by exact_mod_cast hs.ne'), ← EReal.coe_inv, ← EReal.coe_mul, div_eq_mul_inv]
  have hsteps : steps (F := Ideal) (γ : EReal) = ((q : ℝ) : EReal) := by
    change min (Ideal.ofBits .f32 0x42FE0000#32) (max (Ideal.ofBits .f32 0xC3000000#32)
      (Ideal.liftRound Ideal.roundHalfEven (Ideal.div ((γ : EReal) - Ideal.ofBits .f32 0x40D80000#32) (Ideal.ofBits .f32 0x3D9FD306#32)))) = _
    rw [ofBits_top, ofBits_bot, ofBits_mid, ofBits_stp, ← EReal.coe_sub, hdiv]
    change min ((127 : ℝ) : EReal) (max ((-128 : ℝ) : EReal) (((Ideal.roundHalfEven ((γ - 6.75) / stp) : ℤ) : ℝ) : EReal)) = _
    rw [← hq, max_eq_right (by exact_mod_cast hq1), min_eq_right (by exact_mod_cast hq2)]
  have hbyte : (quan (F := Ideal) (γ : EReal)).toInt = q := by
    rw [quan, hsteps]
    change (BitVec.setWidth 8 (Ideal.fptosi 32 ((q : ℝ) : EReal))).toInt = q
    have e : Ideal.fptosi 32 ((q : ℝ) : EReal) = BitVec.ofInt 32 q := by
      rw [Ideal.fptosi]
      congr 1
      change max _ (min _ (if (0 : ℝ) ≤ q then ⌊(q : ℝ)⌋ else ⌈(q : ℝ)⌉)) = q
      rw [Int.floor_intCast, Int.ceil_intCast, ite_self]
      norm_num
      omega
    rw [e]
    have := byte_toInt ⟨(q + 128).toNat, by omega⟩
    have e2 : (((⟨(q + 128).toNat, by omega⟩ : Fin 256) : ℕ) : ℤ) - 128 = q := by
      simp only []
      omega
    rw [e2] at this
    exact this
  rw [hbyte, abs_le]
  have e3 : γ - 6.75 = (γ - 6.75) / stp * stp := by field_simp
  constructor <;> nlinarith [ht.1, ht.2]

end Cert.Noise

end
-- ==== Proof.Folds.lean ====
/- Extremes over axes, read at the ideal instance: each is one of its terms and bounds them all. -/
module

public import proofs.«01_k».proof.Proof.Bounds
public import Idealize.ShloMosaic.Lib.Tactic
public import Idealize.ShloMosaic.Lib.ValueIdxCore

@[expose] public section

noncomputable section

open Idealize Idealize.ShloMosaic

namespace Cert.Folds

section Ints

variable {s t : Shape} {axes : List (Fin s.rank)}

/-- A signed least value is at most each of its terms and, unless it is the start, one of them. -/
theorem min_fold {ι : Type} (S : Finset ι) (f : ι → BitVec 32) :
    (∀ i ∈ S, (S.fold IntOp.minsi 0x7FFFFFFF#32 f).toInt ≤ (f i).toInt)
      ∧ (S.fold IntOp.minsi 0x7FFFFFFF#32 f = 0x7FFFFFFF#32
        ∨ ∃ i ∈ S, S.fold IntOp.minsi 0x7FFFFFFF#32 f = f i) := by
  classical
  induction S using Finset.induction_on with
  | empty => exact ⟨fun i hi => absurd hi (Finset.notMem_empty i), .inl rfl⟩
  | insert a S ha ih =>
    rw [Finset.fold_insert ha]
    obtain ⟨h1, h2⟩ := ih
    have hm : ∀ x y : BitVec 32, IntOp.minsi x y = if x.toInt ≤ y.toInt then x else y := fun x y => by
      simp [IntOp.minsi, BitVec.sle, decide_eq_true_eq, BitVec.slt]
      try split <;> split <;> first | rfl | omega | (apply BitVec.eq_of_toInt_eq; omega)
    rw [hm]
    split
    next hle =>
      refine ⟨fun i hi => ?_, .inr ⟨a, Finset.mem_insert_self a S, rfl⟩⟩
      rcases Finset.mem_insert.mp hi with rfl | hi
      · exact le_refl _
      · exact hle.trans (h1 i hi)
    next hle =>
      refine ⟨fun i hi => ?_, ?_⟩
      · rcases Finset.mem_insert.mp hi with rfl | hi
        · omega
        · exact h1 i hi
      · rcases h2 with h2 | ⟨i, hi, h2⟩
        · exact .inl h2
        · exact .inr ⟨i, Finset.mem_insert_of_mem hi, h2⟩

/-- The signed minimum over an axis bounds every term over its result index. -/
theorem minI_le (src : IVec s 32) (h : s.Reduces axes t) (hacc) (i : s.Idx) :
    (multiReductionI .minsi axes t src 0x7FFFFFFF#32 h hacc (h.drop i)).toInt ≤ (src i).toInt := by
  rw [multiReductionI_eq_fold]
  exact (min_fold _ src).1 i (by simp)

/-- It is the start value or one of the terms. -/
theorem minI_mem (src : IVec s 32) (h : s.Reduces axes t) (hacc) (j : t.Idx) :
    multiReductionI .minsi axes t src 0x7FFFFFFF#32 h hacc j = 0x7FFFFFFF#32
      ∨ ∃ i, h.drop i = j ∧ multiReductionI .minsi axes t src 0x7FFFFFFF#32 h hacc j = src i := by
  rw [multiReductionI_eq_fold]
  rcases (min_fold (Finset.univ.filter fun i => h.drop i = j) src).2 with h2 | ⟨i, hi, h2⟩
  · exact .inl h2
  · exact .inr ⟨i, (Finset.mem_filter.mp hi).2, h2⟩

end Ints

section Floats

variable {s t : Shape} {axes : List (Fin s.rank)}

/-- A greatest value is at least each of its terms and, over something, one of them. -/
theorem max_fold {ι : Type} (S : Finset ι) (f : ι → EReal) :
    (∀ i ∈ S, f i ≤ S.fold max ⊥ f) ∧ (S.Nonempty → ∃ i ∈ S, S.fold max ⊥ f = f i) := by
  classical
  induction S using Finset.induction_on with
  | empty => exact ⟨fun i hi => absurd hi (Finset.notMem_empty i), fun h => absurd h (by simp)⟩
  | insert a S ha ih =>
    rw [Finset.fold_insert ha]
    obtain ⟨h1, h2⟩ := ih
    refine ⟨fun i hi => ?_, fun _ => ?_⟩
    · rcases Finset.mem_insert.mp hi with rfl | hi
      · exact le_max_left _ _
      · exact (h1 i hi).trans (le_max_right _ _)
    · rcases S.eq_empty_or_nonempty with rfl | hS
      · exact ⟨a, Finset.mem_insert_self a _, by simp⟩
      · obtain ⟨i, hi, he⟩ := h2 hS
        rcases le_total (f a) (S.fold max ⊥ f) with h | h
        · exact ⟨i, Finset.mem_insert_of_mem hi, by rw [max_eq_right h, he]⟩
        · exact ⟨a, Finset.mem_insert_self a S, max_eq_left h⟩

/-- The float maximum over an axis, as a fold from the bottom. -/
theorem maxF_eq (src : FVec Ideal s .f32) (h : s.Reduces axes t) (hφ) (hacc) (j : t.Idx) :
    multiReduction .maximumf axes t src 0xFF800000#32 h hφ hacc j
      = (Finset.univ.filter fun i => h.drop i = j).fold max (⊥ : EReal) src := by
  rw [multiReduction_maximumf_eq_fold]
  rw [show (FloatOps.ofBits (F := Ideal) .f32 0xFF800000#32) = (⊥ : EReal) from Cert.Noise.ofBits_ninf]
  rfl

/-- The float maximum bounds every term over its result index. -/
theorem maxF_le (src : FVec Ideal s .f32) (h : s.Reduces axes t) (hφ) (hacc) (i : s.Idx) :
    src i ≤ multiReduction .maximumf axes t src 0xFF800000#32 h hφ hacc (h.drop i) := by
  rw [maxF_eq]
  exact (max_fold _ src).1 i (by simp)

/-- It is one of the terms when there is one. -/
theorem maxF_mem (src : FVec Ideal s .f32) (h : s.Reduces axes t) (hφ) (hacc) (i : s.Idx) :
    ∃ k, h.drop k = h.drop i ∧ multiReduction .maximumf axes t src 0xFF800000#32 h hφ hacc (h.drop i) = src k := by
  rw [maxF_eq]
  obtain ⟨k, hk, he⟩ := (max_fold (Finset.univ.filter fun k => h.drop k = h.drop i) src).2
    ⟨i, by simp⟩
  exact ⟨k, (Finset.mem_filter.mp hk).2, he⟩

end Floats

end Cert.Folds

end
-- ==== Proof.Screen.lean ====
/- A screening point at the ideal instance: the three greatest columns of the block, row by row. -/
module

public import proofs.«01_k».proof.Proof.Body
public import proofs.«01_k».proof.Proof.Folds
public import proofs.«01_k».proof.Proof.Bounds
public import Idealize.ShloMosaic.Lib.Pipeline.Value

@[expose] public section

noncomputable section

namespace Cert.KernelIdeal.Screen

open Cert.KernelIdeal Cert.KernelIdeal.Gen Cert.KernelIdeal.Body
open Idealize.ShloMosaic
open Idealize.ShloMosaic.ValueIdx

/-! ## The layout operations read at an index -/

theorem col_cast {α : Type} (v : S128.Idx → α) (r : Fin 128) : shapeCast S128x1 v shapeCasts_S128_S128x1 (ix2 r 0) = v (ix1 r) := by
  refine shapeCast_apply v _ _ _ ?_
  rw [Shape.rowMajor_val_one, Shape.rowMajor_val_two]
  show r.val = r.val * 1 + 0
  omega

theorem row_cast {α : Type} (v : S128x1.Idx → α) (r : Fin 128) : shapeCast S1x128x1 v shapeCasts_S128x1_S1x128x1 (row1 r) = v (ix2 r 0) := by
  refine shapeCast_apply v _ _ _ ?_
  rw [Shape.rowMajor_val_two, Shape.rowMajor_val_three]
  show r.val * 1 + 0 = (0 * 128 + r.val) * 1 + 0
  omega

theorem wide {α : Type} (v : S128x1.Idx → α) (r : Fin 128) (c : Fin 8192) :
    broadcastTo S128x8192 v broadcasts_S128x1_S128x8192 (ix2 r c) = v (ix2 r 0) := by
  refine broadcastTo_apply v _ _ _ fun a => ?_
  match a with
  | ⟨0, _⟩ => rfl
  | ⟨1, _⟩ => rfl

theorem drop_ix (i : S128x8192.Idx) : reduces_S128x8192_S128.drop i = ix1 (i 0) := by
  funext b
  match b with
  | ⟨0, _⟩ => exact Fin.ext rfl

theorem lift_ix (r : Fin 128) (c : Fin 8192) : reduces_S128x8192_S128.lift (ix1 r) c = ix2 r c := by
  funext a
  match a with
  | ⟨0, _⟩ => exact Fin.ext rfl
  | ⟨1, _⟩ => exact Fin.ext rfl

/-! ## The columns -/

/-- The global number of a block's column. -/
def col (j : ℕ) (c : Fin 8192) : BitVec 32 := BitVec.ofNat 32 (j * 8192 + c.val)

theorem toNat_col {j : ℕ} (hj : j < 13) (c : Fin 8192) : (col j c).toNat = j * 8192 + c.val := by
  unfold col
  rw [BitVec.toNat_ofNat]
  have := c.isLt
  omega

theorem col_inj {j : ℕ} (hj : j < 13) {c d : Fin 8192} (h : col j c = col j d) : c = d := by
  have h1 := congrArg BitVec.toNat h
  rw [toNat_col hj, toNat_col hj] at h1
  exact Fin.ext (by omega)

theorem col_ne {j : ℕ} (hj : j < 13) (c : Fin 8192) : col j c ≠ 0x7FFFFFFF#32 := by
  intro h
  have h1 := congrArg BitVec.toNat h
  rw [toNat_col hj] at h1
  have := c.isLt
  simp at h1
  omega

theorem pay54_at {j : ℕ} (hj : j < 13) (r : Fin 128) (c : Fin 8192) : k0_pay54 (BitVec.ofNat 32 j) (ix2 r c) = col j c := by
  have h : k0_pay54 (BitVec.ofNat 32 j) (ix2 r c) = BitVec.ofNat 32 j * 8192#32 + BitVec.ofNat 32 (0 * 8192 + c.val) := rfl
  rw [h]
  apply BitVec.eq_of_toNat_eq
  rw [toNat_col hj]
  have := c.isLt
  simp only [BitVec.toNat_add, BitVec.toNat_mul, BitVec.toNat_ofNat]
  omega

/-! ## The first greatest column -/

/-- The least number among a row's greatest scores. -/
def sel (s : FVec Ideal S128x8192 .f32) (q : IVec S128x8192 32) : IVec S128 32 :=
  multiReductionI .minsi [1] S128 (select (cmpf .oeq s (broadcastTo S128x8192 (shapeCast S128x1
    (multiReduction .maximumf [1] S128 s 0xFF800000#32 reduces_S128x8192_S128 (.inl rfl) rfl) shapeCasts_S128_S128x1) broadcasts_S128x1_S128x8192))
    q (broadcast S128x8192 2147483647#32)) 2147483647#32 reduces_S128x8192_S128 rfl

/-- The masked numbers at an entry. -/
theorem masked_at (s : FVec Ideal S128x8192 .f32) (q : IVec S128x8192 32) (m : FVec Ideal S128 .f32) (r : Fin 128) (c : Fin 8192) :
    select (cmpf .oeq s (broadcastTo S128x8192 (shapeCast S128x1 m shapeCasts_S128_S128x1) broadcasts_S128x1_S128x8192))
      q (broadcast S128x8192 2147483647#32) (ix2 r c) = if s (ix2 r c) = m (ix1 r) then q (ix2 r c) else 2147483647#32 := by
  have h : select (cmpf .oeq s (broadcastTo S128x8192 (shapeCast S128x1 m shapeCasts_S128_S128x1) broadcasts_S128x1_S128x8192))
      q (broadcast S128x8192 2147483647#32) (ix2 r c)
      = Scalar.select (Ideal.cmp .oeq (s (ix2 r c)) (broadcastTo S128x8192 (shapeCast S128x1 m shapeCasts_S128_S128x1) broadcasts_S128x1_S128x8192 (ix2 r c)))
        (q (ix2 r c)) 2147483647#32 := rfl
  rw [h, wide, col_cast]
  unfold Ideal.cmp Scalar.select
  by_cases he : s (ix2 r c) = m (ix1 r)
  · simp [he]
  · simp [he]

theorem sel_spec (s : FVec Ideal S128x8192 .f32) (q : IVec S128x8192 32) (r : Fin 128) (hq : ∀ c, q (ix2 r c) ≠ 2147483647#32) :
    ∃ c, sel s q (ix1 r) = q (ix2 r c) ∧ ∀ d, s (ix2 r d) ≤ s (ix2 r c) := by
  unfold sel
  have hmax : ∀ d, s (ix2 r d) ≤ multiReduction .maximumf [1] S128 s 0xFF800000#32 reduces_S128x8192_S128 (.inl rfl) rfl (ix1 r) := by
    intro d
    have h := Folds.maxF_le s reduces_S128x8192_S128 (.inl rfl) rfl (ix2 r d)
    rw [drop_ix] at h
    exact h
  have hmem : ∃ k, multiReduction .maximumf [1] S128 s 0xFF800000#32 reduces_S128x8192_S128 (.inl rfl) rfl (ix1 r) = s (ix2 r k) := by
    obtain ⟨k, h1, h2⟩ := Folds.maxF_mem s reduces_S128x8192_S128 (.inl rfl) rfl (ix2 r 0)
    rw [drop_ix, drop_ix] at h1
    rw [drop_ix] at h2
    obtain ⟨a, c, rfl⟩ : ∃ a c, k = ix2 a c := ⟨_, _, eq_ix2 k⟩
    have ha : a = r := congrFun h1 0
    subst ha
    exact ⟨c, h2⟩
  revert hmax hmem
  generalize multiReduction .maximumf [1] S128 s 0xFF800000#32 reduces_S128x8192_S128 (.inl rfl) rfl = m
  intro hmax hmem
  obtain ⟨k, hk⟩ := hmem
  have hle := Folds.minI_le (select (cmpf .oeq s (broadcastTo S128x8192 (shapeCast S128x1 m shapeCasts_S128_S128x1) broadcasts_S128x1_S128x8192))
      q (broadcast S128x8192 2147483647#32)) reduces_S128x8192_S128 rfl (ix2 r k)
  have hm := Folds.minI_mem (select (cmpf .oeq s (broadcastTo S128x8192 (shapeCast S128x1 m shapeCasts_S128_S128x1) broadcasts_S128x1_S128x8192))
      q (broadcast S128x8192 2147483647#32)) reduces_S128x8192_S128 rfl (ix1 r)
  rw [drop_ix, masked_at, if_pos hk.symm] at hle
  have hne : multiReductionI .minsi [1] S128 (select (cmpf .oeq s (broadcastTo S128x8192 (shapeCast S128x1 m shapeCasts_S128_S128x1) broadcasts_S128x1_S128x8192))
      q (broadcast S128x8192 2147483647#32)) 2147483647#32 reduces_S128x8192_S128 rfl (ix1 r) ≠ 2147483647#32 := by
    intro h
    have hle' : (2147483647#32 : BitVec 32).toInt ≤ (q (ix2 r k)).toInt := h ▸ hle
    refine hq k (BitVec.eq_of_toInt_eq (le_antisymm ?_ hle'))
    have h1 := (q (ix2 r k)).toInt_lt
    have h2 : (2147483647#32 : BitVec 32).toInt = 2147483647 := by decide
    rw [h2]; omega
  rcases hm with hm | ⟨i, h1, h2⟩
  · exact absurd hm hne
  · obtain ⟨a, c, rfl⟩ : ∃ a c, i = ix2 a c := ⟨_, _, eq_ix2 i⟩
    rw [drop_ix] at h1
    have ha : a = r := congrFun h1 0
    subst ha
    rw [masked_at] at h2
    by_cases he : s (ix2 a c) = m (ix1 a)
    · rw [if_pos he] at h2
      exact ⟨c, h2, fun d => (hmax d).trans (le_of_eq he.symm)⟩
    · rw [if_neg he] at h2
      exact absurd h2 hne

/-- A row's sum of the marked entries. -/
def kept (x : FVec Ideal S128x8192 .f32) (b : IVec S128x8192 1) : FVec Ideal S128 .f32 :=
  multiReduction .add [1] S128 (select b x (broadcast S128x8192 (Scalar.ofBits .f32 0x00000000#32))) 0x00000000#32 reduces_S128x8192_S128 (.inl rfl) rfl

/-- The sum that keeps one entry of a row. -/
theorem keep_one (x : FVec Ideal S128x8192 .f32) (b : IVec S128x8192 1) (r : Fin 128) (c : Fin 8192)
    (hb : ∀ d, b (ix2 r d) = if d = c then 1#1 else 0#1) :
    kept x b (ix1 r) = x (ix2 r c) := by
  refine (Ideal.multiReduction_add_single (select b x (broadcast S128x8192 (Scalar.ofBits .f32 0x00000000#32))) 0x00000000#32 reduces_S128x8192_S128 (.inl rfl) rfl (ix1 r)).trans ?_
  have h : ∀ d : Fin 8192, select b x (broadcast S128x8192 (Scalar.ofBits .f32 0x00000000#32)) (reduces_S128x8192_S128.lift (ix1 r) d)
      = if d = c then x (ix2 r c) else 0 := by
    intro d
    rw [lift_ix]
    have h1 : select b x (broadcast S128x8192 (Scalar.ofBits .f32 0x00000000#32)) (ix2 r d)
      = Scalar.select (b (ix2 r d)) (x (ix2 r d)) (Ideal.ofBits .f32 0x00000000#32) := rfl
    have h0 : Ideal.ofBits .f32 0x00000000#32 = 0 := by simp [Ideal.ofBits, Ideal.ieee]
    rw [h1, hb, h0]
    by_cases he : d = c
    · subst he; simp [Scalar.select]
    · simp [Scalar.select, he]
  refine (Finset.sum_congr rfl fun d _ => h d).trans ?_
  have h2 : (∑ d : Fin 8192, if d = c then x (ix2 r c) else 0) = x (ix2 r c) := by
    rw [Finset.sum_ite_eq' Finset.univ c]
    simp
  exact h2

/-- A mark of one column. -/
theorem mark_at {j : ℕ} (hj : j < 13) (v : IVec S128x1 32) (q : IVec S128x8192 32) (r : Fin 128) (hq : ∀ d, q (ix2 r d) = col j d) (c : Fin 8192) (hv : v (ix2 r 0) = col j c)
    (d : Fin 8192) : cmpi .eq q (broadcastTo S128x8192 v broadcasts_S128x1_S128x8192) (ix2 r d) = if d = c then 1#1 else 0#1 := by
  have h : cmpi .eq q (broadcastTo S128x8192 v broadcasts_S128x1_S128x8192) (ix2 r d)
    = BitVec.ofBool (q (ix2 r d) == broadcastTo S128x8192 v broadcasts_S128x1_S128x8192 (ix2 r d)) := rfl
  rw [h, wide, hq, hv]
  by_cases he : d = c
  · subst he; simp
  · rw [if_neg he, beq_eq_false_iff_ne.mpr (fun hh => he (col_inj hj hh))]; rfl

/-- A score vector with one column struck out. -/
theorem struck_at (b : IVec S128x8192 1) (s : FVec Ideal S128x8192 .f32) (r : Fin 128) (c : Fin 8192)
    (hb : ∀ d, b (ix2 r d) = if d = c then 1#1 else 0#1) (d : Fin 8192) :
    select b (broadcast S128x8192 (Scalar.ofBits .f32 0xFF800000#32)) s (ix2 r d) = if d = c then (⊥ : EReal) else s (ix2 r d) := by
  have h1 : select b (broadcast S128x8192 (Scalar.ofBits .f32 0xFF800000#32)) s (ix2 r d)
    = Scalar.select (b (ix2 r d)) (Ideal.ofBits .f32 0xFF800000#32) (s (ix2 r d)) := rfl
  rw [h1, hb, Noise.ofBits_ninf]
  by_cases he : d = c
  · simp [Scalar.select, he]
  · simp [Scalar.select, he]

/-- What a screening point writes of a row: three columns, each greatest once those before it are struck out, and their entries. -/
theorem screened {j : ℕ} (hj : j < 13) (A : S128x8192.Idx → EReal) (B C : S64x8192.Idx → BitVec 8) (r : Fin 128) :
    let a := BitVec.ofNat 32 j
    ∃ c0 c1 c2 : Fin 8192,
      (k0_pay66 (k0_pay56 (F := Ideal) a A B C) (row1 r) = col j c0 ∧ k0_pay67 (k0_pay60 (F := Ideal) a A B C) (row1 r) = col j c1
        ∧ k0_pay68 (F := Ideal) (k0_pay54 a) (k0_pay59 a A B C) (k0_pay60 (F := Ideal) a A B C) (row1 r) = col j c2)
      ∧ (k0_pay69 (F := Ideal) (k0_pay58 a A B C) (row1 r) = A (ix2 r c0) ∧ k0_pay3 (F := Ideal) (k0_pay63 (k0_pay54 a) A (k0_pay60 (F := Ideal) a A B C)) (row1 r) = A (ix2 r c1)
        ∧ k0_pay4 (F := Ideal) (k0_pay65 (k0_pay54 a) A (k0_pay59 a A B C) (k0_pay60 (F := Ideal) a A B C)) (row1 r) = A (ix2 r c2))
      ∧ (∀ d, k0_pay55 (F := Ideal) a A B C (ix2 r d) ≤ k0_pay55 (F := Ideal) a A B C (ix2 r c0))
      ∧ (∀ d, (if d = c0 then (⊥ : EReal) else k0_pay55 (F := Ideal) a A B C (ix2 r d)) ≤ if c1 = c0 then (⊥ : EReal) else k0_pay55 (F := Ideal) a A B C (ix2 r c1))
      ∧ (∀ d, (if d = c1 then (⊥ : EReal) else if d = c0 then (⊥ : EReal) else k0_pay55 (F := Ideal) a A B C (ix2 r d))
          ≤ if c2 = c1 then (⊥ : EReal) else if c2 = c0 then (⊥ : EReal) else k0_pay55 (F := Ideal) a A B C (ix2 r c2)) := by
  intro a
  have hq : ∀ d, k0_pay54 a (ix2 r d) = col j d := fun d => pay54_at hj r d
  have hqn : ∀ d, k0_pay54 a (ix2 r d) ≠ 2147483647#32 := fun d => by rw [hq]; exact col_ne hj d
  obtain ⟨c0, h0, m0⟩ := sel_spec (k0_pay55 (F := Ideal) a A B C) (k0_pay54 a) r hqn
  have e0 : k0_pay56 (F := Ideal) a A B C (ix2 r 0) = col j c0 := by
    rw [← hq c0, ← h0]
    exact col_cast (sel (k0_pay55 (F := Ideal) a A B C) (k0_pay54 a)) r
  have b0 : ∀ d, k0_pay57 (F := Ideal) a A B C (ix2 r d) = if d = c0 then 1#1 else 0#1 := fun d =>
    mark_at hj (k0_pay56 (F := Ideal) a A B C) (k0_pay54 a) r hq c0 e0 d
  have s1 : ∀ d, k0_pay59 (F := Ideal) a A B C (ix2 r d) = if d = c0 then (⊥ : EReal) else k0_pay55 (F := Ideal) a A B C (ix2 r d) :=
    fun d => struck_at (k0_pay57 (F := Ideal) a A B C) (k0_pay55 (F := Ideal) a A B C) r c0 b0 d
  obtain ⟨c1, h1, m1⟩ := sel_spec (k0_pay59 (F := Ideal) a A B C) (k0_pay54 a) r hqn
  have e1 : k0_pay60 (F := Ideal) a A B C (ix1 r) = col j c1 := by
    rw [← hq c1, ← h1]
    rfl
  have e1' : k0_pay61 (k0_pay60 (F := Ideal) a A B C) (ix2 r 0) = col j c1 :=
    (show k0_pay61 (k0_pay60 (F := Ideal) a A B C) (ix2 r 0) = k0_pay60 (F := Ideal) a A B C (ix1 r) from col_cast (k0_pay60 (F := Ideal) a A B C) r).trans e1
  have b1 : ∀ d, k0_pay62 (k0_pay54 a) (k0_pay60 (F := Ideal) a A B C) (ix2 r d) = if d = c1 then 1#1 else 0#1 := fun d =>
    mark_at hj (k0_pay61 (k0_pay60 (F := Ideal) a A B C)) (k0_pay54 a) r hq c1 e1' d
  have s2 : ∀ d, select (k0_pay62 (k0_pay54 a) (k0_pay60 (F := Ideal) a A B C)) (broadcast S128x8192 (Scalar.ofBits .f32 0xFF800000#32)) (k0_pay59 (F := Ideal) a A B C) (ix2 r d)
      = if d = c1 then (⊥ : EReal) else if d = c0 then (⊥ : EReal) else k0_pay55 (F := Ideal) a A B C (ix2 r d) := fun d => by
    rw [← s1 d]
    exact struck_at (k0_pay62 (k0_pay54 a) (k0_pay60 (F := Ideal) a A B C)) (k0_pay59 (F := Ideal) a A B C) r c1 b1 d
  obtain ⟨c2, h2, m2⟩ := sel_spec (select (k0_pay62 (k0_pay54 a) (k0_pay60 (F := Ideal) a A B C)) (broadcast S128x8192 (Scalar.ofBits .f32 0xFF800000#32)) (k0_pay59 (F := Ideal) a A B C))
    (k0_pay54 a) r hqn
  have e2 : k0_pay64 (F := Ideal) (k0_pay54 a) (k0_pay59 a A B C) (k0_pay60 (F := Ideal) a A B C) (ix2 r 0) = col j c2 := by
    rw [← hq c2, ← h2]
    exact col_cast (sel _ (k0_pay54 a)) r
  have p66 : ∀ v : IVec S128x1 32, k0_pay66 v (row1 r) = v (ix2 r 0) := fun v => row_cast v r
  have p67 : ∀ v : IVec S128 32, k0_pay67 v (row1 r) = k0_pay61 v (ix2 r 0) := fun v => row_cast (k0_pay61 v) r
  have p68 : ∀ (q : IVec S128x8192 32) (s : FVec Ideal S128x8192 .f32) (v : IVec S128 32),
      k0_pay68 (F := Ideal) q s v (row1 r) = k0_pay64 (F := Ideal) q s v (ix2 r 0) := fun q s v => row_cast (k0_pay64 (F := Ideal) q s v) r
  have p69 : ∀ v : FVec Ideal S128x1 .f32, k0_pay69 (F := Ideal) v (row1 r) = v (ix2 r 0) := fun v => row_cast v r
  have p3 : ∀ v : FVec Ideal S128x1 .f32, k0_pay3 (F := Ideal) v (row1 r) = v (ix2 r 0) := fun v => row_cast v r
  have p4 : ∀ v : FVec Ideal S128x1 .f32, k0_pay4 (F := Ideal) v (row1 r) = v (ix2 r 0) := fun v => row_cast v r
  have x0 : k0_pay58 (F := Ideal) a A B C (ix2 r 0) = A (ix2 r c0) := by
    have h : k0_pay58 (F := Ideal) a A B C = shapeCast S128x1 (kept A (k0_pay57 (F := Ideal) a A B C)) shapeCasts_S128_S128x1 := rfl
    rw [h, col_cast]
    exact keep_one A _ r c0 b0
  have x1 : k0_pay63 (F := Ideal) (k0_pay54 a) A (k0_pay60 (F := Ideal) a A B C) (ix2 r 0) = A (ix2 r c1) := by
    have h : k0_pay63 (F := Ideal) (k0_pay54 a) A (k0_pay60 (F := Ideal) a A B C)
      = shapeCast S128x1 (kept A (k0_pay62 (k0_pay54 a) (k0_pay60 (F := Ideal) a A B C))) shapeCasts_S128_S128x1 := rfl
    rw [h, col_cast]
    exact keep_one A _ r c1 b1
  have x2 : k0_pay65 (F := Ideal) (k0_pay54 a) A (k0_pay59 a A B C) (k0_pay60 (F := Ideal) a A B C) (ix2 r 0) = A (ix2 r c2) := by
    have h : k0_pay65 (F := Ideal) (k0_pay54 a) A (k0_pay59 a A B C) (k0_pay60 (F := Ideal) a A B C)
      = shapeCast S128x1 (kept A (cmpi .eq (k0_pay54 a) (broadcastTo S128x8192 (k0_pay64 (F := Ideal) (k0_pay54 a) (k0_pay59 a A B C) (k0_pay60 (F := Ideal) a A B C))
          broadcasts_S128x1_S128x8192))) shapeCasts_S128_S128x1 := rfl
    rw [h, col_cast]
    exact keep_one A _ r c2 (fun d => mark_at hj _ (k0_pay54 a) r hq c2 e2 d)
  refine ⟨c0, c1, c2, ⟨(p66 _).trans e0, (p67 _).trans e1', (p68 _ _ _).trans e2⟩,
    ⟨(p69 _).trans x0, (p3 _).trans x1, (p4 _).trans x2⟩,
    m0, fun d => ?_, fun d => ?_⟩
  · have := m1 d
    rw [s1, s1] at this
    exact this
  · have := m2 d
    rw [s2, s2] at this
    exact this

end Cert.KernelIdeal.Screen

end
-- ==== Proof.Pick.lean ====
/- The winner picked from the tables: every slot's noisy score, and the least position among the greatest. -/
module

public import proofs.«01_k».proof.Proof.Body
public import proofs.«01_k».proof.Proof.Noise
public import Idealize.ShloMosaic.Lib.Tactic

@[expose] public section

noncomputable section

namespace Cert.KernelIdeal.Pick

open Cert.KernelIdeal Cert.KernelIdeal.Gen Cert.KernelIdeal.Body
open Idealize.ShloMosaic Idealize.ShloMosaic.TcCoe Idealize.SL.Sem
open Cert.Noise

variable {F : FTy → Type} [FloatOps F]

/-- The entry of a slot in the generator's order, a slot without a column reading column 0 of its row. -/
def at' (P : IVec S16x128x4 32) (y : S16x128x4.Idx) : BitVec 32 :=
  IntOp.addi (IntOp.muli (BitVec.ofNat 32 (0 * S16x128x4.size 1 + (y 1).val)) 100000#32) (Scalar.select (IntOp.cmpi .slt (P y) 100000#32) (P y) 0#32)

/-- The uniform of a generator's word, shifted as the kernel shifts. -/
def uniV (w : BitVec 32) : F .f32 :=
  FloatOps.maximumf lo (FloatOps.addf (FloatOps.mulf
    (FloatOps.subf (FloatOps.ofBits .f32 (IntOp.ori (IntOp.shrui .vector w 9#32) 1065353216#32)) one) (Scalar.subf one lo)) lo)

/-- The Gumbel value of a generator's word, as the kernel computes it. -/
def gumV (w : BitVec 32) : F .f32 :=
  FloatOps.subf (FloatOps.ofBits .f32 0#32) (FloatOps.log (FloatOps.subf (FloatOps.ofBits .f32 0#32) (FloatOps.log (uniV w))))

/-- The generator's word of a slot, as the kernel computes it. -/
def bitsV (n : BitVec 32) : BitVec 32 :=
  IntOp.xori (words rndV 0#32 1234#32 466689800#32 0#32 n).1 (words rndV 0#32 1234#32 466689800#32 0#32 n).2

/-- Every slot's noisy score. -/
def scoreV (P : IVec S16x128x4 32) (X : FVec F S16x128x4 .f32) : FVec F S16x128x4 .f32 := fun y =>
  Scalar.select (IntOp.cmpi .slt (P y) 100000#32) (FloatOps.addf (X y) (gumV (bitsV (at' P y)))) (FloatOps.ofBits .f32 0xFF800000#32)

/-- The least position among a row's greatest scores. -/
def best (P : IVec S16x128x4 32) (E : FVec F S16x128x4 .f32) : IVec S128x1 32 :=
  k0_pay5 (multiReductionI .minsi [0] S128x4 (select (cmpf .oeq E (broadcastTo S16x128x4 (shapeCast S1x128x1 (shapeCast S128x1
    (multiReduction .maximumf [1] S128 (multiReduction .maximumf [0] S128x4 E 0xFF800000#32 reduces_S16x128x4_S128x4 (.inl rfl) rfl)
      0xFF800000#32 reduces_S128x4_S128 (.inl rfl) rfl) shapeCasts_S128_S128x1) shapeCasts_S128x1_S1x128x1) broadcasts_S1x128x1_S16x128x4))
    P (broadcast S16x128x4 2147483647#32)) 2147483647#32 reduces_S16x128x4_S128x4 rfl)

/-- The scores from the generator's last words and the uniform shift. -/
def sc (P : IVec S16x128x4 32) (X : FVec F S16x128x4 .f32) (v271 v272 v274 v275 : IVec S16x128x4 32) : FVec F S16x128x4 .f32 := fun y =>
  Scalar.select (IntOp.cmpi .slt (P y) 100000#32) (FloatOps.addf (X y) (gumV (IntOp.xori
    (IntOp.addi (v272 y) 466689800#32)
    (IntOp.addi (IntOp.addi (IntOp.xori (IntOp.ori (v274 y) (IntOp.shrui .vector (v271 y) (v275 y))) (v272 y)) 0#32) 5#32))))
    (FloatOps.ofBits .f32 0xFF800000#32)

theorem pay53_eq (P : IVec S16x128x4 32) (X : FVec F S16x128x4 .f32) (v271 v272 v274 v275 : IVec S16x128x4 32) :
    k0_pay5 (k0_pay53 P X (k0_pay7 (F := F) P) v271 v272 v274 v275) = best P (sc P X v271 v272 v274 v275) := by
  sl_kernel_rfl

theorem pay8_eq (P : IVec S16x128x4 32) (y : S16x128x4.Idx) : k0_pay8 (F := F) P y = IntOp.addi (at' P y) 1234#32 := by
  sl_kernel_rfl

theorem words_eq (P : IVec S16x128x4 32) (y : S16x128x4.Idx) :
    IntOp.xori
    (IntOp.addi (k0_pay50 (mid2 (F := F) P).1 (mid2 (F := F) P).2 y) 466689800#32)
    (IntOp.addi (IntOp.addi (IntOp.xori (IntOp.ori (k0_pay51 (mid2 (F := F) P).1 (mid2 (F := F) P).2 y)
      (IntOp.shrui .vector (k0_pay49 (mid2 (F := F) P).1 (mid2 (F := F) P).2 y) (k0_pay52 y)))
        (k0_pay50 (mid2 (F := F) P).1 (mid2 (F := F) P).2 y)) 0#32) 5#32)
      = bitsV (at' P y) := by
  sl_kernel_rfl

theorem pick_eq (P : IVec S16x128x4 32) (X : FVec F S16x128x4 .f32) : pick P X = best P (scoreV P X) := by
  refine (pay53_eq P X _ _ _ _).trans (congrArg (best P) (funext fun y => ?_))
  exact congrArg (fun w => Scalar.select (IntOp.cmpi .slt (P y) 100000#32) (FloatOps.addf (X y) (gumV w)) (FloatOps.ofBits .f32 0xFF800000#32))
    (words_eq P y)

end Cert.KernelIdeal.Pick

end
-- ==== Proof.PickValue.lean ====
/- The winner picked, at the ideal instance: the position of a slot whose noisy score is greatest, the least among those. -/
module

public import proofs.«01_k».proof.Proof.Pick
public import proofs.«01_k».proof.Proof.Folds
public import proofs.«01_k».proof.Proof.Bounds
public import Idealize.ShloMosaic.Lib.Pipeline.Value

@[expose] public section

noncomputable section

namespace Cert.KernelIdeal.PickValue

open Cert.KernelIdeal Cert.KernelIdeal.Gen Cert.KernelIdeal.Body Cert.KernelIdeal.Pick
open Idealize.ShloMosaic
open Idealize.ShloMosaic.ValueIdx
open Cert.Noise

/-! ## The noise -/

theorem uniV_eq (w : BitVec 32) : uniV (F := Ideal) w = uni w := by
  have h : IntOp.shrui .vector w 9#32 = IntOp.shrui .host w 9#32 := rfl
  unfold uniV uni
  rw [h]
  rfl

theorem zero_bits : Ideal.ofBits .f32 0x00000000#32 = 0 := by simp [Ideal.ofBits, Ideal.ieee]

theorem gumV_eq (w : BitVec 32) : gumV (F := Ideal) w = gum w := by
  have h : gumV (F := Ideal) w = Ideal.ofBits .f32 0x00000000#32 - Ideal.log (Ideal.ofBits .f32 0x00000000#32 - Ideal.log (uniV (F := Ideal) w)) := rfl
  have h' : gum (F := Ideal) w = -(Ideal.log (-(Ideal.log (uni (F := Ideal) w)))) := rfl
  rw [h, h', zero_bits, uniV_eq, zero_sub, zero_sub]

theorem bitsV_eq (n : BitVec 32) : bitsV n = bits n := by
  unfold bitsV bits
  rw [words_V]

/-! ## The pick -/

theorem col_cast {α : Type} (v : S128.Idx → α) (r : Fin 128) : shapeCast S128x1 v shapeCasts_S128_S128x1 (ix2 r 0) = v (ix1 r) := by
  refine shapeCast_apply v _ _ _ ?_
  rw [Shape.rowMajor_val_one, Shape.rowMajor_val_two]
  show r.val = r.val * 1 + 0
  omega

theorem row_cast {α : Type} (v : S128x1.Idx → α) (r : Fin 128) : shapeCast S1x128x1 v shapeCasts_S128x1_S1x128x1 (ix3 0 r 0) = v (ix2 r 0) := by
  refine shapeCast_apply v _ _ _ ?_
  rw [Shape.rowMajor_val_two, Shape.rowMajor_val_three]
  show r.val * 1 + 0 = (0 * 128 + r.val) * 1 + 0
  omega

theorem wide {α : Type} (v : S1x128x1.Idx → α) (i : Fin 16) (r : Fin 128) (k : Fin 4) :
    broadcastTo S16x128x4 v broadcasts_S1x128x1_S16x128x4 (ix3 i r k) = v (ix3 0 r 0) := by
  refine broadcastTo_apply v _ _ _ fun a => ?_
  match a with
  | ⟨0, _⟩ => rfl
  | ⟨1, _⟩ => rfl
  | ⟨2, _⟩ => rfl

theorem drop3 (y : S16x128x4.Idx) : reduces_S16x128x4_S128x4.drop y = ix2 (y 1) (y 2) := by
  funext b
  match b with
  | ⟨0, _⟩ => exact Fin.ext rfl
  | ⟨1, _⟩ => exact Fin.ext rfl

theorem drop2 (y : S128x4.Idx) : reduces_S128x4_S128.drop y = ix1 (y 0) := by
  funext b
  match b with
  | ⟨0, _⟩ => exact Fin.ext rfl

/-- The greatest score of a row. -/
def top (E : FVec Ideal S16x128x4 .f32) : FVec Ideal S128 .f32 :=
  multiReduction .maximumf [1] S128 (multiReduction .maximumf [0] S128x4 E 0xFF800000#32 reduces_S16x128x4_S128x4 (.inl rfl) rfl)
    0xFF800000#32 reduces_S128x4_S128 (.inl rfl) rfl

theorem top_le (E : FVec Ideal S16x128x4 .f32) (i : Fin 16) (r : Fin 128) (k : Fin 4) : E (ix3 i r k) ≤ top E (ix1 r) := by
  have h1 := Folds.maxF_le E reduces_S16x128x4_S128x4 (.inl rfl) rfl (ix3 i r k)
  have h2 := Folds.maxF_le (multiReduction .maximumf [0] S128x4 E 0xFF800000#32 reduces_S16x128x4_S128x4 (.inl rfl) rfl)
    reduces_S128x4_S128 (.inl rfl) rfl (ix2 r k)
  rw [drop3] at h1
  rw [drop2] at h2
  exact h1.trans h2

theorem top_mem (E : FVec Ideal S16x128x4 .f32) (r : Fin 128) : ∃ i k, top E (ix1 r) = E (ix3 i r k) := by
  obtain ⟨y, h1, h2⟩ := Folds.maxF_mem (multiReduction .maximumf [0] S128x4 E 0xFF800000#32 reduces_S16x128x4_S128x4 (.inl rfl) rfl)
    reduces_S128x4_S128 (.inl rfl) rfl (ix2 r 0)
  obtain ⟨a, k, rfl⟩ : ∃ a k, y = ix2 a k := ⟨_, _, eq_ix2 y⟩
  rw [drop2, drop2] at h1
  rw [drop2] at h2
  have ha : a = r := congrFun h1 0
  subst ha
  obtain ⟨z, h3, h4⟩ := Folds.maxF_mem E reduces_S16x128x4_S128x4 (.inl rfl) rfl (ix3 0 a k)
  obtain ⟨i, b, l, rfl⟩ : ∃ i b l, z = ix3 i b l := ⟨_, _, _, eq_ix3 z⟩
  rw [drop3, drop3] at h3
  rw [drop3] at h4
  have hb : b = a := congrFun h3 0
  have hl : l = k := congrFun h3 1
  subst hb; subst hl
  exact ⟨i, l, h2.trans h4⟩

/-- The positions of a row's greatest scores, every other slot reading the greatest number. -/
def mask (P : IVec S16x128x4 32) (E : FVec Ideal S16x128x4 .f32) (m : FVec Ideal S128 .f32) : IVec S16x128x4 32 :=
  select (cmpf .oeq E (broadcastTo S16x128x4 (shapeCast S1x128x1 (shapeCast S128x1 m shapeCasts_S128_S128x1) shapeCasts_S128x1_S1x128x1)
    broadcasts_S1x128x1_S16x128x4)) P (broadcast S16x128x4 2147483647#32)

theorem mask_at (P : IVec S16x128x4 32) (E : FVec Ideal S16x128x4 .f32) (m : FVec Ideal S128 .f32) (i : Fin 16) (r : Fin 128) (k : Fin 4) :
    mask P E m (ix3 i r k) = if E (ix3 i r k) = m (ix1 r) then P (ix3 i r k) else 2147483647#32 := by
  have h : mask P E m (ix3 i r k)
      = Scalar.select (Ideal.cmp .oeq (E (ix3 i r k)) (broadcastTo S16x128x4 (shapeCast S1x128x1 (shapeCast S128x1 m shapeCasts_S128_S128x1)
        shapeCasts_S128x1_S1x128x1) broadcasts_S1x128x1_S16x128x4 (ix3 i r k))) (P (ix3 i r k)) 2147483647#32 := rfl
  rw [h, wide, row_cast, col_cast]
  unfold Ideal.cmp Scalar.select
  by_cases he : E (ix3 i r k) = m (ix1 r)
  · simp [he]
  · simp [he]

/-- The least number of a row. -/
def least (v : IVec S16x128x4 32) : IVec S128 32 :=
  multiReductionI .minsi [1] S128 (multiReductionI .minsi [0] S128x4 v 2147483647#32 reduces_S16x128x4_S128x4 rfl) 2147483647#32 reduces_S128x4_S128 rfl

theorem least_le (v : IVec S16x128x4 32) (i : Fin 16) (r : Fin 128) (k : Fin 4) : (least v (ix1 r)).toInt ≤ (v (ix3 i r k)).toInt := by
  have h1 := Folds.minI_le v reduces_S16x128x4_S128x4 rfl (ix3 i r k)
  have h2 := Folds.minI_le (multiReductionI .minsi [0] S128x4 v 2147483647#32 reduces_S16x128x4_S128x4 rfl) reduces_S128x4_S128 rfl (ix2 r k)
  rw [drop3] at h1
  rw [drop2] at h2
  exact h2.trans h1

theorem least_mem (v : IVec S16x128x4 32) (r : Fin 128) : least v (ix1 r) = 2147483647#32 ∨ ∃ i k, least v (ix1 r) = v (ix3 i r k) := by
  have h := Folds.minI_mem (multiReductionI .minsi [0] S128x4 v 2147483647#32 reduces_S16x128x4_S128x4 rfl) reduces_S128x4_S128 rfl (ix1 r)
  rcases h with h | ⟨y, h1, h2⟩
  · exact Or.inl h
  · obtain ⟨a, k, rfl⟩ : ∃ a k, y = ix2 a k := ⟨_, _, eq_ix2 y⟩
    rw [drop2] at h1
    have ha : a = r := congrFun h1 0
    subst ha
    have h' := Folds.minI_mem v reduces_S16x128x4_S128x4 rfl (ix2 a k)
    rcases h' with h' | ⟨z, h3, h4⟩
    · exact Or.inl (h2.trans h')
    · obtain ⟨i, b, l, rfl⟩ : ∃ i b l, z = ix3 i b l := ⟨_, _, _, eq_ix3 z⟩
      rw [drop3] at h3
      have hb : b = a := congrFun h3 0
      have hl : l = k := congrFun h3 1
      subst hb; subst hl
      exact Or.inr ⟨i, l, h2.trans h4⟩

theorem best_least (P : IVec S16x128x4 32) (E : FVec Ideal S16x128x4 .f32) (r : Fin 128) :
    best P E (ix2 r 0) = least (mask P E (top E)) (ix1 r) := by
  have h : best P E = shapeCast S128x1 (shapeCast S128x1 (least (mask P E (top E))) shapeCasts_S128_S128x1) shapeCasts_S128x1_S128x1 := rfl
  rw [h, shapeCast_self, col_cast]

/-- The winner is a slot's position, no slot scores more, and no slot scoring as much has a lesser position. -/
theorem best_spec (P : IVec S16x128x4 32) (E : FVec Ideal S16x128x4 .f32) (r : Fin 128) :
    ∃ i k, best P E (ix2 r 0) = P (ix3 i r k) ∧ (∀ i' k', E (ix3 i' r k') ≤ E (ix3 i r k))
      ∧ ∀ i' k', E (ix3 i' r k') = E (ix3 i r k) → (P (ix3 i r k)).toInt ≤ (P (ix3 i' r k')).toInt := by
  rw [best_least]
  obtain ⟨i0, k0, h0⟩ := top_mem E r
  have hle : ∀ i k, E (ix3 i r k) = top E (ix1 r) → (least (mask P E (top E)) (ix1 r)).toInt ≤ (P (ix3 i r k)).toInt := by
    intro i k he
    have h := least_le (mask P E (top E)) i r k
    rw [mask_at, if_pos he] at h
    exact h
  have hmem : ∃ i k, least (mask P E (top E)) (ix1 r) = P (ix3 i r k) ∧ E (ix3 i r k) = top E (ix1 r) := by
    have hmax : least (mask P E (top E)) (ix1 r) = 2147483647#32 →
        ∃ i k, least (mask P E (top E)) (ix1 r) = P (ix3 i r k) ∧ E (ix3 i r k) = top E (ix1 r) := by
      intro h
      have h1 := hle i0 k0 h0.symm
      refine ⟨i0, k0, BitVec.eq_of_toInt_eq (le_antisymm h1 ?_), h0.symm⟩
      rw [h]
      have h2 := (P (ix3 i0 r k0)).toInt_lt
      have h3 : (2147483647#32 : BitVec 32).toInt = 2147483647 := by decide
      rw [h3]; omega
    rcases least_mem (mask P E (top E)) r with h | ⟨i, k, h⟩
    · exact hmax h
    · by_cases he : E (ix3 i r k) = top E (ix1 r)
      · rw [mask_at, if_pos he] at h
        exact ⟨i, k, h, he⟩
      · rw [mask_at, if_neg he] at h
        exact hmax h
  obtain ⟨i, k, h1, h2⟩ := hmem
  refine ⟨i, k, h1, fun i' k' => ?_, fun i' k' he => ?_⟩
  · rw [h2]; exact top_le E i' r k'
  · rw [← h1]; exact hle i' k' (he.trans h2)

/-! ## The scores -/

/-- The noisy score of a slot that holds a column, and of one that does not. -/
theorem score_at (P : IVec S16x128x4 32) (X : FVec Ideal S16x128x4 .f32) (i : Fin 16) (r : Fin 128) (k : Fin 4) (n : ℕ) (hn : n < 2147483648)
    (hP : P (ix3 i r k) = BitVec.ofNat 32 n) :
    scoreV P X (ix3 i r k) = if n < 100000 then X (ix3 i r k) + gum (F := Ideal) (bits (BitVec.ofNat 32 (r.val * 100000 + n))) else (⊥ : EReal) := by
  have h : scoreV P X (ix3 i r k) = Scalar.select (BitVec.ofBool ((P (ix3 i r k)).slt 100000#32))
      (X (ix3 i r k) + gumV (F := Ideal) (bitsV ((BitVec.ofNat 32 (0 * 128 + r.val)) * 100000#32
        + Scalar.select (BitVec.ofBool ((P (ix3 i r k)).slt 100000#32)) (P (ix3 i r k)) 0#32))) (Ideal.ofBits .f32 0xFF800000#32) := rfl
  have hs : (BitVec.ofNat 32 n).slt 100000#32 = decide (n < 100000) := by
    have h1 : (BitVec.ofNat 32 n).toInt = n := by
      rw [BitVec.toInt_eq_toNat_of_lt]
      · simp; omega
      · simp; omega
    have h2 : (100000#32 : BitVec 32).toInt = 100000 := by decide
    unfold BitVec.slt
    rw [h1, h2]
    by_cases hc : n < 100000
    · simp [hc]
    · simp [hc]
  rw [h, hP, hs, gumV_eq, bitsV_eq, ofBits_ninf]
  by_cases hc : n < 100000
  · have hb : BitVec.ofNat 32 (0 * 128 + r.val) * 100000#32 + BitVec.ofNat 32 n = BitVec.ofNat 32 (r.val * 100000 + n) := by
      apply BitVec.eq_of_toNat_eq
      simp [BitVec.toNat_add, BitVec.toNat_mul]
    simp [hc, Scalar.select] at hb ⊢
    rw [hb]
  · simp [hc, Scalar.select]

end Cert.KernelIdeal.PickValue

end
-- ==== Proof.Winner.lean ====
/- The winner of a row out of the tables: the three kept columns of its block hold it, and the pick finds it. -/
module

public import proofs.«01_k».proof.Proof.PickValue

@[expose] public section

noncomputable section

namespace Cert.KernelIdeal.Winner

open Cert.KernelIdeal Cert.KernelIdeal.Gen Cert.KernelIdeal.Pick
open Idealize.ShloMosaic
open Idealize.ShloMosaic.ValueIdx
open Cert.Noise

/-- The screening score of a column: its logit and its quantised noise, the middle left out. -/
def sc (x γ : Fin 128 → Fin 100000 → ℝ) (r : Fin 128) (c : Fin 100000) : ℝ := x r c + (quan (F := Ideal) (γ r c : EReal)).toInt * stp

/-- A block's slots hold three distinct columns of the block with their logits, no other column of the block screens better, and the fourth slot is
empty. -/
def Three (x γ : Fin 128 → Fin 100000 → ℝ) (P : S16x128x4.Idx → BitVec 32) (X : S16x128x4.Idx → EReal) (j : Fin 16) (r : Fin 128) : Prop :=
  P (ix3 j r 3) = 2147483647#32 ∧ ∃ c : Fin 3 → Fin 100000, Function.Injective c ∧ ∀ k : Fin 3,
    (c k).val / 8192 = j.val ∧ P (ix3 j r k.castSucc) = BitVec.ofNat 32 (c k).val ∧ X (ix3 j r k.castSucc) = (x r (c k) : EReal)
    ∧ ∀ d : Fin 100000, d.val / 8192 = j.val → (∀ l, d ≠ c l) → sc x γ r d ≤ sc x γ r (c k)

/-- A row of the tables is complete after the first `p` blocks, the slots of later blocks being empty. -/
def Upto (x γ : Fin 128 → Fin 100000 → ℝ) (P : S16x128x4.Idx → BitVec 32) (X : S16x128x4.Idx → EReal) (p : ℕ) (r : Fin 128) : Prop :=
  (∀ j : Fin 16, j.val < p → j.val < 13 → Three x γ P X j r) ∧ ∀ j : Fin 16, p ≤ j.val → ∀ k, P (ix3 j r k) = 2147483647#32

section

variable {x γ : Fin 128 → Fin 100000 → ℝ} {r : Fin 128} {w : Fin 100000}

/-- The winner is among the three kept columns of its block. -/
theorem kept_winner (hγ : ∀ c, -3.26 ≤ γ r c ∧ γ r c ≤ 16.68) (hw : ∀ c, x r c + γ r c ≤ x r w + γ r w)
    (hfew : (Finset.univ.filter fun c => x r w + γ r w ≤ x r c + γ r c + 5/64).card ≤ 3)
    {P : S16x128x4.Idx → BitVec 32} {X : S16x128x4.Idx → EReal} {j : Fin 16} (hj : w.val / 8192 = j.val) (h : Three x γ P X j r) :
    ∃ k : Fin 4, P (ix3 j r k) = BitVec.ofNat 32 w.val := by
  obtain ⟨_, c, hc, hk⟩ := h
  by_contra hno
  push Not at hno
  have hne : ∀ l, w ≠ c l := fun l he => hno l.castSucc (by rw [he]; exact (hk l).2.1)
  have hnear : ∀ l, x r w + γ r w ≤ x r (c l) + γ r (c l) + 5/64 := by
    intro l
    have h1 := (hk l).2.2.2 w hj hne
    have h2 := abs_le.mp (quan_near (γ r w) (hγ w).1 (hγ w).2)
    have h3 := abs_le.mp (quan_near (γ r (c l)) (hγ (c l)).1 (hγ (c l)).2)
    have h4 : stp ≤ 5/64 + 1/1000 := by unfold stp; norm_num
    have h5 : stp < 5/64 := by unfold stp; norm_num
    unfold sc at h1
    linarith [h2.1, h2.2, h3.1, h3.2]
  have hsub : insert w (Finset.univ.image c) ⊆ Finset.univ.filter fun c => x r w + γ r w ≤ x r c + γ r c + 5/64 := by
    intro d hd
    rw [Finset.mem_insert, Finset.mem_image] at hd
    rw [Finset.mem_filter]
    refine ⟨Finset.mem_univ _, ?_⟩
    rcases hd with rfl | ⟨l, _, rfl⟩
    · linarith
    · exact hnear l
  have hcard : (insert w (Finset.univ.image c)).card = 4 := by
    rw [Finset.card_insert_of_notMem, Finset.card_image_of_injective _ hc]
    · rfl
    · intro hm
      obtain ⟨l, _, hl⟩ := Finset.mem_image.mp hm
      exact hne l hl.symm
  have := (Finset.card_le_card hsub).trans hfew
  omega

/-- Every slot of a complete table is empty or holds a column with its logit. -/
theorem slot_cases {P : S16x128x4.Idx → BitVec 32} {X : S16x128x4.Idx → EReal} (h : Upto x γ P X 13 r) (j : Fin 16) (k : Fin 4) :
    P (ix3 j r k) = BitVec.ofNat 32 2147483647 ∨ ∃ c : Fin 100000, P (ix3 j r k) = BitVec.ofNat 32 c.val ∧ X (ix3 j r k) = (x r c : EReal) := by
  by_cases hj : j.val < 13
  · obtain ⟨h3, c, _, hk⟩ := h.1 j hj hj
    induction k using Fin.lastCases with
    | last => exact Or.inl h3
    | cast l => exact Or.inr ⟨c l, (hk l).2.1, (hk l).2.2.1⟩
  · exact Or.inl (h.2 j (by omega) k)

/-- The pick is the row's first greatest column. -/
theorem pick_winner (hγ : ∀ c, -3.26 ≤ γ r c ∧ γ r c ≤ 16.68) (hg : ∀ c, gum (F := Ideal) (bits (BitVec.ofNat 32 (r.val * 100000 + c.val))) = (γ r c : EReal))
    (hw : ∀ c, x r c + γ r c ≤ x r w + γ r w) (hf : ∀ c, x r c + γ r c = x r w + γ r w → w ≤ c)
    (hfew : (Finset.univ.filter fun c => x r w + γ r w ≤ x r c + γ r c + 5/64).card ≤ 3)
    {P : IVec S16x128x4 32} {X : FVec Ideal S16x128x4 .f32} (h : Upto x γ P X 13 r) :
    best P (scoreV P X) (ix2 r 0) = BitVec.ofNat 32 w.val := by
  have hlt : w.val / 8192 < 13 := by have := w.isLt; omega
  have hb : ∀ (j : Fin 16) (k : Fin 4) (c : Fin 100000), P (ix3 j r k) = BitVec.ofNat 32 c.val → scoreV P X (ix3 j r k) = ((x r c + γ r c : ℝ) : EReal) := by
    intro j k c hP
    have hs := PickValue.score_at P X j r k c.val (by have := c.isLt; omega) hP
    rw [if_pos c.isLt, hg] at hs
    rcases slot_cases h j k with h' | ⟨d, h1, h2⟩
    · exfalso
      have := congrArg BitVec.toNat (hP.symm.trans h')
      have hc := c.isLt
      simp at this
      omega
    · have hdc : d = c := by
        have := congrArg BitVec.toNat (hP.symm.trans h1)
        have hc := c.isLt
        have hd := d.isLt
        simp at this
        exact Fin.ext (by omega)
      subst hdc
      rw [hs, h2]
      exact (EReal.coe_add _ _).symm
  obtain ⟨k0, hk0⟩ := kept_winner (j := ⟨w.val / 8192, by omega⟩) hγ hw hfew rfl (h.1 ⟨w.val / 8192, by omega⟩ hlt hlt)
  have hsw := hb _ _ w hk0
  obtain ⟨i, k, h1, h2, h3⟩ := PickValue.best_spec P (scoreV P X) r
  rw [h1]
  have hge := h2 ⟨w.val / 8192, by omega⟩ k0
  rw [hsw] at hge
  rcases slot_cases h i k with h' | ⟨d, h', _⟩
  · exfalso
    have hs := PickValue.score_at P X i r k 2147483647 (by norm_num) h'
    rw [if_neg (by norm_num)] at hs
    rw [hs] at hge
    exact absurd (le_bot_iff.mp hge) (EReal.coe_ne_bot _)
  · have hd := hb i k d h'
    rw [hd] at hge
    have hge' := EReal.coe_le_coe_iff.mp hge
    have heq : x r d + γ r d = x r w + γ r w := le_antisymm (hw d) hge'
    have hle := h3 ⟨w.val / 8192, by omega⟩ k0 (by rw [hsw, hd, heq])
    rw [h', hk0] at hle
    have hi : ∀ c : Fin 100000, (BitVec.ofNat 32 c.val).toInt = c.val := by
      intro c
      have := c.isLt
      rw [BitVec.toInt_eq_toNat_of_lt]
      · simp; omega
      · simp; omega
    rw [hi, hi] at hle
    have h4 := hf d heq
    have h5 : w.val ≤ d.val := h4
    have h6 : d.val = w.val := by omega
    rw [h', h6]

end

end Cert.KernelIdeal.Winner

end
-- ==== Proof.Step.lean ====
/- A screening point completes its block's row of the tables. -/
module

public import proofs.«01_k».proof.Proof.Screen
public import proofs.«01_k».proof.Proof.Winner

@[expose] public section

noncomputable section

namespace Cert.KernelIdeal.Step

open Cert.KernelIdeal Cert.KernelIdeal.Gen Cert.KernelIdeal.Body Cert.KernelIdeal.Screen Cert.KernelIdeal.Winner
open Idealize.ShloMosaic
open Idealize.ShloMosaic.ValueIdx
open Cert.Noise

/-- Three columns, each greatest once those before it are struck out, are distinct and real, and no other column is greater. -/
theorem three_of (s : Fin 8192 → EReal) (V : Fin 8192 → Prop) (hv : ∀ d, V d → s d ≠ ⊥) (hn : ∀ d, ¬ V d → s d = ⊥) (v0 : V 0) (v1 : V 1) (v2 : V 2)
    (c0 c1 c2 : Fin 8192) (m0 : ∀ d, s d ≤ s c0) (m1 : ∀ d, (if d = c0 then (⊥ : EReal) else s d) ≤ if c1 = c0 then (⊥ : EReal) else s c1)
    (m2 : ∀ d, (if d = c1 then (⊥ : EReal) else if d = c0 then (⊥ : EReal) else s d) ≤ if c2 = c1 then (⊥ : EReal) else if c2 = c0 then (⊥ : EReal) else s c2) :
    (V c0 ∧ V c1 ∧ V c2) ∧ (c0 ≠ c1 ∧ c0 ≠ c2 ∧ c1 ≠ c2) ∧ s c1 ≤ s c0 ∧ s c2 ≤ s c1 ∧ ∀ d, d ≠ c0 → d ≠ c1 → d ≠ c2 → s d ≤ s c2 := by
  have b0 : V c0 := by
    by_contra h
    have h1 := m0 0
    rw [hn _ h] at h1
    exact hv 0 v0 (le_bot_iff.mp h1)
  have g1 : ∃ d, V d ∧ d ≠ c0 := by
    by_cases h : (0 : Fin 8192) = c0
    · exact ⟨1, v1, fun h' => by rw [← h] at h'; exact absurd h' (by decide)⟩
    · exact ⟨0, v0, h⟩
  have g2 : ∃ d, V d ∧ d ≠ c0 ∧ d ≠ c1 := by
    by_contra hno
    push Not at hno
    have a0 := hno 0 v0
    have a1 := hno 1 v1
    have a2 := hno 2 v2
    have d01 : (0 : Fin 8192) ≠ 1 := by decide
    have d02 : (0 : Fin 8192) ≠ 2 := by decide
    have d12 : (1 : Fin 8192) ≠ 2 := by decide
    by_cases h0 : (0 : Fin 8192) = c0
    · have e1 := a1 (fun h => d01 (h0.trans h.symm))
      have e2 := a2 (fun h => d02 (h0.trans h.symm))
      exact d12 (e1.trans e2.symm)
    · have e0 := a0 h0
      by_cases h1 : (1 : Fin 8192) = c0
      · have e2 := a2 (fun h => d12 (h1.trans h.symm))
        exact d02 (e0.trans e2.symm)
      · exact d01 (e0.trans (a1 h1).symm)
  have n1 : c1 ≠ c0 ∧ s c1 ≠ ⊥ := by
    obtain ⟨d, hd, hne⟩ := g1
    have h1 := m1 d
    rw [if_neg hne] at h1
    by_cases h : c1 = c0
    · rw [if_pos h] at h1
      exact absurd (le_bot_iff.mp h1) (hv d hd)
    · rw [if_neg h] at h1
      exact ⟨h, fun hb => hv d hd (le_bot_iff.mp (hb ▸ h1))⟩
  have n2 : (c2 ≠ c1 ∧ c2 ≠ c0) ∧ s c2 ≠ ⊥ := by
    obtain ⟨d, hd, hne0, hne1⟩ := g2
    have h1 := m2 d
    rw [if_neg hne1, if_neg hne0] at h1
    by_cases h : c2 = c1
    · rw [if_pos h] at h1
      exact absurd (le_bot_iff.mp h1) (hv d hd)
    · rw [if_neg h] at h1
      by_cases h' : c2 = c0
      · rw [if_pos h'] at h1
        exact absurd (le_bot_iff.mp h1) (hv d hd)
      · rw [if_neg h'] at h1
        exact ⟨⟨h, h'⟩, fun hb => hv d hd (le_bot_iff.mp (hb ▸ h1))⟩
  refine ⟨⟨b0, by_contra fun h => n1.2 (hn _ h), by_contra fun h => n2.2 (hn _ h)⟩, ⟨n1.1.symm, n2.1.2.symm, n2.1.1.symm⟩, m0 c1, ?_, ?_⟩
  · have h := m1 c2
    rwa [if_neg n2.1.2, if_neg n1.1] at h
  · intro d h0 h1 _
    have h := m2 d
    rwa [if_neg h1, if_neg h0, if_neg n2.1.1, if_neg n2.1.2] at h

/-! ## The score of a block's column -/

/-- The noise tile of a block: the upper half's rows, then the lower half's. -/
def tile (B C : S64x8192.Idx → BitVec 8) (r : Fin 128) (c : Fin 8192) : BitVec 8 :=
  if h : r.val < 64 then B (ix2 ⟨r.val, h⟩ c) else C (ix2 ⟨r.val - 64, by have := r.isLt; omega⟩ c)

theorem both_at (B C : S64x8192.Idx → BitVec 8) (r : Fin 128) (c : Fin 8192) :
    concatenate S128x8192 0 [⟨S64x8192, B⟩, ⟨S64x8192, C⟩] concatenates_S64x8192_S64x8192_S128x8192_d0 (ix2 r c) = tile B C r c := by
  unfold tile
  by_cases h : r.val < 64
  · rw [dif_pos h]
    refine concatenate_pair_apply_left (t := S128x8192) 0 B C _ _ rfl _ fun b => ?_
    match b with
    | ⟨0, _⟩ => rfl
    | ⟨1, _⟩ => rfl
  · rw [dif_neg h]
    refine concatenate_pair_apply_right (t := S128x8192) 0 B C _ _ rfl rfl _ (fun b hb => ?_) ?_
    · match b with
      | ⟨0, _⟩ => exact absurd rfl hb
      | ⟨1, _⟩ => rfl
    · show r.val - 64 + 64 = r.val
      omega

theorem pay55_at {j : ℕ} (hj : j < 13) (A : S128x8192.Idx → EReal) (B C : S64x8192.Idx → BitVec 8) (r : Fin 128) (c : Fin 8192) :
    k0_pay55 (F := Ideal) (BitVec.ofNat 32 j) A B C (ix2 r c)
      = if j * 8192 + c.val < 100000 then A (ix2 r c) + (((tile B C r c).toInt : ℝ) : EReal) * ((stp : ℝ) : EReal) else (⊥ : EReal) := by
  have hb : ∀ (B' C' : S64x8192.Idx → BitVec 8), B' = B → C' = C →
      Scalar.select (BitVec.ofBool ((k0_pay54 (BitVec.ofNat 32 j) (ix2 r c)).slt 100000#32))
        (A (ix2 r c) + (((concatenate S128x8192 0 [⟨S64x8192, B'⟩, ⟨S64x8192, C'⟩] concatenates_S64x8192_S64x8192_S128x8192_d0 (ix2 r c)).toInt : ℝ) : EReal)
          * Ideal.ofBits .f32 0x3D9FD306#32) (Ideal.ofBits .f32 0xFF800000#32)
      = if j * 8192 + c.val < 100000 then A (ix2 r c) + (((tile B C r c).toInt : ℝ) : EReal) * ((stp : ℝ) : EReal) else (⊥ : EReal) := by
    intro B' C' hB hC
    subst hB; subst hC
    have hs : (col j c).slt 100000#32 = decide (j * 8192 + c.val < 100000) := by
      have h1 : (col j c).toInt = ((j * 8192 + c.val : ℕ) : ℤ) := by
        rw [BitVec.toInt_eq_toNat_of_lt, toNat_col hj]
        rw [toNat_col hj]
        have := c.isLt
        omega
      have h2 : (100000#32 : BitVec 32).toInt = ((100000 : ℕ) : ℤ) := by decide
      unfold BitVec.slt
      rw [h1, h2]
      exact decide_eq_decide.mpr Int.ofNat_lt
    rw [both_at, pay54_at hj, hs, ofBits_stp, ofBits_ninf]
    by_cases hc : j * 8192 + c.val < 100000
    · simp [hc, Scalar.select]
    · simp [hc, Scalar.select]
  exact hb (shapeCast S64x8192 B shapeCasts_S64x8192_S64x8192) (shapeCast S64x8192 C shapeCasts_S64x8192_S64x8192) (shapeCast_self _ _) (shapeCast_self _ _)

/-! ## The point -/

section

variable {x γ : Fin 128 → Fin 100000 → ℝ}

/-- The staged blocks of point `j` hold the logits and the quantised noise, wherever a column exists. -/
def Staged (x γ : Fin 128 → Fin 100000 → ℝ) (j : ℕ) (A : S128x8192.Idx → EReal) (B C : S64x8192.Idx → BitVec 8) : Prop :=
  ∀ (r : Fin 128) (c : Fin 8192) (h : j * 8192 + c.val < 100000), A (ix2 r c) = (x r ⟨j * 8192 + c.val, h⟩ : EReal)
    ∧ tile B C r c = quan (F := Ideal) (γ r ⟨j * 8192 + c.val, h⟩ : EReal)

theorem score_real {j : ℕ} (hj : j < 13) {A : S128x8192.Idx → EReal} {B C : S64x8192.Idx → BitVec 8} (hS : Staged x γ j A B C) (r : Fin 128) (c : Fin 8192)
    (h : j * 8192 + c.val < 100000) : k0_pay55 (F := Ideal) (BitVec.ofNat 32 j) A B C (ix2 r c) = (sc x γ r ⟨j * 8192 + c.val, h⟩ : EReal) := by
  obtain ⟨h1, h2⟩ := hS r c h
  rw [pay55_at hj, if_pos h, h1, h2]
  unfold sc
  rw [EReal.coe_add, EReal.coe_mul]

theorem stepS_other {α : Type} {n : ℕ} (a b c : S1x128x1.Idx → α) (P : S16x128x4.Idx → α) (i : Fin 16) (r : Fin 128) (k : Fin 4) (h : i.val ≠ n) :
    stepS n a b c P (ix3 i r k) = P (ix3 i r k) := if_neg h

theorem stepS_0 {α : Type} (a b c : S1x128x1.Idx → α) (P : S16x128x4.Idx → α) (i : Fin 16) (r : Fin 128) : stepS i.val a b c P (ix3 i r 0) = a (row1 r) := by
  show (if i.val = i.val then _ else _) = _
  rw [if_pos rfl]; rfl
theorem stepS_1 {α : Type} (a b c : S1x128x1.Idx → α) (P : S16x128x4.Idx → α) (i : Fin 16) (r : Fin 128) : stepS i.val a b c P (ix3 i r 1) = b (row1 r) := by
  show (if i.val = i.val then _ else _) = _
  rw [if_pos rfl]; rfl
theorem stepS_2 {α : Type} (a b c : S1x128x1.Idx → α) (P : S16x128x4.Idx → α) (i : Fin 16) (r : Fin 128) : stepS i.val a b c P (ix3 i r 2) = c (row1 r) := by
  show (if i.val = i.val then _ else _) = _
  rw [if_pos rfl]; rfl
theorem stepS_3 {α : Type} (a b c : S1x128x1.Idx → α) (P : S16x128x4.Idx → α) (i : Fin 16) (r : Fin 128) :
    stepS i.val a b c P (ix3 i r 3) = P (ix3 i r 3) := by
  show (if i.val = i.val then _ else _) = _
  rw [if_pos rfl]; rfl

/-- After a screening point its block's row of the tables is complete. -/
theorem three_step (i : grid0.Coords) (j : Fin 16) (hi : (i 0).val = j.val) (hj : j.val < 13) {A : S128x8192.Idx → EReal} {B C : S64x8192.Idx → BitVec 8}
    (hS : Staged x γ j.val A B C) (P : S16x128x4.Idx → BitVec 32) (X : S16x128x4.Idx → EReal) (r : Fin 128) (hP : P (ix3 j r 3) = 2147483647#32) :
    Three x γ (screenP (F := Ideal) i A B C P) (screenX (F := Ideal) i A B C X) j r := by
  unfold screenP screenX pt
  rw [hi]
  obtain ⟨c0, c1, c2, ⟨p0, p1, p2⟩, ⟨x0, x1, x2⟩, m0, m1, m2⟩ := screened hj A B C r
  have h3 := three_of (fun d => k0_pay55 (F := Ideal) (BitVec.ofNat 32 j.val) A B C (ix2 r d)) (fun d => j.val * 8192 + d.val < 100000)
    (fun d hd => by
      show k0_pay55 (F := Ideal) (BitVec.ofNat 32 j.val) A B C (ix2 r d) ≠ ⊥
      rw [score_real hj hS r d hd]; exact EReal.coe_ne_bot _)
    (fun d hd => by
      show k0_pay55 (F := Ideal) (BitVec.ofNat 32 j.val) A B C (ix2 r d) = ⊥
      rw [pay55_at hj, if_neg hd])
    (by show j.val * 8192 + 0 < 100000; omega) (by show j.val * 8192 + 1 < 100000; omega) (by show j.val * 8192 + 2 < 100000; omega)
    c0 c1 c2 m0 m1 m2
  obtain ⟨⟨v0, v1, v2⟩, ⟨n01, n02, n12⟩, l1, l2, l3⟩ := h3
  have toR : ∀ a b (ha : j.val * 8192 + a.val < 100000) (hb : j.val * 8192 + b.val < 100000),
      k0_pay55 (F := Ideal) (BitVec.ofNat 32 j.val) A B C (ix2 r a) ≤ k0_pay55 (F := Ideal) (BitVec.ofNat 32 j.val) A B C (ix2 r b) →
      sc x γ r ⟨j.val * 8192 + a.val, ha⟩ ≤ sc x γ r ⟨j.val * 8192 + b.val, hb⟩ := by
    intro a b ha hb h
    rw [score_real hj hS r a ha, score_real hj hS r b hb] at h
    exact EReal.coe_le_coe_iff.mp h
  have r1 := toR c1 c0 v1 v0 l1
  have r2 := toR c2 c1 v2 v1 l2
  have r3 : ∀ d : Fin 100000, d.val / 8192 = j.val → d.val ≠ j.val * 8192 + c0.val → d.val ≠ j.val * 8192 + c1.val → d.val ≠ j.val * 8192 + c2.val →
      sc x γ r d ≤ sc x γ r ⟨j.val * 8192 + c2.val, v2⟩ := by
    intro d hd h0 h1 h2
    have hlt := d.isLt
    have hmod : j.val * 8192 + d.val % 8192 = d.val := by omega
    have h := toR ⟨d.val % 8192, Nat.mod_lt _ (by norm_num)⟩ c2 (by show j.val * 8192 + d.val % 8192 < 100000; omega) v2
      (l3 _ (fun h => h0 (by rw [← h]; exact hmod.symm)) (fun h => h1 (by rw [← h]; exact hmod.symm)) (fun h => h2 (by rw [← h]; exact hmod.symm)))
    have he : (⟨j.val * 8192 + d.val % 8192, by omega⟩ : Fin 100000) = d := Fin.ext hmod
    rw [← he]
    exact h
  have ne : ∀ a b : Fin 8192, a ≠ b → j.val * 8192 + a.val ≠ j.val * 8192 + b.val := fun a b h h' => h (Fin.ext (by omega))
  have dv : ∀ a : Fin 8192, (j.val * 8192 + a.val) / 8192 = j.val := fun a => by have := a.isLt; omega
  refine ⟨(stepS_3 _ _ _ P j r).trans hP, ![⟨j.val * 8192 + c0.val, v0⟩, ⟨j.val * 8192 + c1.val, v1⟩, ⟨j.val * 8192 + c2.val, v2⟩], ?_, ?_⟩
  · intro a b hab
    have hv := congrArg Fin.val hab
    clear hab
    fin_cases a <;> fin_cases b
    · rfl
    · exact absurd hv (ne _ _ n01)
    · exact absurd hv (ne _ _ n02)
    · exact absurd hv.symm (ne _ _ n01)
    · rfl
    · exact absurd hv (ne _ _ n12)
    · exact absurd hv.symm (ne _ _ n02)
    · exact absurd hv.symm (ne _ _ n12)
    · rfl
  · have last : ∀ d : Fin 100000, d.val / 8192 = j.val →
        (∀ l, d ≠ ((![⟨j.val * 8192 + c0.val, v0⟩, ⟨j.val * 8192 + c1.val, v1⟩, ⟨j.val * 8192 + c2.val, v2⟩] : Fin 3 → Fin 100000) l)) →
        sc x γ r d ≤ sc x γ r ⟨j.val * 8192 + c2.val, v2⟩ := fun d hd hl =>
      r3 d hd (fun h => hl 0 (Fin.ext h)) (fun h => hl 1 (Fin.ext h)) (fun h => hl 2 (Fin.ext h))
    intro k
    fin_cases k
    · exact ⟨dv c0, (stepS_0 _ _ _ P j r).trans p0, ((stepS_0 _ _ _ X j r).trans x0).trans (hS r c0 v0).1,
        fun d hd hl => (last d hd hl).trans (r2.trans r1)⟩
    · exact ⟨dv c1, (stepS_1 _ _ _ P j r).trans p1, ((stepS_1 _ _ _ X j r).trans x1).trans (hS r c1 v1).1,
        fun d hd hl => (last d hd hl).trans r2⟩
    · exact ⟨dv c2, (stepS_2 _ _ _ P j r).trans p2, ((stepS_2 _ _ _ X j r).trans x2).trans (hS r c2 v2).1,
        fun d hd hl => last d hd hl⟩

/-- A screening point takes a table complete up to its block to one complete after it. -/
theorem upto_step (i : grid0.Coords) {A : S128x8192.Idx → EReal} {B C : S64x8192.Idx → BitVec 8} (hi : (i 0).val < 13)
    (hS : Staged x γ (i 0).val A B C) (P : S16x128x4.Idx → BitVec 32) (X : S16x128x4.Idx → EReal) (r : Fin 128) (h : Upto x γ P X (i 0).val r) :
    Upto x γ (screenP (F := Ideal) i A B C P) (screenX (F := Ideal) i A B C X) ((i 0).val + 1) r := by
  refine ⟨fun j hj hj' => ?_, fun j hj k => ?_⟩
  · by_cases he : (i 0).val = j.val
    · exact three_step i j he hj' (he ▸ hS) P X r (h.2 j (le_of_eq he) 3)
    · have hne : j.val ≠ (i 0).val := fun h' => he h'.symm
      have hT := h.1 j (by omega) hj'
      have hp : ∀ k, screenP (F := Ideal) i A B C P (ix3 j r k) = P (ix3 j r k) := fun k => stepS_other _ _ _ P j r k hne
      have hx : ∀ k, screenX (F := Ideal) i A B C X (ix3 j r k) = X (ix3 j r k) := fun k => stepS_other _ _ _ X j r k hne
      obtain ⟨h3, c, hc, hk⟩ := hT
      exact ⟨(hp 3).trans h3, c, hc, fun k => ⟨(hk k).1, (hp _).trans (hk k).2.1, (hx _).trans (hk k).2.2.1, (hk k).2.2.2⟩⟩
  · have hp : screenP (F := Ideal) i A B C P (ix3 j r k) = P (ix3 j r k) := stepS_other _ _ _ P j r k (by omega)
    exact hp.trans (h.2 j (by omega) k)

/-- The emptied tables are complete up to block zero. -/
theorem upto_zero (X : S16x128x4.Idx → EReal) (r : Fin 128) : Upto x γ k0_pay1 X 0 r := by
  refine ⟨fun j hj => absurd hj (by omega), fun j _ k => ?_⟩
  have h : k0_pay1 = shapeCast S16x128x4 (broadcast S16x128x4 2147483647#32) shapeCasts_S16x128x4_S16x128x4 := rfl
  rw [h, shapeCast_self]
  rfl

end

end Cert.KernelIdeal.Step

end
-- ==== Proof.Blocks.lean ====
/- The staged blocks read at an index: a block's column is its array's, wherever the array has it. -/
module

public import proofs.«01_k».proof.Proof.Run
public import Idealize.ShloMosaic.Lib.ValueIdxCore

@[expose] public section

noncomputable section

namespace Cert.KernelIdeal.Body

open Cert.KernelIdeal Cert.KernelIdeal.Gen
open Idealize.ShloMosaic
open Idealize.ShloMosaic.ValueIdx

variable {F : FTy → Type} [FloatOps F]
variable (m : (ℓ : Loc nD τ sig) → Buf (Elt F) ℓ)

theorem size_0 (t : Fin cfg0.N) (h : t.val < 13) : win0_0.xsize (grid0.coords t) 0 = 128 ∧ win0_0.xsize (grid0.coords t) 1 = min 8192 (100000 - t.val * 8192) := by
  have h' : ∀ t : Fin cfg0.N, t.val < 13 → win0_0.xsize (grid0.coords t) 0 = 128 ∧ win0_0.xsize (grid0.coords t) 1 = min 8192 (100000 - t.val * 8192) := by
    decide +kernel
  exact h' t h
theorem size_1 (t : Fin cfg0.N) (h : t.val < 13) : win0_1.xsize (grid0.coords t) 0 = 64 ∧ win0_1.xsize (grid0.coords t) 1 = min 8192 (100000 - t.val * 8192) := by
  have h' : ∀ t : Fin cfg0.N, t.val < 13 → win0_1.xsize (grid0.coords t) 0 = 64 ∧ win0_1.xsize (grid0.coords t) 1 = min 8192 (100000 - t.val * 8192) := by
    decide +kernel
  exact h' t h
theorem size_2 (t : Fin cfg0.N) (h : t.val < 13) : win0_2.xsize (grid0.coords t) 0 = 64 ∧ win0_2.xsize (grid0.coords t) 1 = min 8192 (100000 - t.val * 8192) := by
  have h' : ∀ t : Fin cfg0.N, t.val < 13 → win0_2.xsize (grid0.coords t) 0 = 64 ∧ win0_2.xsize (grid0.coords t) 1 = min 8192 (100000 - t.val * 8192) := by
    decide +kernel
  exact h' t h
theorem size_3 (t : Fin cfg0.N) (h : ¬ t.val < 13) :
    win0_3.xsize (grid0.coords t) 0 = 128 ∧ win0_3.xsize (grid0.coords t) 1 = min 8192 (100000 - (t.val - 13) * 8192) := by
  have h' : ∀ t : Fin cfg0.N, ¬ t.val < 13 →
      win0_3.xsize (grid0.coords t) 0 = 128 ∧ win0_3.xsize (grid0.coords t) 1 = min 8192 (100000 - (t.val - 13) * 8192) := by
    decide +kernel
  exact h' t h

theorem off_0 (t : Fin cfg0.N) (h : t.val < 13) : win0_0.index t 0 * 128 = 0 ∧ win0_0.index t 1 * 8192 = t.val * 8192 := by
  have h' : ∀ t : Fin cfg0.N, t.val < 13 → win0_0.index t 0 * 128 = 0 ∧ win0_0.index t 1 * 8192 = t.val * 8192 := by decide +kernel
  exact h' t h
theorem off_1 (t : Fin cfg0.N) (h : t.val < 13) : win0_1.index t 0 * 64 = 0 ∧ win0_1.index t 1 * 8192 = t.val * 8192 := by
  have h' : ∀ t : Fin cfg0.N, t.val < 13 → win0_1.index t 0 * 64 = 0 ∧ win0_1.index t 1 * 8192 = t.val * 8192 := by decide +kernel
  exact h' t h
theorem off_2 (t : Fin cfg0.N) (h : t.val < 13) : win0_2.index t 0 * 64 = 0 ∧ win0_2.index t 1 * 8192 = t.val * 8192 := by
  have h' : ∀ t : Fin cfg0.N, t.val < 13 → win0_2.index t 0 * 64 = 0 ∧ win0_2.index t 1 * 8192 = t.val * 8192 := by decide +kernel
  exact h' t h
theorem off_3 (t : Fin cfg0.N) (h : ¬ t.val < 13) : win0_3.index t 0 * 128 = 0 ∧ win0_3.index t 1 * 8192 = (t.val - 13) * 8192 := by
  have h' : ∀ t : Fin cfg0.N, ¬ t.val < 13 → win0_3.index t 0 * 128 = 0 ∧ win0_3.index t 1 * 8192 = (t.val - 13) * 8192 := by decide +kernel
  exact h' t h

/-- The array's index under a block's. -/
theorem emb_0 (t : Fin cfg0.N) (h : t.val < 13) (j : (win0_0.xblock (grid0.coords t)).Idx) (r : Fin 128) (k : Fin 8192) (hk : t.val * 8192 + k.val < 100000)
    (h0 : (j 0).val = r.val) (h1 : (j 1).val = k.val) : ((win0_0.blk t).view.emb j : S128x100000.Idx) = ix2 r ⟨t.val * 8192 + k.val, hk⟩ := by
  obtain ⟨o0, o1⟩ := off_0 t h
  have e0 : (((win0_0.blk t).view.emb j : S128x100000.Idx) 0).val = win0_0.index t 0 * 128 + 1 * (j 0).val := rfl
  have e1 : (((win0_0.blk t).view.emb j : S128x100000.Idx) 1).val = win0_0.index t 1 * 8192 + 1 * (j 1).val := rfl
  rw [o0, one_mul, h0, zero_add] at e0
  rw [o1, one_mul, h1] at e1
  refine (eq_ix2 ((win0_0.blk t).view.emb j : S128x100000.Idx)).trans ?_
  exact congrArg₂ ix2 (Fin.ext e0) (Fin.ext e1)

/-- The array's index under a block's. -/
theorem emb_1 (t : Fin cfg0.N) (h : t.val < 13) (j : (win0_1.xblock (grid0.coords t)).Idx) (r : Fin 64) (k : Fin 8192) (hk : t.val * 8192 + k.val < 100000)
    (h0 : (j 0).val = r.val) (h1 : (j 1).val = k.val) : ((win0_1.blk t).view.emb j : S64x100000.Idx) = ix2 r ⟨t.val * 8192 + k.val, hk⟩ := by
  obtain ⟨o0, o1⟩ := off_1 t h
  have e0 : (((win0_1.blk t).view.emb j : S64x100000.Idx) 0).val = win0_1.index t 0 * 64 + 1 * (j 0).val := rfl
  have e1 : (((win0_1.blk t).view.emb j : S64x100000.Idx) 1).val = win0_1.index t 1 * 8192 + 1 * (j 1).val := rfl
  rw [o0, one_mul, h0, zero_add] at e0
  rw [o1, one_mul, h1] at e1
  refine (eq_ix2 ((win0_1.blk t).view.emb j : S64x100000.Idx)).trans ?_
  exact congrArg₂ ix2 (Fin.ext e0) (Fin.ext e1)

/-- The array's index under a block's. -/
theorem emb_2 (t : Fin cfg0.N) (h : t.val < 13) (j : (win0_2.xblock (grid0.coords t)).Idx) (r : Fin 64) (k : Fin 8192) (hk : t.val * 8192 + k.val < 100000)
    (h0 : (j 0).val = r.val) (h1 : (j 1).val = k.val) : ((win0_2.blk t).view.emb j : S64x100000.Idx) = ix2 r ⟨t.val * 8192 + k.val, hk⟩ := by
  obtain ⟨o0, o1⟩ := off_2 t h
  have e0 : (((win0_2.blk t).view.emb j : S64x100000.Idx) 0).val = win0_2.index t 0 * 64 + 1 * (j 0).val := rfl
  have e1 : (((win0_2.blk t).view.emb j : S64x100000.Idx) 1).val = win0_2.index t 1 * 8192 + 1 * (j 1).val := rfl
  rw [o0, one_mul, h0, zero_add] at e0
  rw [o1, one_mul, h1] at e1
  refine (eq_ix2 ((win0_2.blk t).view.emb j : S64x100000.Idx)).trans ?_
  exact congrArg₂ ix2 (Fin.ext e0) (Fin.ext e1)

/-- The array's index under a block's. -/
theorem emb_3 (t : Fin cfg0.N) (h : ¬ t.val < 13) (j : (win0_3.xblock (grid0.coords t)).Idx) (r : Fin 128) (k : Fin 8192) (hk : (t.val - 13) * 8192 + k.val < 100000)
    (h0 : (j 0).val = r.val) (h1 : (j 1).val = k.val) : ((win0_3.blk t).view.emb j : S128x100000.Idx) = ix2 r ⟨(t.val - 13) * 8192 + k.val, hk⟩ := by
  obtain ⟨o0, o1⟩ := off_3 t h
  have e0 : (((win0_3.blk t).view.emb j : S128x100000.Idx) 0).val = win0_3.index t 0 * 128 + 1 * (j 0).val := rfl
  have e1 : (((win0_3.blk t).view.emb j : S128x100000.Idx) 1).val = win0_3.index t 1 * 8192 + 1 * (j 1).val := rfl
  rw [o0, one_mul, h0, zero_add] at e0
  rw [o1, one_mul, h1] at e1
  refine (eq_ix2 ((win0_3.blk t).view.emb j : S128x100000.Idx)).trans ?_
  exact congrArg₂ ix2 (Fin.ext e0) (Fin.ext e1)

/-- A filled buffer at a column its transfer moves. -/
theorem fill_0 {α : Type} (t : Fin cfg0.N) (h : t.val < 13) (d : S128x8192.Idx → α) (g : (win0_0.xblock (grid0.coords t)).Idx → α) (G : S128x100000.Idx → α)
    (hg : ∀ j, g j = G ((win0_0.blk t).view.emb j)) (r : Fin 128) (k : Fin 8192) (hk : t.val * 8192 + k.val < 100000) :
    win0_0.fill (grid0.coords t) d g (ix2 r k) = G (ix2 r ⟨t.val * 8192 + k.val, hk⟩) := by
  obtain ⟨s0, s1⟩ := size_0 t h
  have hm : win0_0.moved (grid0.coords t) (ix2 r k) = true := by
    rw [win0_0.moved_iff]
    intro a
    have hk' : k.val < 100000 - t.val * 8192 := by omega
    match a with
    | ⟨0, _⟩ => exact lt_of_lt_of_eq r.isLt s0.symm
    | ⟨1, _⟩ => exact lt_of_lt_of_eq (lt_min k.isLt hk') s1.symm
  unfold Pipeline.Window.fill
  rw [dif_pos hm, hg]
  exact congrArg G (emb_0 t h _ r k hk rfl rfl)

/-- A filled buffer at a column its transfer moves. -/
theorem fill_1 {α : Type} (t : Fin cfg0.N) (h : t.val < 13) (d : S64x8192.Idx → α) (g : (win0_1.xblock (grid0.coords t)).Idx → α) (G : S64x100000.Idx → α)
    (hg : ∀ j, g j = G ((win0_1.blk t).view.emb j)) (r : Fin 64) (k : Fin 8192) (hk : t.val * 8192 + k.val < 100000) :
    win0_1.fill (grid0.coords t) d g (ix2 r k) = G (ix2 r ⟨t.val * 8192 + k.val, hk⟩) := by
  obtain ⟨s0, s1⟩ := size_1 t h
  have hm : win0_1.moved (grid0.coords t) (ix2 r k) = true := by
    rw [win0_1.moved_iff]
    intro a
    have hk' : k.val < 100000 - t.val * 8192 := by omega
    match a with
    | ⟨0, _⟩ => exact lt_of_lt_of_eq r.isLt s0.symm
    | ⟨1, _⟩ => exact lt_of_lt_of_eq (lt_min k.isLt hk') s1.symm
  unfold Pipeline.Window.fill
  rw [dif_pos hm, hg]
  exact congrArg G (emb_1 t h _ r k hk rfl rfl)

/-- A filled buffer at a column its transfer moves. -/
theorem fill_2 {α : Type} (t : Fin cfg0.N) (h : t.val < 13) (d : S64x8192.Idx → α) (g : (win0_2.xblock (grid0.coords t)).Idx → α) (G : S64x100000.Idx → α)
    (hg : ∀ j, g j = G ((win0_2.blk t).view.emb j)) (r : Fin 64) (k : Fin 8192) (hk : t.val * 8192 + k.val < 100000) :
    win0_2.fill (grid0.coords t) d g (ix2 r k) = G (ix2 r ⟨t.val * 8192 + k.val, hk⟩) := by
  obtain ⟨s0, s1⟩ := size_2 t h
  have hm : win0_2.moved (grid0.coords t) (ix2 r k) = true := by
    rw [win0_2.moved_iff]
    intro a
    have hk' : k.val < 100000 - t.val * 8192 := by omega
    match a with
    | ⟨0, _⟩ => exact lt_of_lt_of_eq r.isLt s0.symm
    | ⟨1, _⟩ => exact lt_of_lt_of_eq (lt_min k.isLt hk') s1.symm
  unfold Pipeline.Window.fill
  rw [dif_pos hm, hg]
  exact congrArg G (emb_2 t h _ r k hk rfl rfl)

section
variable {m}

theorem fetA_at (c : Dev nD) (t : Fin cfg0.N) (h : t.val < 13) {A : S128x8192.Idx → Elt F .f32} (hA : FetA m c t A) (G : S128x100000.Idx → Elt F .f32)
    (hG : V m c main_arg0 = G) (r : Fin 128) (k : Fin 8192) (hk : t.val * 8192 + k.val < 100000) : A (ix2 r k) = G (ix2 r ⟨t.val * 8192 + k.val, hk⟩) := by
  obtain ⟨d, hd⟩ := hA
  rw [hd]
  subst hG
  exact fill_0 t h d (iblk m c 0 t) (V m c main_arg0) (fun j => rfl) r k hk
theorem fetB_at (c : Dev nD) (t : Fin cfg0.N) (h : t.val < 13) {B : S64x8192.Idx → Elt F .i8} (hB : FetB m c t B) (G : S64x100000.Idx → Elt F .i8)
    (hG : V m c main_v204 = G) (r : Fin 64) (k : Fin 8192) (hk : t.val * 8192 + k.val < 100000) : B (ix2 r k) = G (ix2 r ⟨t.val * 8192 + k.val, hk⟩) := by
  obtain ⟨d, hd⟩ := hB
  rw [hd]
  subst hG
  exact fill_1 t h d (iblk m c 1 t) (V m c main_v204) (fun j => rfl) r k hk
theorem fetC_at (c : Dev nD) (t : Fin cfg0.N) (h : t.val < 13) {C : S64x8192.Idx → Elt F .i8} (hC : FetC m c t C) (G : S64x100000.Idx → Elt F .i8)
    (hG : V m c main_v205 = G) (r : Fin 64) (k : Fin 8192) (hk : t.val * 8192 + k.val < 100000) : C (ix2 r k) = G (ix2 r ⟨t.val * 8192 + k.val, hk⟩) := by
  obtain ⟨d, hd⟩ := hC
  rw [hd]
  subst hG
  exact fill_2 t h d (iblk m c 2 t) (V m c main_v205) (fun j => rfl) r k hk

end

end Cert.KernelIdeal.Body

end
-- ==== Proof.Table.lean ====
/- The kernel's table of quantised noise, read at one entry: the host lines before the launch compute the generator's function of
   the position, its Gumbel value, and round that to a signed byte. -/
module

public import proofs.«01_k».proof.Proof.Noise
public import proofs.«01_k».proof.Proof.Gen.KernelIdeal.Launch
public import proofs.«01_k».proof.Proof.Gen.KernelIdeal.Frame
public import Idealize.ShloMosaic.Lib.StableHlo.RunRead
public import Idealize.ShloMosaic.Lib.StableHlo.ReadAt
public import Idealize.ShloMosaic.Lib.Pipeline.Frame

@[expose] public section

noncomputable section

namespace Cert.KernelIdeal.Table

open Cert.KernelIdeal Cert.KernelIdeal.Gen
open Idealize.ShloMosaic Idealize.ShloMosaic.TcCoe Idealize.SL.Sem
open Idealize.ShloMosaic.StableHlo
open Cert.Noise

variable {F : FTy → Type} [FloatOps F]

/-- The host lines up to the generator's first round. -/
def head : List (HloOp τ sig (Elt F)) := hostOps0.take 10

/-- Group 1 of the generator. -/
def quad1 : List (HloOp τ sig (Elt F)) := (hostOps0.drop 10).take 45

/-- Group 2 of the generator. -/
def quad2 : List (HloOp τ sig (Elt F)) := (hostOps0.drop 55).take 45

/-- Group 3 of the generator. -/
def quad3 : List (HloOp τ sig (Elt F)) := (hostOps0.drop 100).take 45

/-- Group 4 of the generator. -/
def quad4 : List (HloOp τ sig (Elt F)) := (hostOps0.drop 145).take 45

/-- Group 5 of the generator. -/
def quad5 : List (HloOp τ sig (Elt F)) := (hostOps0.drop 190).take 45

/-- The rest of the host lines. -/
def rest : List (HloOp τ sig (Elt F)) := hostOps0.drop 235 ++ (hostOps0_1 ++ (hostOps0_2 ++ (hostOps0_3 ++ hostOps0_4)))

theorem ops_eq : (List.flatten [hostOps0, hostOps0_1, hostOps0_2, hostOps0_3, hostOps0_4] : List (HloOp τ sig (Elt F))) =
    head ++ (quad1 ++ (quad2 ++ (quad3 ++ (quad4 ++ (quad5 ++ rest))))) := rfl

theorem quad1_1 (V : Valuation τ sig (Elt F)) (i : S128x100000.Idx) :
    after quad1 V (Proc.devRef .tc main_v36) i = (inj (1234#32) (466689800#32) 1#32 (quadA rndH (V (Proc.devRef .tc main_v4) i, V (Proc.devRef .tc main_v6) i))).1 := by
  after_reads_at
  rfl

theorem quad1_2 (V : Valuation τ sig (Elt F)) (i : S128x100000.Idx) :
    after quad1 V (Proc.devRef .tc main_v40) i = (inj (1234#32) (466689800#32) 1#32 (quadA rndH (V (Proc.devRef .tc main_v4) i, V (Proc.devRef .tc main_v6) i))).2 := by
  after_reads_at
  rfl

/-- Group 1, both words. -/
theorem quad1_pair (V : Valuation τ sig (Elt F)) (i : S128x100000.Idx) :
    (after quad1 V (Proc.devRef .tc main_v36) i, after quad1 V (Proc.devRef .tc main_v40) i) = inj (1234#32) (466689800#32) 1#32 (quadA rndH (V (Proc.devRef .tc main_v4) i, V (Proc.devRef .tc main_v6) i)) :=
  Prod.ext (quad1_1 V i) (quad1_2 V i)

theorem quad2_1 (V : Valuation τ sig (Elt F)) (i : S128x100000.Idx) :
    after quad2 V (Proc.devRef .tc main_v70) i = (inj (466689800#32) (0#32) 2#32 (quadB rndH (V (Proc.devRef .tc main_v36) i, V (Proc.devRef .tc main_v40) i))).1 := by
  after_reads_at
  rfl

theorem quad2_2 (V : Valuation τ sig (Elt F)) (i : S128x100000.Idx) :
    after quad2 V (Proc.devRef .tc main_v74) i = (inj (466689800#32) (0#32) 2#32 (quadB rndH (V (Proc.devRef .tc main_v36) i, V (Proc.devRef .tc main_v40) i))).2 := by
  after_reads_at
  rfl

/-- Group 2, both words. -/
theorem quad2_pair (V : Valuation τ sig (Elt F)) (i : S128x100000.Idx) :
    (after quad2 V (Proc.devRef .tc main_v70) i, after quad2 V (Proc.devRef .tc main_v74) i) = inj (466689800#32) (0#32) 2#32 (quadB rndH (V (Proc.devRef .tc main_v36) i, V (Proc.devRef .tc main_v40) i)) :=
  Prod.ext (quad2_1 V i) (quad2_2 V i)

theorem quad3_1 (V : Valuation τ sig (Elt F)) (i : S128x100000.Idx) :
    after quad3 V (Proc.devRef .tc main_v104) i = (inj (0#32) (1234#32) 3#32 (quadA rndH (V (Proc.devRef .tc main_v70) i, V (Proc.devRef .tc main_v74) i))).1 := by
  after_reads_at
  rfl

theorem quad3_2 (V : Valuation τ sig (Elt F)) (i : S128x100000.Idx) :
    after quad3 V (Proc.devRef .tc main_v108) i = (inj (0#32) (1234#32) 3#32 (quadA rndH (V (Proc.devRef .tc main_v70) i, V (Proc.devRef .tc main_v74) i))).2 := by
  after_reads_at
  rfl

/-- Group 3, both words. -/
theorem quad3_pair (V : Valuation τ sig (Elt F)) (i : S128x100000.Idx) :
    (after quad3 V (Proc.devRef .tc main_v104) i, after quad3 V (Proc.devRef .tc main_v108) i) = inj (0#32) (1234#32) 3#32 (quadA rndH (V (Proc.devRef .tc main_v70) i, V (Proc.devRef .tc main_v74) i)) :=
  Prod.ext (quad3_1 V i) (quad3_2 V i)

theorem quad4_1 (V : Valuation τ sig (Elt F)) (i : S128x100000.Idx) :
    after quad4 V (Proc.devRef .tc main_v138) i = (inj (1234#32) (466689800#32) 4#32 (quadB rndH (V (Proc.devRef .tc main_v104) i, V (Proc.devRef .tc main_v108) i))).1 := by
  after_reads_at
  rfl

theorem quad4_2 (V : Valuation τ sig (Elt F)) (i : S128x100000.Idx) :
    after quad4 V (Proc.devRef .tc main_v142) i = (inj (1234#32) (466689800#32) 4#32 (quadB rndH (V (Proc.devRef .tc main_v104) i, V (Proc.devRef .tc main_v108) i))).2 := by
  after_reads_at
  rfl

/-- Group 4, both words. -/
theorem quad4_pair (V : Valuation τ sig (Elt F)) (i : S128x100000.Idx) :
    (after quad4 V (Proc.devRef .tc main_v138) i, after quad4 V (Proc.devRef .tc main_v142) i) = inj (1234#32) (466689800#32) 4#32 (quadB rndH (V (Proc.devRef .tc main_v104) i, V (Proc.devRef .tc main_v108) i)) :=
  Prod.ext (quad4_1 V i) (quad4_2 V i)

theorem quad5_1 (V : Valuation τ sig (Elt F)) (i : S128x100000.Idx) :
    after quad5 V (Proc.devRef .tc main_v172) i = (inj (466689800#32) (0#32) 5#32 (quadA rndH (V (Proc.devRef .tc main_v138) i, V (Proc.devRef .tc main_v142) i))).1 := by
  after_reads_at
  rfl

theorem quad5_2 (V : Valuation τ sig (Elt F)) (i : S128x100000.Idx) :
    after quad5 V (Proc.devRef .tc main_v176) i = (inj (466689800#32) (0#32) 5#32 (quadA rndH (V (Proc.devRef .tc main_v138) i, V (Proc.devRef .tc main_v142) i))).2 := by
  after_reads_at
  rfl

/-- Group 5, both words. -/
theorem quad5_pair (V : Valuation τ sig (Elt F)) (i : S128x100000.Idx) :
    (after quad5 V (Proc.devRef .tc main_v172) i, after quad5 V (Proc.devRef .tc main_v176) i) = inj (466689800#32) (0#32) 5#32 (quadA rndH (V (Proc.devRef .tc main_v138) i, V (Proc.devRef .tc main_v142) i)) :=
  Prod.ext (quad5_1 V i) (quad5_2 V i)

/-- The position of an entry. -/
def pos (i : S128x100000.Idx) : BitVec 32 := BitVec.ofNat 32 ((i 0).val * 100000 + (i 1).val)

theorem pos_ix2 (a : Fin 128) (b : Fin 100000) : pos (ValueIdx.ix2 a b) = BitVec.ofNat 32 (a.val * 100000 + b.val) := rfl

theorem head_x0 (V : Valuation τ sig (Elt F)) (i : S128x100000.Idx) : after head V (Proc.devRef .tc main_v4) i = IntOp.addi 0#32 0#32 := by
  after_reads_at

theorem head_x1 (V : Valuation τ sig (Elt F)) (i : S128x100000.Idx) : after head V (Proc.devRef .tc main_v6) i = IntOp.addi (pos i) 1234#32 := by
  after_reads_at
  rfl

theorem rest_v203 (V : Valuation τ sig (Elt F)) (i : S128x100000.Idx) : after rest V (Proc.devRef .tc main_v203) i =
    quan (gum (F := F) (IntOp.xori (V (Proc.devRef .tc main_v172) i) (V (Proc.devRef .tc main_v176) i))) := by
  after_reads_at
  rfl

/-- The contents after the generator. -/
def gen (V : Valuation τ sig (Elt F)) : Valuation τ sig (Elt F) :=
  after quad5 (after quad4 (after quad3 (after quad2 (after quad1 (after head V)))))

theorem gen_pair (V : Valuation τ sig (Elt F)) (i : S128x100000.Idx) :
    (gen V (Proc.devRef .tc main_v172) i, gen V (Proc.devRef .tc main_v176) i) = words rnd 0#32 1234#32 466689800#32 0#32 (pos i) := by
  rw [gen, quad5_pair, quad4_pair, quad3_pair, quad2_pair, quad1_pair, head_x0, head_x1, ← words_H, words]

theorem gen_w1 (V : Valuation τ sig (Elt F)) (i : S128x100000.Idx) :
    gen V (Proc.devRef .tc main_v172) i = (words rnd 0#32 1234#32 466689800#32 0#32 (pos i)).1 := by
  rw [← gen_pair V i]

theorem gen_w2 (V : Valuation τ sig (Elt F)) (i : S128x100000.Idx) :
    gen V (Proc.devRef .tc main_v176) i = (words rnd 0#32 1234#32 466689800#32 0#32 (pos i)).2 := by
  rw [← gen_pair V i]

theorem rest_v204 (V : Valuation τ sig (Elt F)) (i : S64x100000.Idx) (h : (i 0).val < 128) : after rest V (Proc.devRef .tc main_v204) i =
    quan (gum (F := F) (IntOp.xori (V (Proc.devRef .tc main_v172) (ValueIdx.ix2 (n0 := 128) (n1 := 100000) ⟨(i 0).val, h⟩ (i 1)))
      (V (Proc.devRef .tc main_v176) (ValueIdx.ix2 (n0 := 128) (n1 := 100000) ⟨(i 0).val, h⟩ (i 1))))) := by
  after_reads_at
  rfl

/-- The table's upper half, the buffer the launch reads. -/
theorem v204 (m : (ℓ : Loc nD τ sig) → Buf (Elt F) ℓ) (c : Dev nD) (i : S64x100000.Idx) :
    Gen.V m c main_v204 i = quan (gum (F := F) (bits (BitVec.ofNat 32 (((i 0).val) * 100000 + (i 1).val)))) := by
  have h : (i 0).val < 128 := by have := (i 0).isLt; change _ < 64 at this; omega
  change after (List.flatten [hostOps0, hostOps0_1, hostOps0_2, hostOps0_3, hostOps0_4]) (fun b => m (c, b)) (Proc.devRef .tc main_v204) i = _
  rw [ops_eq, after_append, after_append, after_append, after_append, after_append, after_append]
  generalize hV : (fun b => m (c, b) : Valuation τ sig (Elt F)) = V
  change after rest (gen V) (Proc.devRef .tc main_v204) i = _
  rw [rest_v204 _ _ h, gen_w1, gen_w2]
  exact congrArg (fun p => quan (gum (F := F) (bits p))) (pos_ix2 ⟨_, h⟩ (i 1))

theorem rest_v205 (V : Valuation τ sig (Elt F)) (i : S64x100000.Idx) (h : 64 + (i 0).val < 128) : after rest V (Proc.devRef .tc main_v205) i =
    quan (gum (F := F) (IntOp.xori (V (Proc.devRef .tc main_v172) (ValueIdx.ix2 (n0 := 128) (n1 := 100000) ⟨64 + (i 0).val, h⟩ (i 1)))
      (V (Proc.devRef .tc main_v176) (ValueIdx.ix2 (n0 := 128) (n1 := 100000) ⟨64 + (i 0).val, h⟩ (i 1))))) := by
  after_reads_at
  rfl

/-- The table's lower half, the buffer the launch reads. -/
theorem v205 (m : (ℓ : Loc nD τ sig) → Buf (Elt F) ℓ) (c : Dev nD) (i : S64x100000.Idx) :
    Gen.V m c main_v205 i = quan (gum (F := F) (bits (BitVec.ofNat 32 ((64 + (i 0).val) * 100000 + (i 1).val)))) := by
  have h : 64 + (i 0).val < 128 := by have := (i 0).isLt; change _ < 64 at this; omega
  change after (List.flatten [hostOps0, hostOps0_1, hostOps0_2, hostOps0_3, hostOps0_4]) (fun b => m (c, b)) (Proc.devRef .tc main_v205) i = _
  rw [ops_eq, after_append, after_append, after_append, after_append, after_append, after_append]
  generalize hV : (fun b => m (c, b) : Valuation τ sig (Elt F)) = V
  change after rest (gen V) (Proc.devRef .tc main_v205) i = _
  rw [rest_v205 _ _ h, gen_w1, gen_w2]
  exact congrArg (fun p => quan (gum (F := F) (bits p))) (pos_ix2 ⟨_, h⟩ (i 1))

end Cert.KernelIdeal.Table

end
-- ==== Proof.Value.lean ====
/- The kernel's result at the ideal instance: every row's one-hot of its first greatest noisy logit. -/
module

public import proofs.«01_k».proof.Proof.Step
public import proofs.«01_k».proof.Proof.Blocks
public import proofs.«01_k».proof.Proof.Table

@[expose] public section

noncomputable section

namespace Cert.KernelIdeal.Value

open Cert.KernelIdeal Cert.KernelIdeal.Gen Cert.KernelIdeal.Body Cert.KernelIdeal.Winner Cert.KernelIdeal.Step
open Idealize.ShloMosaic hiding ix1 ix2 ix3 eq_ix2
open Idealize.ShloMosaic.TcCoe Idealize.SL.Sem
open Idealize.ShloMosaic.Pipeline (Dat RDat)
open Idealize.ShloMosaic.ValueIdx
open Cert.Noise

variable {m : (ℓ : Loc nD τ sig) → Buf (Elt Ideal) ℓ} {x : Dev nD → Fin 128 → Fin 100000 → ℝ} {γ : Fin 128 → Fin 100000 → ℝ} {w : Dev nD → Fin 128 → Fin 100000}

/-- A row's one at its winner, zero elsewhere. -/
def oneHot (w : Fin 128 → Fin 100000) : S128x100000.Idx → EReal := fun i => if (i 1).val = (w (i 0)).val then 1 else 0

/-- The block written back at a point is the one-hot's, where the winners' buffer holds the winners. -/
theorem pay6_at (i : grid0.Coords) (b : ℕ) (hi : (i 0).val = 13 + b) (hb : b < 13) (I : S128x1.Idx → BitVec 32) (r : Fin 128) (k : Fin 8192) (w : Fin 100000)
    (hI : I (ix2 r 0) = BitVec.ofNat 32 w.val) : k0_pay6 (F := Ideal) i I (ix2 r k) = if b * 8192 + k.val = w.val then (1 : EReal) else 0 := by
  have h : k0_pay6 (F := Ideal) i I (ix2 r k)
      = ((((BitVec.ofBool ((BitVec.ofNat 32 (i 0).val - 13#32) * 8192#32 + BitVec.ofNat 32 (0 * 8192 + k.val)
        == broadcastTo S128x8192 I broadcasts_S128x1_S128x8192 (ix2 r k))).setWidth 32).toInt : ℝ) : EReal) := rfl
  have hn : (BitVec.ofNat 32 (i 0).val - 13#32) * 8192#32 + BitVec.ofNat 32 (0 * 8192 + k.val) = BitVec.ofNat 32 (b * 8192 + k.val) := by
    have h1 : BitVec.ofNat 32 (i 0).val - 13#32 = BitVec.ofNat 32 b := by
      apply BitVec.eq_of_toNat_eq
      rw [hi]
      simp only [BitVec.toNat_sub, BitVec.toNat_ofNat]
      omega
    rw [h1]
    apply BitVec.eq_of_toNat_eq
    have := k.isLt
    simp only [BitVec.toNat_add, BitVec.toNat_mul, BitVec.toNat_ofNat]
    omega
  rw [h, hn, Screen.wide, hI]
  by_cases he : b * 8192 + k.val = w.val
  · rw [if_pos he, he]
    simp
  · have hne : BitVec.ofNat 32 (b * 8192 + k.val) ≠ BitVec.ofNat 32 w.val := by
      intro h'
      have h2 := congrArg BitVec.toNat h'
      simp only [BitVec.toNat_ofNat] at h2
      have := k.isLt
      have := w.isLt
      omega
    rw [if_neg he, beq_eq_false_iff_ne.mpr hne]
    simp

/-- The staged blocks of a screening point hold the logits and the quantised noise. -/
theorem staged (hx : ∀ (c : Dev nD) r k, m ((c : Thread nD τ).loc main_arg0) (ix2 r k) = (x c r k : EReal))
    (hg : ∀ r k, gum (F := Ideal) (bits (BitVec.ofNat 32 (r.val * 100000 + k.val))) = (γ r k : EReal))
    (c : Dev nD) (t : Fin cfg0.N) (ht : t.val < 13) {A : S128x8192.Idx → EReal} {B C : S64x8192.Idx → BitVec 8}
    (hA : FetA m c t A) (hB : FetB m c t B) (hC : FetC m c t C) : Staged (x c) γ t.val A B C := by
  intro r k hk
  refine ⟨?_, ?_⟩
  · exact (fetA_at c t ht hA _ (V_main_arg0 m c) r k hk).trans (hx c r _)
  · unfold tile
    by_cases h : r.val < 64
    · rw [dif_pos h]
      refine (fetB_at c t ht hB _ (funext fun i => Table.v204 m c i) ⟨r.val, h⟩ k hk).trans ?_
      exact congrArg quan (hg r ⟨t.val * 8192 + k.val, hk⟩)
    · rw [dif_neg h]
      refine (fetC_at c t ht hC _ (funext fun i => Table.v205 m c i) ⟨r.val - 64, by have := r.isLt; omega⟩ k hk).trans ?_
      have h64 : 64 + (r.val - 64) = r.val := by omega
      refine (congrArg (fun n => quan (gum (F := Ideal) (bits (BitVec.ofNat 32 (n * 100000 + (t.val * 8192 + k.val)))))) h64).trans ?_
      exact congrArg quan (hg r ⟨t.val * 8192 + k.val, hk⟩)

/-- The tables before a point, and the winners once they are picked. -/
def inv (x : Dev nD → Fin 128 → Fin 100000 → ℝ) (γ : Fin 128 → Fin 100000 → ℝ) (w : Dev nD → Fin 128 → Fin 100000) : TInv Ideal := fun c p P X I =>
  (1 ≤ p → ∀ r, Upto (x c) γ P X p r) ∧ (13 ≤ p → ∀ r, I (ix2 r 0) = BitVec.ofNat 32 (w c r).val)

/-- The block written back at a point is the one-hot's. -/
def out (w : Dev nD → Fin 128 → Fin 100000) : TOut Ideal := fun c t O =>
  ∀ (r : Fin 128) (k : Fin 8192), O (ix2 r k) = if (t.val - 13) * 8192 + k.val = (w c r).val then (1 : EReal) else 0

/-- At every point the body keeps what the scratch tables hold, and writes its block of the one-hot. -/
theorem keeps (hx : ∀ (c : Dev nD) r k, m ((c : Thread nD τ).loc main_arg0) (ix2 r k) = (x c r k : EReal))
    (hγ : ∀ r k, -3.26 ≤ γ r k ∧ γ r k ≤ 16.68)
    (hg : ∀ r k, gum (F := Ideal) (bits (BitVec.ofNat 32 (r.val * 100000 + k.val))) = (γ r k : EReal))
    (hw : ∀ c r k, x c r k + γ r k ≤ x c r (w c r) + γ r (w c r)) (hf : ∀ c r k, x c r k + γ r k = x c r (w c r) + γ r (w c r) → w c r ≤ k)
    (hfew : ∀ c r, (Finset.univ.filter fun k => x c r (w c r) + γ r (w c r) ≤ x c r k + γ r k + 5/64).card ≤ 3) : Keeps m (inv x γ w) (out w) where
  init c P X I := ⟨fun h => absurd h (by omega), fun h => absurd h (by omega)⟩
  screen c t ht A B C P X I hA hB hC hI := by
    have hv := coords_val t
    have hS : Staged (x c) γ (grid0.coords t 0).val A B C := by rw [hv]; exact staged hx hg c t ht hA hB hC
    have hlt : (grid0.coords t 0).val < 13 := by rw [hv]; exact ht
    have hU : ∀ r, Upto (x c) γ (nextP (F := Ideal) (grid0.coords t) A B C P) (nextX (F := Ideal) (grid0.coords t) A B C X) (t.val + 1) r := by
      intro r
      unfold nextP nextX
      rw [if_pos hlt, if_pos hlt, ← hv]
      by_cases h0 : (grid0.coords t 0).val = 0
      · rw [if_pos h0, if_pos h0]
        refine upto_step (grid0.coords t) hlt hS k0_pay1 (k0_pay2 (F := Ideal)) r ?_
        rw [h0]
        exact upto_zero _ r
      · rw [if_neg h0, if_neg h0]
        refine upto_step (grid0.coords t) hlt hS P X r ?_
        rw [hv]
        exact hI.1 (by omega) r
    refine ⟨fun _ => hU, fun h r => ?_⟩
    have h12 : (grid0.coords t 0).val = 12 := by rw [hv]; omega
    have h13 : t.val + 1 = 13 := by omega
    rw [h13] at hU
    unfold nextI
    rw [if_pos h12, Pick.pick_eq]
    exact pick_winner (hγ r) (hg r) (hw c r) (hf c r) (hfew c r) (hU r)
  later c t ht P X I hI := by
    have hv := coords_val t
    refine ⟨⟨fun _ r => ?_, fun _ => hI.2 (by omega)⟩, fun r k => ?_⟩
    · obtain ⟨h1, h2⟩ := hI.1 (by omega) r
      exact ⟨fun j _ hj => h1 j (by omega) hj, fun j hj => h2 j (by omega)⟩
    · have hN : t.val < 26 := t.isLt
      exact pay6_at (grid0.coords t) (t.val - 13) (by rw [hv]; omega) (by omega) I r k (w c r) (hI.2 (by omega) r)

/-- What the run leaves in the result's array is the one-hot. -/
theorem result_eq (c : Dev nD) (inv' : TInv Ideal) (r : PUnit.{1} × MemSt nD τ sig (Elt Ideal)) (h : RDat.FramePost cfg0 (rdat m inv' (out w)) (Gen.V m) r) :
    r.2.mem ((c : Thread nD τ).loc main_v206) = oneHot (w c) := by
  obtain ⟨after, hL, hA⟩ := RDat.FramePost.exists_exact h c
  refine (hA 3).trans ?_
  have hcov : (cfg0.win 3).Covers := by decide +kernel
  refine Dat.arrAt_eq_of_covers ((rdat m inv' (out w) c).withAfter after) 3 (oneHot (w c)) hcov fun t hf y => ?_
  have ht : ¬ t.val < 13 := (flush_3 t).mp hf
  obtain ⟨Y, _, hY⟩ := hL 3 t hf
  have hO : out w c t (after 3 t) := hY ht
  obtain ⟨s0, s1⟩ := size_3 t ht
  have y0 : (y 0).val < 128 := lt_of_lt_of_eq (y 0).isLt s0
  have y1 : (y 1).val < min 8192 (100000 - (t.val - 13) * 8192) := lt_of_lt_of_eq (y 1).isLt s1
  have y8 : (y 1).val < 8192 := lt_of_lt_of_le y1 (min_le_left _ _)
  have y9 : (y 1).val < 100000 - (t.val - 13) * 8192 := lt_of_lt_of_le y1 (min_le_right _ _)
  have hk : (t.val - 13) * 8192 + (⟨(y 1).val, y8⟩ : Fin 8192).val < 100000 := by
    show (t.val - 13) * 8192 + (y 1).val < 100000
    omega
  have he := emb_3 t ht y ⟨(y 0).val, y0⟩ ⟨(y 1).val, y8⟩ hk rfl rfl
  have hj : (win0_3.xinj (grid0.coords t) y : S128x8192.Idx) = ix2 ⟨(y 0).val, y0⟩ ⟨(y 1).val, y8⟩ := eq_ix2 _
  refine Eq.trans (b := after 3 t (win0_3.xinj (grid0.coords t) y)) rfl ?_
  refine (congrArg (after 3 t) hj).trans ((hO _ _).trans ?_)
  refine Eq.trans ?_ (congrArg (oneHot (w c)) he).symm
  rfl

end Cert.KernelIdeal.Value

end
-- ==== Proof.RefRead.lean ====
/- The reference's line read at one entry: the generator's words are the generator's function of the position. -/
module

public import proofs.«01_k».proof.Proof.Noise
public import proofs.«01_k».proof.Proof.Line

@[expose] public section

noncomputable section

namespace Cert.ReferenceIdeal.Line

open Cert.ReferenceIdeal Cert.ReferenceIdeal.Gen
open Idealize.ShloMosaic Idealize.ShloMosaic.TcCoe Idealize.SL.Sem
open Idealize.ShloMosaic.StableHlo
open Cert.Noise

variable {F : FTy → Type} [FloatOps F]

/-- Group 1, its first word. -/
theorem quad1_1 (V : Valuation τ sig (Elt F)) (i : S128x100000.Idx) (z : S_.Idx) :
    after lineQuad1 V (Proc.devRef .tc main_call0_call0_v35) i =
      (inj (V (Proc.devRef .tc main_call0_v7) z) (V (Proc.devRef .tc main_call0_call0_v1) z) 1#32 (quadA rnd
        (V (Proc.devRef .tc main_call0_call0_v3) i, V (Proc.devRef .tc main_call0_call0_v5) i))).1 := by
  obtain rfl : z = fun k => k.elim0 := funext fun k => k.elim0
  after_reads_at
  rfl

/-- Group 1, its second word. -/
theorem quad1_2 (V : Valuation τ sig (Elt F)) (i : S128x100000.Idx) (z : S_.Idx) :
    after lineQuad1 V (Proc.devRef .tc main_call0_call0_v39) i =
      (inj (V (Proc.devRef .tc main_call0_v7) z) (V (Proc.devRef .tc main_call0_call0_v1) z) 1#32 (quadA rnd
        (V (Proc.devRef .tc main_call0_call0_v3) i, V (Proc.devRef .tc main_call0_call0_v5) i))).2 := by
  obtain rfl : z = fun k => k.elim0 := funext fun k => k.elim0
  after_reads_at
  rfl

theorem quad1_main_call0_v5 (V : Valuation τ sig (Elt F)) : after lineQuad1 V (Proc.devRef .tc main_call0_v5) = V (Proc.devRef .tc main_call0_v5) := by
  after_reads_simp

theorem quad1_main_call0_v7 (V : Valuation τ sig (Elt F)) : after lineQuad1 V (Proc.devRef .tc main_call0_v7) = V (Proc.devRef .tc main_call0_v7) := by
  after_reads_simp

theorem quad1_main_call0_call0_v1 (V : Valuation τ sig (Elt F)) : after lineQuad1 V (Proc.devRef .tc main_call0_call0_v1) = V (Proc.devRef .tc main_call0_call0_v1) := by
  after_reads_simp

theorem quad1_main_arg0 (V : Valuation τ sig (Elt F)) : after lineQuad1 V (Proc.devRef .tc main_arg0) = V (Proc.devRef .tc main_arg0) := by
  after_reads_simp

theorem quad1_main_call0_v2 (V : Valuation τ sig (Elt F)) : after lineQuad1 V (Proc.devRef .tc main_call0_v2) = V (Proc.devRef .tc main_call0_v2) := by
  after_reads_simp

theorem quad1_main_call0_v3 (V : Valuation τ sig (Elt F)) : after lineQuad1 V (Proc.devRef .tc main_call0_v3) = V (Proc.devRef .tc main_call0_v3) := by
  after_reads_simp

/-- Group 2, its first word. -/
theorem quad2_1 (V : Valuation τ sig (Elt F)) (i : S128x100000.Idx) (z : S_.Idx) :
    after lineQuad2 V (Proc.devRef .tc main_call0_call0_v69) i =
      (inj (V (Proc.devRef .tc main_call0_call0_v1) z) (V (Proc.devRef .tc main_call0_v5) z) 2#32 (quadB rnd
        (V (Proc.devRef .tc main_call0_call0_v35) i, V (Proc.devRef .tc main_call0_call0_v39) i))).1 := by
  obtain rfl : z = fun k => k.elim0 := funext fun k => k.elim0
  after_reads_at
  rfl

/-- Group 2, its second word. -/
theorem quad2_2 (V : Valuation τ sig (Elt F)) (i : S128x100000.Idx) (z : S_.Idx) :
    after lineQuad2 V (Proc.devRef .tc main_call0_call0_v73) i =
      (inj (V (Proc.devRef .tc main_call0_call0_v1) z) (V (Proc.devRef .tc main_call0_v5) z) 2#32 (quadB rnd
        (V (Proc.devRef .tc main_call0_call0_v35) i, V (Proc.devRef .tc main_call0_call0_v39) i))).2 := by
  obtain rfl : z = fun k => k.elim0 := funext fun k => k.elim0
  after_reads_at
  rfl

theorem quad2_main_call0_v5 (V : Valuation τ sig (Elt F)) : after lineQuad2 V (Proc.devRef .tc main_call0_v5) = V (Proc.devRef .tc main_call0_v5) := by
  after_reads_simp

theorem quad2_main_call0_v7 (V : Valuation τ sig (Elt F)) : after lineQuad2 V (Proc.devRef .tc main_call0_v7) = V (Proc.devRef .tc main_call0_v7) := by
  after_reads_simp

theorem quad2_main_call0_call0_v1 (V : Valuation τ sig (Elt F)) : after lineQuad2 V (Proc.devRef .tc main_call0_call0_v1) = V (Proc.devRef .tc main_call0_call0_v1) := by
  after_reads_simp

theorem quad2_main_arg0 (V : Valuation τ sig (Elt F)) : after lineQuad2 V (Proc.devRef .tc main_arg0) = V (Proc.devRef .tc main_arg0) := by
  after_reads_simp

theorem quad2_main_call0_v2 (V : Valuation τ sig (Elt F)) : after lineQuad2 V (Proc.devRef .tc main_call0_v2) = V (Proc.devRef .tc main_call0_v2) := by
  after_reads_simp

theorem quad2_main_call0_v3 (V : Valuation τ sig (Elt F)) : after lineQuad2 V (Proc.devRef .tc main_call0_v3) = V (Proc.devRef .tc main_call0_v3) := by
  after_reads_simp

/-- Group 3, its first word. -/
theorem quad3_1 (V : Valuation τ sig (Elt F)) (i : S128x100000.Idx) (z : S_.Idx) :
    after lineQuad3 V (Proc.devRef .tc main_call0_call0_v103) i =
      (inj (V (Proc.devRef .tc main_call0_v5) z) (V (Proc.devRef .tc main_call0_v7) z) 3#32 (quadA rnd
        (V (Proc.devRef .tc main_call0_call0_v69) i, V (Proc.devRef .tc main_call0_call0_v73) i))).1 := by
  obtain rfl : z = fun k => k.elim0 := funext fun k => k.elim0
  after_reads_at
  rfl

/-- Group 3, its second word. -/
theorem quad3_2 (V : Valuation τ sig (Elt F)) (i : S128x100000.Idx) (z : S_.Idx) :
    after lineQuad3 V (Proc.devRef .tc main_call0_call0_v107) i =
      (inj (V (Proc.devRef .tc main_call0_v5) z) (V (Proc.devRef .tc main_call0_v7) z) 3#32 (quadA rnd
        (V (Proc.devRef .tc main_call0_call0_v69) i, V (Proc.devRef .tc main_call0_call0_v73) i))).2 := by
  obtain rfl : z = fun k => k.elim0 := funext fun k => k.elim0
  after_reads_at
  rfl

theorem quad3_main_call0_v5 (V : Valuation τ sig (Elt F)) : after lineQuad3 V (Proc.devRef .tc main_call0_v5) = V (Proc.devRef .tc main_call0_v5) := by
  after_reads_simp

theorem quad3_main_call0_v7 (V : Valuation τ sig (Elt F)) : after lineQuad3 V (Proc.devRef .tc main_call0_v7) = V (Proc.devRef .tc main_call0_v7) := by
  after_reads_simp

theorem quad3_main_call0_call0_v1 (V : Valuation τ sig (Elt F)) : after lineQuad3 V (Proc.devRef .tc main_call0_call0_v1) = V (Proc.devRef .tc main_call0_call0_v1) := by
  after_reads_simp

theorem quad3_main_arg0 (V : Valuation τ sig (Elt F)) : after lineQuad3 V (Proc.devRef .tc main_arg0) = V (Proc.devRef .tc main_arg0) := by
  after_reads_simp

theorem quad3_main_call0_v2 (V : Valuation τ sig (Elt F)) : after lineQuad3 V (Proc.devRef .tc main_call0_v2) = V (Proc.devRef .tc main_call0_v2) := by
  after_reads_simp

theorem quad3_main_call0_v3 (V : Valuation τ sig (Elt F)) : after lineQuad3 V (Proc.devRef .tc main_call0_v3) = V (Proc.devRef .tc main_call0_v3) := by
  after_reads_simp

/-- Group 4, its first word. -/
theorem quad4_1 (V : Valuation τ sig (Elt F)) (i : S128x100000.Idx) (z : S_.Idx) :
    after lineQuad4 V (Proc.devRef .tc main_call0_call0_v137) i =
      (inj (V (Proc.devRef .tc main_call0_v7) z) (V (Proc.devRef .tc main_call0_call0_v1) z) 4#32 (quadB rnd
        (V (Proc.devRef .tc main_call0_call0_v103) i, V (Proc.devRef .tc main_call0_call0_v107) i))).1 := by
  obtain rfl : z = fun k => k.elim0 := funext fun k => k.elim0
  after_reads_at
  rfl

/-- Group 4, its second word. -/
theorem quad4_2 (V : Valuation τ sig (Elt F)) (i : S128x100000.Idx) (z : S_.Idx) :
    after lineQuad4 V (Proc.devRef .tc main_call0_call0_v141) i =
      (inj (V (Proc.devRef .tc main_call0_v7) z) (V (Proc.devRef .tc main_call0_call0_v1) z) 4#32 (quadB rnd
        (V (Proc.devRef .tc main_call0_call0_v103) i, V (Proc.devRef .tc main_call0_call0_v107) i))).2 := by
  obtain rfl : z = fun k => k.elim0 := funext fun k => k.elim0
  after_reads_at
  rfl

theorem quad4_main_call0_v5 (V : Valuation τ sig (Elt F)) : after lineQuad4 V (Proc.devRef .tc main_call0_v5) = V (Proc.devRef .tc main_call0_v5) := by
  after_reads_simp

theorem quad4_main_call0_v7 (V : Valuation τ sig (Elt F)) : after lineQuad4 V (Proc.devRef .tc main_call0_v7) = V (Proc.devRef .tc main_call0_v7) := by
  after_reads_simp

theorem quad4_main_call0_call0_v1 (V : Valuation τ sig (Elt F)) : after lineQuad4 V (Proc.devRef .tc main_call0_call0_v1) = V (Proc.devRef .tc main_call0_call0_v1) := by
  after_reads_simp

theorem quad4_main_arg0 (V : Valuation τ sig (Elt F)) : after lineQuad4 V (Proc.devRef .tc main_arg0) = V (Proc.devRef .tc main_arg0) := by
  after_reads_simp

theorem quad4_main_call0_v2 (V : Valuation τ sig (Elt F)) : after lineQuad4 V (Proc.devRef .tc main_call0_v2) = V (Proc.devRef .tc main_call0_v2) := by
  after_reads_simp

theorem quad4_main_call0_v3 (V : Valuation τ sig (Elt F)) : after lineQuad4 V (Proc.devRef .tc main_call0_v3) = V (Proc.devRef .tc main_call0_v3) := by
  after_reads_simp

/-- Group 5, its first word. -/
theorem quad5_1 (V : Valuation τ sig (Elt F)) (i : S128x100000.Idx) (z : S_.Idx) :
    after lineQuad5 V (Proc.devRef .tc main_call0_v19_0) i =
      (inj (V (Proc.devRef .tc main_call0_call0_v1) z) (V (Proc.devRef .tc main_call0_v5) z) 5#32 (quadA rnd
        (V (Proc.devRef .tc main_call0_call0_v137) i, V (Proc.devRef .tc main_call0_call0_v141) i))).1 := by
  obtain rfl : z = fun k => k.elim0 := funext fun k => k.elim0
  after_reads_at
  rfl

/-- Group 5, its second word. -/
theorem quad5_2 (V : Valuation τ sig (Elt F)) (i : S128x100000.Idx) (z : S_.Idx) :
    after lineQuad5 V (Proc.devRef .tc main_call0_v19_1) i =
      (inj (V (Proc.devRef .tc main_call0_call0_v1) z) (V (Proc.devRef .tc main_call0_v5) z) 5#32 (quadA rnd
        (V (Proc.devRef .tc main_call0_call0_v137) i, V (Proc.devRef .tc main_call0_call0_v141) i))).2 := by
  obtain rfl : z = fun k => k.elim0 := funext fun k => k.elim0
  after_reads_at
  rfl

theorem quad5_main_arg0 (V : Valuation τ sig (Elt F)) : after lineQuad5 V (Proc.devRef .tc main_arg0) = V (Proc.devRef .tc main_arg0) := by
  after_reads_simp

theorem quad5_main_call0_v2 (V : Valuation τ sig (Elt F)) : after lineQuad5 V (Proc.devRef .tc main_call0_v2) = V (Proc.devRef .tc main_call0_v2) := by
  after_reads_simp

theorem quad5_main_call0_v3 (V : Valuation τ sig (Elt F)) : after lineQuad5 V (Proc.devRef .tc main_call0_v3) = V (Proc.devRef .tc main_call0_v3) := by
  after_reads_simp

end Cert.ReferenceIdeal.Line

end
-- ==== Proof.RefNoise.lean ====
/- The reference's line read at one entry: the generator's words are the generator's function of the position. -/
module

public import proofs.«01_k».proof.Proof.Noise
public import proofs.«01_k».proof.Proof.RefRead

@[expose] public section

noncomputable section

namespace Cert.ReferenceIdeal.Line

open Cert.ReferenceIdeal Cert.ReferenceIdeal.Gen
open Idealize.ShloMosaic Idealize.ShloMosaic.TcCoe Idealize.SL.Sem
open Idealize.ShloMosaic.StableHlo
open Cert.Noise

variable {F : FTy → Type} [FloatOps F]

theorem word_pos {r c : ℕ} (hr : r < 128) (hc : c < 100000) :
    IntOp.addi (IntOp.muli 100000#64 (BitVec.ofNat 64 r)) (IntOp.muli 1#64 (BitVec.ofNat 64 c)) = BitVec.ofNat 64 (r * 100000 + c) := by
  apply BitVec.eq_of_toNat_eq
  simp only [IntOp.addi, IntOp.muli, BitVec.toNat_add, BitVec.toNat_mul, BitVec.toNat_ofNat]
  omega

theorem word_hi {r c : ℕ} (hr : r < 128) (hc : c < 100000) : BitVec.setWidth 32 (IntOp.shrui ArithUnit.host
    (IntOp.addi (IntOp.muli 100000#64 (BitVec.ofNat 64 r)) (IntOp.muli 1#64 (BitVec.ofNat 64 c))) 32#64) = 0#32 := by
  rw [word_pos hr hc]
  apply BitVec.eq_of_toNat_eq
  simp only [IntOp.shrui, BitVec.toNat_ofNat, Nat.reducePow, Nat.reduceMod, Nat.reduceLT, if_true, BitVec.toNat_setWidth,
    BitVec.ushiftRight_eq', BitVec.toNat_ushiftRight, Nat.shiftRight_eq_div_pow]
  have h : r * 100000 + c < 4294967296 := by omega
  rw [Nat.mod_eq_of_lt (by omega : r * 100000 + c < 18446744073709551616), Nat.div_eq_of_lt h]

theorem word_lo {r c : ℕ} (hr : r < 128) (hc : c < 100000) : BitVec.setWidth 32
    (IntOp.addi (IntOp.muli 100000#64 (BitVec.ofNat 64 r)) (IntOp.muli 1#64 (BitVec.ofNat 64 c))) = BitVec.ofNat 32 (r * 100000 + c) := by
  rw [word_pos hr hc]
  apply BitVec.eq_of_toNat_eq
  simp only [BitVec.toNat_ofNat, BitVec.toNat_setWidth]
  omega

theorem upto_v2 (V : Valuation τ sig (Elt F)) (z : S1.Idx) : upto lineHead V 9 (Proc.devRef .tc main_v2) z = 0#32 := by
  show after (lineHead.take 9) V (Proc.devRef .tc main_v2) z = 0#32
  after_reads_at
  rfl

theorem upto_v5 (V : Valuation τ sig (Elt F)) (z : S1.Idx) : upto lineHead V 9 (Proc.devRef .tc main_v5) z = 1234#32 := by
  show after (lineHead.take 9) V (Proc.devRef .tc main_v5) z = 1234#32
  after_reads_at
  rfl

theorem head_main_call0_v5 (V : Valuation τ sig (Elt F)) (z : S_.Idx) : after lineHead V (Proc.devRef .tc main_call0_v5) z = 0#32 := by
  obtain rfl : z = fun k => k.elim0 := funext fun k => k.elim0
  after_reads_at
  rw [upto_v2]

theorem head_main_call0_v7 (V : Valuation τ sig (Elt F)) (z : S_.Idx) : after lineHead V (Proc.devRef .tc main_call0_v7) z = 1234#32 := by
  obtain rfl : z = fun k => k.elim0 := funext fun k => k.elim0
  after_reads_at
  rw [upto_v5]

theorem head_main_call0_call0_v1 (V : Valuation τ sig (Elt F)) (z : S_.Idx) : after lineHead V (Proc.devRef .tc main_call0_call0_v1) z = 466689800#32 := by
  obtain rfl : z = fun k => k.elim0 := funext fun k => k.elim0
  after_reads_at
  rw [upto_v2, upto_v5]
  rfl

theorem head_main_call0_v2 (V : Valuation τ sig (Elt F)) (z : S1x1.Idx) : after lineHead V (Proc.devRef .tc main_call0_v2) z = lo := by
  after_reads_at
  rfl

theorem head_main_call0_v3 (V : Valuation τ sig (Elt F)) (z : S1x1.Idx) : after lineHead V (Proc.devRef .tc main_call0_v3) z = one := by
  after_reads_at
  rfl

theorem head_main_arg0 (V : Valuation τ sig (Elt F)) : after lineHead V (Proc.devRef .tc main_arg0) = V (Proc.devRef .tc main_arg0) := by
  after_reads_simp

theorem head_x0 (V : Valuation τ sig (Elt F)) (i : S128x100000.Idx) : after lineHead V (Proc.devRef .tc main_call0_call0_v3) i = IntOp.addi 0#32 0#32 := by
  after_reads_at
  rw [upto_v2]
  have e := word_hi (i 0).isLt (i 1).isLt
  exact congrArg (IntOp.addi · 0#32) e

theorem head_x1 (V : Valuation τ sig (Elt F)) (i : S128x100000.Idx) : after lineHead V (Proc.devRef .tc main_call0_call0_v5) i =
    IntOp.addi (BitVec.ofNat 32 ((i 0).val * 100000 + (i 1).val)) 1234#32 := by
  after_reads_at
  rw [upto_v5]
  have e := word_lo (i 0).isLt (i 1).isLt
  exact congrArg (IntOp.addi · 1234#32) e

theorem tail_v12 (V : Valuation τ sig (Elt F)) (h2 : ∀ z, V (Proc.devRef .tc main_call0_v2) z = lo) (h3 : ∀ z, V (Proc.devRef .tc main_call0_v3) z = one) (i : S128x100000.Idx) :
    after (lineTail.take 23) V (Proc.devRef .tc main_v12) i = FloatOps.addf (V (Proc.devRef .tc main_arg0) i) (gum (IntOp.xori (V (Proc.devRef .tc main_call0_v19_0) i) (V (Proc.devRef .tc main_call0_v19_1) i))) := by
  after_reads_at
  simp only [h2, h3]
  rfl

/-- The position of an entry, as the generator's second word. -/
def pos (i : S128x100000.Idx) : BitVec 32 := BitVec.ofNat 32 ((i 0).val * 100000 + (i 1).val)

/-- The contents after the line's generator. -/
def gen (V : Valuation τ sig (Elt F)) : Valuation τ sig (Elt F) :=
  after lineQuad5 (after lineQuad4 (after lineQuad3 (after lineQuad2 (after lineQuad1 (after lineHead V)))))

/-- The contents after the noisy scores. -/
def scored (V : Valuation τ sig (Elt F)) : Valuation τ sig (Elt F) := after (lineTail.take 23) (gen V)

theorem line_eq (V : Valuation τ sig (Elt F)) : after line V = after (lineTail.drop 23) (scored V) := by
  rw [scored, ← after_append, List.take_append_drop, line, after_append, after_append, after_append, after_append, after_append, after_append, gen]

theorem quad1_pair (V : Valuation τ sig (Elt F)) (i : S128x100000.Idx) (k l : BitVec 32)
    (hk : V (Proc.devRef .tc main_call0_v7) (fun k => k.elim0) = k) (hl : V (Proc.devRef .tc main_call0_call0_v1) (fun k => k.elim0) = l) :
    (after lineQuad1 V (Proc.devRef .tc main_call0_call0_v35) i, after lineQuad1 V (Proc.devRef .tc main_call0_call0_v39) i) =
      inj k l 1#32 (quadA rnd (V (Proc.devRef .tc main_call0_call0_v3) i, V (Proc.devRef .tc main_call0_call0_v5) i)) := by
  subst hk hl
  exact Prod.ext (quad1_1 V i _) (quad1_2 V i _)

theorem quad2_pair (V : Valuation τ sig (Elt F)) (i : S128x100000.Idx) (k l : BitVec 32)
    (hk : V (Proc.devRef .tc main_call0_call0_v1) (fun k => k.elim0) = k) (hl : V (Proc.devRef .tc main_call0_v5) (fun k => k.elim0) = l) :
    (after lineQuad2 V (Proc.devRef .tc main_call0_call0_v69) i, after lineQuad2 V (Proc.devRef .tc main_call0_call0_v73) i) =
      inj k l 2#32 (quadB rnd (V (Proc.devRef .tc main_call0_call0_v35) i, V (Proc.devRef .tc main_call0_call0_v39) i)) := by
  subst hk hl
  exact Prod.ext (quad2_1 V i _) (quad2_2 V i _)

theorem quad3_pair (V : Valuation τ sig (Elt F)) (i : S128x100000.Idx) (k l : BitVec 32)
    (hk : V (Proc.devRef .tc main_call0_v5) (fun k => k.elim0) = k) (hl : V (Proc.devRef .tc main_call0_v7) (fun k => k.elim0) = l) :
    (after lineQuad3 V (Proc.devRef .tc main_call0_call0_v103) i, after lineQuad3 V (Proc.devRef .tc main_call0_call0_v107) i) =
      inj k l 3#32 (quadA rnd (V (Proc.devRef .tc main_call0_call0_v69) i, V (Proc.devRef .tc main_call0_call0_v73) i)) := by
  subst hk hl
  exact Prod.ext (quad3_1 V i _) (quad3_2 V i _)

theorem quad4_pair (V : Valuation τ sig (Elt F)) (i : S128x100000.Idx) (k l : BitVec 32)
    (hk : V (Proc.devRef .tc main_call0_v7) (fun k => k.elim0) = k) (hl : V (Proc.devRef .tc main_call0_call0_v1) (fun k => k.elim0) = l) :
    (after lineQuad4 V (Proc.devRef .tc main_call0_call0_v137) i, after lineQuad4 V (Proc.devRef .tc main_call0_call0_v141) i) =
      inj k l 4#32 (quadB rnd (V (Proc.devRef .tc main_call0_call0_v103) i, V (Proc.devRef .tc main_call0_call0_v107) i)) := by
  subst hk hl
  exact Prod.ext (quad4_1 V i _) (quad4_2 V i _)

theorem quad5_pair (V : Valuation τ sig (Elt F)) (i : S128x100000.Idx) (k l : BitVec 32)
    (hk : V (Proc.devRef .tc main_call0_call0_v1) (fun k => k.elim0) = k) (hl : V (Proc.devRef .tc main_call0_v5) (fun k => k.elim0) = l) :
    (after lineQuad5 V (Proc.devRef .tc main_call0_v19_0) i, after lineQuad5 V (Proc.devRef .tc main_call0_v19_1) i) =
      inj k l 5#32 (quadA rnd (V (Proc.devRef .tc main_call0_call0_v137) i, V (Proc.devRef .tc main_call0_call0_v141) i)) := by
  subst hk hl
  exact Prod.ext (quad5_1 V i _) (quad5_2 V i _)

theorem gen_pair (V : Valuation τ sig (Elt F)) (i : S128x100000.Idx) :
    (gen V (Proc.devRef .tc main_call0_v19_0) i, gen V (Proc.devRef .tc main_call0_v19_1) i) = words rnd 0#32 1234#32 466689800#32 0#32 (pos i) := by
  rw [gen,
    quad5_pair _ i (466689800#32) (0#32) (by rw [quad4_main_call0_call0_v1, quad3_main_call0_call0_v1, quad2_main_call0_call0_v1, quad1_main_call0_call0_v1, head_main_call0_call0_v1]) (by rw [quad4_main_call0_v5, quad3_main_call0_v5, quad2_main_call0_v5, quad1_main_call0_v5, head_main_call0_v5]),
    quad4_pair _ i (1234#32) (466689800#32) (by rw [quad3_main_call0_v7, quad2_main_call0_v7, quad1_main_call0_v7, head_main_call0_v7]) (by rw [quad3_main_call0_call0_v1, quad2_main_call0_call0_v1, quad1_main_call0_call0_v1, head_main_call0_call0_v1]),
    quad3_pair _ i (0#32) (1234#32) (by rw [quad2_main_call0_v5, quad1_main_call0_v5, head_main_call0_v5]) (by rw [quad2_main_call0_v7, quad1_main_call0_v7, head_main_call0_v7]),
    quad2_pair _ i (466689800#32) (0#32) (by rw [quad1_main_call0_call0_v1, head_main_call0_call0_v1]) (by rw [quad1_main_call0_v5, head_main_call0_v5]),
    quad1_pair _ i (1234#32) (466689800#32) (by rw [head_main_call0_v7]) (by rw [head_main_call0_call0_v1]),
    head_x0, head_x1, pos, words]

theorem gen_w1 (V : Valuation τ sig (Elt F)) (i : S128x100000.Idx) :
    gen V (Proc.devRef .tc main_call0_v19_0) i = (words rnd 0#32 1234#32 466689800#32 0#32 (pos i)).1 := congrArg Prod.fst (gen_pair V i)

theorem gen_w2 (V : Valuation τ sig (Elt F)) (i : S128x100000.Idx) :
    gen V (Proc.devRef .tc main_call0_v19_1) i = (words rnd 0#32 1234#32 466689800#32 0#32 (pos i)).2 := congrArg Prod.snd (gen_pair V i)

theorem gen_main_arg0 (V : Valuation τ sig (Elt F)) : gen V (Proc.devRef .tc main_arg0) = after lineHead V (Proc.devRef .tc main_arg0) := by
  rw [gen, quad5_main_arg0, quad4_main_arg0, quad3_main_arg0, quad2_main_arg0, quad1_main_arg0]

theorem gen_main_call0_v2 (V : Valuation τ sig (Elt F)) : gen V (Proc.devRef .tc main_call0_v2) = after lineHead V (Proc.devRef .tc main_call0_v2) := by
  rw [gen, quad5_main_call0_v2, quad4_main_call0_v2, quad3_main_call0_v2, quad2_main_call0_v2, quad1_main_call0_v2]

theorem gen_main_call0_v3 (V : Valuation τ sig (Elt F)) : gen V (Proc.devRef .tc main_call0_v3) = after lineHead V (Proc.devRef .tc main_call0_v3) := by
  rw [gen, quad5_main_call0_v3, quad4_main_call0_v3, quad3_main_call0_v3, quad2_main_call0_v3, quad1_main_call0_v3]

/-- The noisy score of an entry. -/
theorem scored_v12 (V : Valuation τ sig (Elt F)) (i : S128x100000.Idx) :
    scored V (Proc.devRef .tc main_v12) i = FloatOps.addf (V (Proc.devRef .tc main_arg0) i) (gum (bits (pos i))) := by
  rw [scored, tail_v12 (gen V) (fun z => by rw [gen_main_call0_v2, head_main_call0_v2]) (fun z => by rw [gen_main_call0_v3, head_main_call0_v3]),
    gen_w1, gen_w2, gen_main_arg0, head_main_arg0, bits]

/-- The one-hot row the reference leaves, from the noisy scores. -/
def rowMax (E : FVec F S128x100000 .f32) : FVec F S128 .f32 :=
  maximumf (broadcastInDim S128 ![] bcast_S_S128 (constant S_ .f32 0xFF800000#32))
    (Host.reduce FloatOps.maximumf E (constant S_ .f32 0xFF800000#32) reducesTo_S128x100000_S128_d1 h_S_)

/-- Every entry's exponential under its row's maximum. -/
def expo (E : FVec F S128x100000 .f32) : FVec F S128x100000 .f32 :=
  Host.exp (subf E (broadcastInDim S128x100000 ![0, 1] bcast_S128x1_S128x100000_0_1 (broadcastInDim S128x1 ![0] bcast_S128_S128x1_0 (rowMax E))))

/-- Every row's softmax. -/
def soft (E : FVec F S128x100000 .f32) : FVec F S128x100000 .f32 :=
  Host.divf (expo E) (broadcastInDim S128x100000 ![0, 1] bcast_S128x1_S128x100000_0_1 (broadcastInDim S128x1 ![0] bcast_S128_S128x1_0
    (Host.reduceAdd (expo E) (constant S_ .f32 0x00000000#32) reducesTo_S128x100000_S128_d1 h_S_)))

/-- Every row's first greatest column. -/
def argm (S : FVec F S128x100000 .f32) : IVec S128 32 := fun j =>
  (Host.argReduce reducer_argmax_f32_i32 S (iotaInDim S128x100000 32 1) (constant S_ .f32 0xFF800000#32) (constantI S_ 32 0#32)
    reducesTo_S128x100000_S128_d1 h_S_ j).2

/-- What the reference leaves of the softmax: the one-hot row, by way of the straight-through sum. -/
def hard (S : FVec F S128x100000 .f32) : FVec F S128x100000 .f32 :=
  addf (subf (uitofp .f32 (cmpi .eq
    (broadcastInDim S128x100000 ![0, 1] bcast_S128x1_S128x100000_0_1 (broadcastInDim S128x1 ![0] bcast_S128_S128x1_0 (argm S)))
    (broadcastInDim S128x100000 ![0, 1] bcast_S1x100000_S128x100000_0_1 (iotaInDim S1x100000 32 1)))) S) S

/-- The reference's result from its noisy scores. -/
theorem tail_v29 (V : Valuation τ sig (Elt F)) : after (lineTail.drop 23) V (Proc.devRef .tc main_v29) =
    hard (soft (Host.divf (V (Proc.devRef .tc main_v12)) (broadcastInDim S128x100000 ![] bcast_S_S128x100000 (constant S_ .f32 0x3F800000#32)))) := by
  after_reads_simp
  rfl

/-- The reference's result, its noisy scores being `E`. -/
theorem line_v29 (V : Valuation τ sig (Elt F)) (E : FVec F S128x100000 .f32)
    (hE : ∀ i, E i = FloatOps.addf (V (Proc.devRef .tc main_arg0) i) (gum (bits (pos i)))) :
    after line V (Proc.devRef .tc main_v29) =
      hard (soft (Host.divf E (broadcastInDim S128x100000 ![] bcast_S_S128x100000 (constant S_ .f32 0x3F800000#32)))) := by
  rw [line_eq, tail_v29]
  have h : scored V (Proc.devRef .tc main_v12) = E := funext fun i => (scored_v12 V i).trans (hE i).symm
  exact congrArg (fun X => hard (soft (Host.divf X (broadcastInDim S128x100000 ![] bcast_S_S128x100000 (constant S_ .f32 0x3F800000#32))))) h

end Cert.ReferenceIdeal.Line

end
-- ==== Proof.PreRead.lean ====
/- The precondition read at one entry: its noisy scores are the reference's, so it says that every logit is a real
   number and that at most three scores of a row come near the row's greatest. -/
module

public import proofs.«01_k».proof.Proof.RefNoise
public import proofs.«01_k».proof.Pre_few_near_max
public import Idealize.ShloMosaic.Lib.Tactic

@[expose] public section

noncomputable section

namespace Cert.ReferenceIdeal.Line

open Cert.ReferenceIdeal Cert.ReferenceIdeal.Gen
open Idealize.ShloMosaic Idealize.ShloMosaic.TcCoe Idealize.SL.Sem
open Idealize.ShloMosaic.StableHlo
open Cert.Noise

variable {F : FTy → Type} [FloatOps F] [Cert.Pre_few_near_max.Facts]

/-- The precondition's first generator word is the generator's function of the position's words. -/
theorem pre_words (k0 k1 : BitVec 32) (hi lo : IVec S128x100000 32) (i : S128x100000.Idx) :
    (Cert.Pre_few_near_max.fn_threefry2x32 (F := F) (fun _ => k0) (fun _ => k1) hi lo).1 i = (words rnd k0 k1 (key2 k0 k1) (hi i) (lo i)).1 := by
  sl_kernel_rfl

/-- And so is its second. -/
theorem pre_words2 (k0 k1 : BitVec 32) (hi lo : IVec S128x100000 32) (i : S128x100000.Idx) :
    (Cert.Pre_few_near_max.fn_threefry2x32 (F := F) (fun _ => k0) (fun _ => k1) hi lo).2 i = (words rnd k0 k1 (key2 k0 k1) (hi i) (lo i)).2 := by
  sl_kernel_rfl

/-- The generator's key as the precondition builds it. -/
def keyP : IVec S2 32 :=
  concatenate S2 0 [⟨S1, broadcastInDim S1 ![] Cert.Pre_few_near_max.Facts.bcast_S_S1 (id (Host.shrui (constantI S_ 32 1234#32) (constantI S_ 32 32#32)))⟩,
    ⟨S1, broadcastInDim S1 ![] Cert.Pre_few_near_max.Facts.bcast_S_S1 (id (andi (constantI S_ 32 1234#32) (constantI S_ 32 4294967295#32)))⟩]
    Cert.Pre_few_near_max.Facts.concatenates_S1_S1_S2_d0

theorem key_fst : shapeCast S_ (extractStridedSlice S1 ![0] keyP Cert.Pre_few_near_max.Facts.slices_S2_S1_0)
    Cert.Pre_few_near_max.Facts.shapeCasts_S1_S_ = fun _ => 0#32 := by
  funext k
  obtain rfl : k = fun a => a.elim0 := funext fun a => a.elim0
  sl_kernel_rfl

theorem snd_at (u : IVec S2 32) (k : S_.Idx) : shapeCast S_ (extractStridedSlice S1 ![1] u Cert.Pre_few_near_max.Facts.slices_S2_S1_1)
    Cert.Pre_few_near_max.Facts.shapeCasts_S1_S_ k = u (fun a => match a with | ⟨0, _⟩ => (1 : Fin 2)) := by
  unfold shapeCast extractStridedSlice
  dsimp only
  refine congrArg u (funext fun a => Fin.ext ?_)
  match a with
  | ⟨0, _⟩ =>
    have h := (Shape.reshapeEquiv Cert.Pre_few_near_max.Facts.shapeCasts_S1_S_ k (0 : Fin 1)).isLt
    have h1 : (Shape.reshapeEquiv Cert.Pre_few_near_max.Facts.shapeCasts_S1_S_ k (0 : Fin 1)).val = 0 := Nat.lt_one_iff.mp h
    show 1 + _ = 1
    exact congrArg (1 + ·) h1

theorem key_snd : shapeCast S_ (extractStridedSlice S1 ![1] keyP Cert.Pre_few_near_max.Facts.slices_S2_S1_1)
    Cert.Pre_few_near_max.Facts.shapeCasts_S1_S_ = fun _ => 1234#32 := by
  funext k
  rw [snd_at]
  have e : andi (constantI S_ 32 1234#32) (constantI S_ 32 4294967295#32) = fun _ => 1234#32 :=
    funext fun _ => (by decide : IntOp.andi 1234#32 4294967295#32 = 1234#32)
  unfold keyP
  rw [e]
  sl_kernel_rfl

/-- The last words to the uniform, entry by entry. -/
theorem part1 (a b : BitVec 32 × BitVec 32 → IVec S128x100000 32) (p) (i : S128x100000.Idx) :
    Cert.Pre_few_near_max.fn_uniform_part1 (F := F)
      (broadcastInDim Cert.Pre_few_near_max.S1x1 ![] Cert.Pre_few_near_max.Facts.bcast_S_S1x1 (constant S_ .f32 0x2EDBE6FF#32))
      (broadcastInDim Cert.Pre_few_near_max.S1x1 ![] Cert.Pre_few_near_max.Facts.bcast_S_S1x1 (constant S_ .f32 0x3F800000#32)) (a p) (b p) i
      = uni (IntOp.xori (a p i) (b p i)) := by
  sl_kernel_rfl

/-- The precondition's uniform at an entry. -/
theorem unif (i : S128x100000.Idx) :
    Cert.Pre_few_near_max.fn_uniform (F := F) keyP (constant S_ .f32 0x2EDBE6FF#32) (constant S_ .f32 0x3F800000#32) i
      = uni (bits (pos i)) := by
  unfold Cert.Pre_few_near_max.fn_uniform
  dsimp only
  have e0 := key_fst
  have e1 := key_snd
  refine (part1 (fun _ => _) (fun _ => _) (0#32, 0#32) i).trans ?_
  refine congrArg uni ?_
  rw [e0, e1]
  rw [pre_words, pre_words2]
  have h1 := word_hi (i 0).isLt (i 1).isLt
  have h2 := word_lo (i 0).isLt (i 1).isLt
  refine (congrArg₂ (fun u v => IntOp.xori (words rnd 0#32 1234#32 (key2 0#32 1234#32) u v).1 (words rnd 0#32 1234#32 (key2 0#32 1234#32) u v).2) h1 h2).trans ?_
  rfl

/-- The precondition's marks from its noisy scores. -/
def near (E : FVec F S128x100000 .f32) : IVec S128x100000 1 :=
  cmpf .oge (addf E (broadcastInDim S128x100000 ![] bcast_S_S128x100000 (constant S_ .f32 0x3DA00000#32)))
    (broadcastInDim S128x100000 ![0, 1] bcast_S128x1_S128x100000_0_1 (broadcastInDim S128x1 ![0] bcast_S128_S128x1_0
      (Host.reduce FloatOps.maximumf E (constant S_ .f32 0xFF800000#32) reducesTo_S128x100000_S128_d1 h_S_)))

/-- How many scores of every row are marked. -/
def many (E : FVec F S128x100000 .f32) : IVec S128 32 :=
  Host.reduce IntOp.addi (extui 32 (near E) Cert.Pre_few_near_max.Facts.natLt_1_32) (constantI S_ 32 0#32) reducesTo_S128x100000_S128_d1 h_S_

/-- The row of an entry, as an index. -/
def rowOf (i : S128x100000.Idx) : S128.Idx := fun b => ⟨(i 0).val, by
  match b with
  | ⟨0, _⟩ => exact (i 0).isLt⟩

/-- The precondition over its noisy scores. -/
def preOf (x E : FVec F S128x100000 .f32) : IVec S128x100000 1 :=
  Cert.Pre_few_near_max.fn_part1 (F := F) x
    (addf E (broadcastInDim S128x100000 ![] Cert.Pre_few_near_max.Facts.bcast_S_S128x100000 (constant S_ .f32 0x3DA00000#32)))
    (broadcastInDim Cert.Pre_few_near_max.S128x1 ![0] Cert.Pre_few_near_max.Facts.bcast_S128_S128x1_0
      (Host.reduce FloatOps.maximumf E (constant S_ .f32 0xFF800000#32) Cert.Pre_few_near_max.Facts.reducesTo_S128x100000_S128_d1 Cert.Pre_few_near_max.Facts.h_S_))

theorem pre_split (x : FVec F S128x100000 .f32) :
    Cert.Pre_few_near_max.fn (F := F) x = preOf x (addf x (Host.negf (Host.log (Host.negf (Host.log (Cert.Pre_few_near_max.fn_uniform (F := F) keyP
      (constant S_ .f32 0x2EDBE6FF#32) (constant S_ .f32 0x3F800000#32))))))) := by
  unfold Cert.Pre_few_near_max.fn preOf keyP
  dsimp only

/-- The precondition in closed form. -/
theorem pre_fn (x E : FVec F S128x100000 .f32) (hE : ∀ i, E i = FloatOps.addf (x i) (gum (bits (pos i)))) (i : S128x100000.Idx) :
    Cert.Pre_few_near_max.fn (F := F) x i
      = IntOp.andi (FloatOps.cmpf .olt (FloatOps.hostAbsf (x i)) (FloatOps.ofBits .f32 0x7F800000#32))
          (IntOp.cmpi .sle (many E (rowOf i)) 3#32) := by
  have e : addf x (Host.negf (Host.log (Host.negf (Host.log (Cert.Pre_few_near_max.fn_uniform (F := F) keyP
      (constant S_ .f32 0x2EDBE6FF#32) (constant S_ .f32 0x3F800000#32)))))) = E := by
    funext j
    rw [hE]
    exact congrArg (fun u => FloatOps.addf (x j) (FloatOps.hostNegf (FloatOps.hostUnary .log (FloatOps.hostNegf (FloatOps.hostUnary .log u))))) (unif j)
  rw [pre_split, e]
  clear e hE
  have hr : preOf x E i = IntOp.andi (FloatOps.cmpf .olt (FloatOps.hostAbsf (x i)) (FloatOps.ofBits .f32 0x7F800000#32))
          (IntOp.cmpi .sle (many E (rowOf i)) 3#32) := by
    unfold preOf Cert.Pre_few_near_max.fn_part1
    dsimp only
    have hm : ∀ n : IVec S128 32, broadcastInDim S128x100000 ![0, 1] Cert.Pre_few_near_max.Facts.bcast_S128x1_S128x100000_0_1
        (cmpi .sle (broadcastInDim S128x1 ![0] Cert.Pre_few_near_max.Facts.bcast_S128_S128x1_0 n)
          (broadcastInDim S128x1 ![] Cert.Pre_few_near_max.Facts.bcast_S_S128x1 (constantI S_ 32 3#32))) i = IntOp.cmpi .sle (n (rowOf i)) 3#32 := by
      intro n
      refine congrArg (fun b => IntOp.cmpi .sle (n b) 3#32) ?_
      funext b
      match b with
      | ⟨0, _⟩ => rfl
    refine (congrArg (IntOp.andi _) (hm _)).trans ?_
    rfl
  exact hr

end Cert.ReferenceIdeal.Line

end
-- ==== Proof.Rows.lean ====
/- The rows of the logits read at the ideal instance: a row's host folds over its columns. -/
module

public import proofs.«01_k».proof.Proof.Folds
public import proofs.«01_k».proof.Proof.RefNoise
public import proofs.«01_k».proof.Proof.PreRead

@[expose] public section

noncomputable section

namespace Cert.Rows

open Cert.ReferenceIdeal Cert.ReferenceIdeal.Gen Cert.ReferenceIdeal.Line
open Idealize.ShloMosaic hiding ix1 ix2
open Idealize.ShloMosaic.ValueIdx
open Cert.Noise

/-- The rows' shape fact. -/
theorem red : S128x100000.Reduces [1] S128 := by decide

theorem lift_ix (r : Fin 128) (c : Fin 100000) : red.lift (ix1 r) c = ix2 r c := by
  funext a
  match a with
  | ⟨0, _⟩ => exact Fin.ext rfl
  | ⟨1, _⟩ => exact Fin.ext rfl

section

variable {F : FTy → Type} [FloatOps F]

/-- Every row's host maximum. -/
def topRow (E : FVec F S128x100000 .f32) : FVec F S128 .f32 :=
  Host.reduce FloatOps.maximumf E (constant S_ .f32 0xFF800000#32) reducesTo_S128x100000_S128_d1 h_S_

/-- Every row's host sum. -/
def sumRow (E : FVec F S128x100000 .f32) : FVec F S128 .f32 :=
  Host.reduceAdd E (constant S_ .f32 0x00000000#32) reducesTo_S128x100000_S128_d1 h_S_

theorem rowMax_eq (E : FVec F S128x100000 .f32) :
    rowMax E = maximumf (broadcastInDim S128 ![] bcast_S_S128 (constant S_ .f32 0xFF800000#32)) (topRow E) := rfl

theorem near_eq [Cert.Pre_few_near_max.Facts] (E : FVec F S128x100000 .f32) :
    near E = cmpf .oge (addf E (broadcastInDim S128x100000 ![] bcast_S_S128x100000 (constant S_ .f32 0x3DA00000#32)))
      (broadcastInDim S128x100000 ![0, 1] bcast_S128x1_S128x100000_0_1 (broadcastInDim S128x1 ![0] bcast_S128_S128x1_0 (topRow E))) := rfl

end

/-- A row's host maximum bounds its entries and is one of them. -/
theorem hostMax (E : FVec Ideal S128x100000 .f32) (r : Fin 128) :
    let M := topRow E (ix1 r)
    (∀ c, E (ix2 r c) ≤ M) ∧ ∃ c, M = E (ix2 r c) := by
  intro M
  have e : M = (Finset.univ : Finset (Fin 100000)).fold max (⊥ : EReal) (fun c => E (ix2 r c)) := by
    refine (Host.reduce_eq_fold_single FloatOps.maximumf E _ reducesTo_S128x100000_S128_d1 red h_S_ (ix1 r)).trans ?_
    rw [show (E ∘ red.lift (ix1 r)) = fun c : Fin 100000 => E (ix2 r c) from funext fun c => congrArg E (lift_ix r c)]
    rw [show (constant (F := Ideal) S_ .f32 0xFF800000#32 (Shape.Idx.first h_S_)) = (⊥ : EReal) from ofBits_ninf]
    rfl
  rw [e]
  obtain ⟨h1, h2⟩ := Folds.max_fold (Finset.univ : Finset (Fin 100000)) (fun c => E (ix2 r c))
  refine ⟨fun c => h1 c (Finset.mem_univ c), ?_⟩
  obtain ⟨c, _, hc⟩ := h2 ⟨0, Finset.mem_univ _⟩
  exact ⟨c, hc⟩

/-- A row's host sum. -/
theorem hostSum (E : FVec Ideal S128x100000 .f32) (r : Fin 128) :
    sumRow E (ix1 r) = ∑ c : Fin 100000, E (ix2 r c) := by
  refine (Ideal.hostReduceAdd_single reducesTo_S128x100000_S128_d1 red E _ (ix1 r)).trans ?_
  rw [show (constant (F := Ideal) S_ .f32 0x00000000#32 (Shape.Idx.first h_S_)) = (0 : EReal) from by
    show Ideal.ofBits .f32 0x00000000#32 = 0
    simp [Ideal.ofBits, Ideal.ieee]]
  rw [zero_add]
  exact Finset.sum_congr rfl fun c _ => congrArg E (lift_ix r c)

/-- A row's number spread over its columns. -/
theorem spread {α : Type} (f : S128.Idx → α) (r : Fin 128) (c : Fin 100000) :
    broadcastInDim S128x100000 ![0, 1] bcast_S128x1_S128x100000_0_1 (broadcastInDim S128x1 ![0] bcast_S128_S128x1_0 f) (ix2 r c) = f (ix1 r) := by
  refine congrArg f (funext fun b => ?_)
  match b with
  | ⟨0, _⟩ => rfl

/-- A sum of marks is their number. -/
theorem count_fold {ι : Type} (S : Finset ι) (b : ι → BitVec 1) :
    S.fold IntOp.addi 0#32 (fun i => BitVec.setWidth 32 (b i)) = BitVec.ofNat 32 (S.filter fun i => b i = 1#1).card := by
  classical
  induction S using Finset.induction_on with
  | empty => rfl
  | insert a S ha ih =>
    rw [Finset.fold_insert ha, ih, Finset.filter_insert]
    split
    next h =>
      rw [Finset.card_insert_of_notMem (fun hh => ha (Finset.mem_filter.mp hh).1), h]
      apply BitVec.eq_of_toNat_eq
      simp [IntOp.addi, BitVec.toNat_add]
      omega
    next h =>
      have h0 : b a = 0#1 := by
        have := (b a).isLt
        apply BitVec.eq_of_toNat_eq
        have h1 : (b a).toNat ≠ 1 := fun hh => h (BitVec.eq_of_toNat_eq hh)
        simp; omega
      rw [h0]
      simp [IntOp.addi]

variable [Cert.Pre_few_near_max.Facts]

/-- The number of a row's marked entries. -/
theorem many_eq (E : FVec Ideal S128x100000 .f32) (r : Fin 128) :
    many E (ix1 r) = BitVec.ofNat 32 ((Finset.univ : Finset (Fin 100000)).filter fun c => near E (ix2 r c) = 1#1).card := by
  refine (Host.reduce_eq_fold_single IntOp.addi _ _ reducesTo_S128x100000_S128_d1 red h_S_ (ix1 r)).trans ?_
  rw [← count_fold]
  rw [show ((extui 32 (near E) Cert.Pre_few_near_max.Facts.natLt_1_32 : IVec S128x100000 32) ∘ red.lift (ix1 r))
    = fun c : Fin 100000 => BitVec.setWidth 32 (near E (ix2 r c)) from
      funext fun c => congrArg (fun i => BitVec.setWidth 32 (near E i)) (lift_ix r c)]
  rfl

end Cert.Rows

end
-- ==== Proof.PreFew.lean ====
/- The precondition at the ideal instance: every logit is a real number, and at most three noisy scores of a row come
   within the band of the row's greatest. -/
module

public import proofs.«01_k».proof.Proof.Rows

@[expose] public section

noncomputable section

namespace Cert.Rows

open Cert.ReferenceIdeal Cert.ReferenceIdeal.Gen Cert.ReferenceIdeal.Line
open Idealize.ShloMosaic hiding ix1 ix2
open Idealize.ShloMosaic.ValueIdx
open Cert.Noise

variable [Cert.Pre_few_near_max.Facts]

theorem and_one {a b : BitVec 1} (h : IntOp.andi a b = 1#1) : a = 1#1 ∧ b = 1#1 := by
  revert a b; decide

/-- A real number's magnitude is below infinity, and nothing else's is. -/
theorem real_of_abs {x : EReal} (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have h1 : Ideal.cmp .olt (max x (-x)) (Ideal.ofBits .f32 0x7F800000#32) = 1#1 := h
  rw [ofBits_inf] at h1
  induction x using EReal.rec with
  | bot => simp [Ideal.cmp] at h1
  | top => simp [Ideal.cmp] at h1
  | coe r => exact ⟨r, rfl⟩

/-- Every logit is a real number. -/
theorem pre_real (x : FVec Ideal S128x100000 .f32) (h : Cert.Pre_few_near_max.fn (F := Ideal) x = fun _ => 1#1) (i : S128x100000.Idx) :
    ∃ r : ℝ, x i = (r : EReal) := by
  have h1 := congrFun h i
  rw [pre_fn x (fun i => FloatOps.addf (x i) (gum (bits (pos i)))) (fun _ => rfl) i] at h1
  exact real_of_abs (and_one h1).1

/-- A mark says that its score comes near the row's greatest. -/
theorem near_iff (E : FVec Ideal S128x100000 .f32) (e : Fin 128 → Fin 100000 → ℝ) (hE : ∀ r c, E (ix2 r c) = (e r c : EReal))
    (r : Fin 128) (w : Fin 100000) (hw : ∀ c, e r c ≤ e r w) (c : Fin 100000) :
    near E (ix2 r c) = 1#1 ↔ e r w ≤ e r c + 5 / 64 := by
  have hM : topRow E (ix1 r) = (e r w : EReal) := by
    obtain ⟨h1, k, h2⟩ := hostMax E r
    refine le_antisymm ?_ ?_
    · rw [h2, hE]; exact EReal.coe_le_coe_iff.mpr (hw k)
    · rw [← hE]; exact h1 w
  have h3 : near E (ix2 r c) = Ideal.cmp .oge (E (ix2 r c) + Ideal.ofBits .f32 0x3DA00000#32)
      (topRow E (ix1 r)) := by
    have hT : ∀ T : FVec Ideal S128 .f32, cmpf .oge (addf E (broadcastInDim S128x100000 ![] bcast_S_S128x100000 (constant S_ .f32 0x3DA00000#32)))
        (broadcastInDim S128x100000 ![0, 1] bcast_S128x1_S128x100000_0_1 (broadcastInDim S128x1 ![0] bcast_S128_S128x1_0 T)) (ix2 r c)
        = Ideal.cmp .oge (E (ix2 r c) + Ideal.ofBits .f32 0x3DA00000#32) (T (ix1 r)) := by
      intro T
      rw [← spread T r c]
      rfl
    exact (congrFun (near_eq E) _).trans (hT _)
  rw [h3, hM, hE, ofBits_band]
  rw [← EReal.coe_add]
  unfold Ideal.cmp
  simp only [EReal.coe_le_coe_iff]
  constructor
  · intro h; by_contra hn; rw [decide_eq_false hn] at h; exact absurd h (by decide)
  · intro h; rw [decide_eq_true h]; rfl

/-- At most three scores of a row come near the row's greatest. -/
theorem pre_few (x E : FVec Ideal S128x100000 .f32) (h : Cert.Pre_few_near_max.fn (F := Ideal) x = fun _ => 1#1)
    (hx : ∀ i, E i = FloatOps.addf (x i) (gum (bits (pos i))))
    (e : Fin 128 → Fin 100000 → ℝ) (hE : ∀ r c, E (ix2 r c) = (e r c : EReal))
    (r : Fin 128) (w : Fin 100000) (hw : ∀ c, e r c ≤ e r w) :
    ((Finset.univ : Finset (Fin 100000)).filter fun c => e r w ≤ e r c + 5 / 64).card ≤ 3 := by
  have h1 := congrFun h (ix2 r w)
  rw [pre_fn x E hx (ix2 r w)] at h1
  have h2 := (and_one h1).2
  rw [show rowOf (ix2 r w) = ix1 r from by funext b; match b with | ⟨0, _⟩ => rfl] at h2
  rw [many_eq] at h2
  rw [Finset.filter_congr (q := fun c => e r w ≤ e r c + 5 / 64) (fun c _ => near_iff E e hE r w hw c)] at h2
  have hc : ((Finset.univ : Finset (Fin 100000)).filter fun c => e r w ≤ e r c + 5 / 64).card ≤ 100000 := by
    refine (Finset.card_le_univ _).trans ?_
    rw [Fintype.card_fin]
  generalize ((Finset.univ : Finset (Fin 100000)).filter fun c => e r w ≤ e r c + 5 / 64).card = n at h2 hc ⊢
  by_contra hn
  have h3 : (BitVec.ofNat 32 n).toInt = n := by
    rw [BitVec.toInt_ofNat']
    simp only [Int.bmod]
    split <;> omega
  have h4 : BitVec.sle (BitVec.ofNat 32 n) 3#32 = false := by
    rw [BitVec.sle, h3]
    have : (3#32 : BitVec 32).toInt = 3 := by decide
    rw [this]; exact decide_eq_false (by omega)
  have h5 : IntOp.cmpi .sle (BitVec.ofNat 32 n) 3#32 = BitVec.ofBool (BitVec.sle (BitVec.ofNat 32 n) 3#32) := rfl
  rw [h5, h4] at h2
  exact absurd h2 (by decide)

end Cert.Rows

end
-- ==== Proof.RefSoft.lean ====
/- The reference's tail at the ideal instance: the one-hot row of the first greatest score. -/
module

public import proofs.«01_k».proof.Proof.Rows

@[expose] public section

noncomputable section

namespace Cert.Rows

open Cert.ReferenceIdeal Cert.ReferenceIdeal.Gen Cert.ReferenceIdeal.Line
open Idealize.ShloMosaic hiding ix1 ix2 eq_ix2
open Idealize.ShloMosaic.ValueIdx
open Cert.Noise

/-- A quotient of reals, the divisor not zero. -/
theorem div_coe (a b : ℝ) (hb : b ≠ 0) : Ideal.div (a : EReal) (b : EReal) = ((a / b : ℝ) : EReal) := by
  unfold Ideal.div
  rw [if_neg (by exact_mod_cast hb)]
  rw [← EReal.coe_inv, ← EReal.coe_mul, div_eq_mul_inv]

theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The unit divisor of the reference changes nothing. -/
theorem div_unit (E : FVec Ideal S128x100000 .f32) (e : Fin 128 → Fin 100000 → ℝ) (hE : ∀ r c, E (ix2 r c) = (e r c : EReal))
    (r : Fin 128) (c : Fin 100000) :
    Host.divf E (broadcastInDim S128x100000 ![] bcast_S_S128x100000 (constant S_ .f32 0x3F800000#32)) (ix2 r c) = (e r c : EReal) := by
  show Ideal.div (E (ix2 r c)) (Ideal.ofBits .f32 0x3F800000#32) = _
  rw [ofBits_one, hE]
  have := div_coe (e r c) 1 one_ne_zero
  rw [div_one] at this
  exact_mod_cast this

theorem rowMax_at (E : FVec Ideal S128x100000 .f32) (r : Fin 128) : rowMax E (ix1 r) = max (Ideal.ofBits .f32 0xFF800000#32) (topRow E (ix1 r)) := by
  have h : ∀ (T : FVec Ideal S128 .f32), maximumf (broadcastInDim S128 ![] bcast_S_S128 (constant S_ .f32 0xFF800000#32)) T (ix1 r) = max (Ideal.ofBits .f32 0xFF800000#32) (T (ix1 r)) := by
    intro T
    rfl
  exact (congrFun (rowMax_eq E) (ix1 r)).trans (h _)

theorem expo_at (E : FVec Ideal S128x100000 .f32) (r : Fin 128) (c : Fin 100000) :
    expo E (ix2 r c) = Ideal.exp (E (ix2 r c) - rowMax E (ix1 r)) := by
  unfold expo
  generalize rowMax E = T
  rw [← spread T r c]
  rfl

theorem soft_at (E : FVec Ideal S128x100000 .f32) (r : Fin 128) (c : Fin 100000) :
    soft E (ix2 r c) = Ideal.div (expo E (ix2 r c)) (sumRow (expo E) (ix1 r)) := by
  unfold soft sumRow
  generalize Host.reduceAdd (expo E) _ _ _ = T
  generalize expo E = X
  rw [← spread T r c]
  rfl

/-- The softmax of real rows. -/
theorem soft_real (E : FVec Ideal S128x100000 .f32) (e : Fin 128 → Fin 100000 → ℝ) (hE : ∀ r c, E (ix2 r c) = (e r c : EReal))
    (r : Fin 128) : ∃ M Z : ℝ, 0 < Z ∧ ∀ c, soft E (ix2 r c) = ((Real.exp (e r c - M) / Z : ℝ) : EReal) := by
  obtain ⟨h1, k, h2⟩ := hostMax E r
  have hM : rowMax E (ix1 r) = (e r k : EReal) := by
    rw [rowMax_at, ofBits_ninf, h2, hE]
    exact max_eq_right bot_le
  have hx : ∀ c, expo E (ix2 r c) = ((Real.exp (e r c - e r k) : ℝ) : EReal) := by
    intro c
    rw [expo_at, hM, hE, ← EReal.coe_sub]
    rfl
  have hpos : 0 < ∑ c : Fin 100000, Real.exp (e r c - e r k) :=
    Finset.sum_pos (fun c _ => Real.exp_pos _) ⟨k, Finset.mem_univ _⟩
  have hs : sumRow (expo E) (ix1 r) = ((∑ c : Fin 100000, Real.exp (e r c - e r k) : ℝ) : EReal) := by
    rw [hostSum, ← coe_sum]
    exact Finset.sum_congr rfl fun c _ => hx c
  refine ⟨e r k, _, hpos, fun c => ?_⟩
  rw [soft_at, hs, hx]
  exact div_coe _ _ hpos.ne'

/-- What a fold of the arg-max body keeps: a pair no other beats. -/
def beats (p q : EReal × BitVec 32) : Prop := q.1 < p.1 ∨ (q.1 = p.1 ∧ p.2.toInt ≤ q.2.toInt)

theorem beats_refl (p : EReal × BitVec 32) : beats p p := .inr ⟨rfl, le_refl _⟩

theorem beats_trans {p q s : EReal × BitVec 32} (h1 : beats p q) (h2 : beats q s) : beats p s := by
  rcases h1 with h1 | ⟨h1, h1'⟩ <;> rcases h2 with h2 | ⟨h2, h2'⟩
  · exact .inl (h2.trans h1)
  · exact .inl (h2 ▸ h1)
  · exact .inl (h1 ▸ h2)
  · exact .inr ⟨h2.trans h1, h1'.trans h2'⟩

theorem body_beats (a b : EReal × BitVec 32) :
    let p := reducer_argmax_f32_i32 (F := Ideal) a b
    (p = a ∨ p = b) ∧ beats p a ∧ beats p b := by
  obtain ⟨a1, a2⟩ := a
  obtain ⟨b1, b2⟩ := b
  have e : reducer_argmax_f32_i32 (F := Ideal) (a1, a2) (b1, b2)
      = (Scalar.select (IntOp.ori (Ideal.cmp .ogt a1 b1) (Ideal.cmp .une a1 a1)) a1 b1,
          Scalar.select (IntOp.ori (IntOp.ori (Ideal.cmp .ogt a1 b1) (Ideal.cmp .une a1 a1)) (IntOp.andi (Ideal.cmp .oeq a1 b1) (IntOp.cmpi .slt a2 b2))) a2 b2) := rfl
  intro p
  have hp : p = reducer_argmax_f32_i32 (F := Ideal) (a1, a2) (b1, b2) := rfl
  rw [e] at hp
  clear_value p
  subst hp
  have hu : Ideal.cmp .une a1 a1 = 0#1 := by simp [Ideal.cmp]
  have hs : IntOp.cmpi .slt a2 b2 = BitVec.ofBool (decide (a2.toInt < b2.toInt)) := rfl
  rw [hu, hs]
  unfold Ideal.cmp
  rcases lt_trichotomy b1 a1 with h | h | h
  · simp [h, h.ne', Scalar.select, IntOp.ori, IntOp.andi, beats]
  · subst h
    by_cases h2 : a2.toInt < b2.toInt
    · simp [h2, Scalar.select, IntOp.ori, IntOp.andi, beats, h2.le]
    · simp [h2, Scalar.select, IntOp.ori, IntOp.andi, beats, not_lt.mp h2]
  · simp [h, h.not_gt, h.ne, Scalar.select, IntOp.ori, IntOp.andi, beats]

theorem foldl_beats (L : List (EReal × BitVec 32)) (a : EReal × BitVec 32) :
    let p := L.foldl (reducer_argmax_f32_i32 (F := Ideal)) a
    (p = a ∨ p ∈ L) ∧ beats p a ∧ ∀ q ∈ L, beats p q := by
  induction L generalizing a with
  | nil => exact ⟨.inl rfl, beats_refl a, fun q hq => absurd hq (by simp)⟩
  | cons b L ih =>
    obtain ⟨h1, h2, h3⟩ := ih (reducer_argmax_f32_i32 (F := Ideal) a b)
    obtain ⟨g1, g2, g3⟩ := body_beats a b
    refine ⟨?_, beats_trans h2 g2, fun q hq => ?_⟩
    · rcases h1 with h1 | h1
      · rcases g1 with g1 | g1
        · exact .inl (h1.trans g1)
        · exact .inr (List.mem_cons.mpr (.inl (h1.trans g1)))
      · exact .inr (List.mem_cons.mpr (.inr h1))
    · rcases List.mem_cons.mp hq with rfl | hq
      · exact beats_trans h2 g3
      · exact h3 q hq

/-- The columns' numbers are ordered as their words. -/
theorem toInt_col {n : ℕ} (h : n < 2147483648) : (BitVec.ofNat 32 n).toInt = n := by
  rw [BitVec.toInt_ofNat']
  simp only [Int.bmod]
  split <;> omega

theorem argReduce_fold {F : FTy → Type} [FloatOps F] (hu : ∀ v : F .f32, FloatOps.cmpf .une v v ≠ 1#1) (s : Shape) (axes : List (Fin s.rank))
    (f : F .f32 × BitVec 32 → F .f32 × BitVec 32 → F .f32 × BitVec 32) (x : FVec F s .f32) (y : s.Idx → BitVec 32) (ix : S_.Idx → F .f32)
    (iy : S_.Idx → BitVec 32) (h : s.ReducesTo axes S128) (hh : 0 < S_.numel) (j : S128.Idx) :
    Host.argReduce f x y ix iy h hh j = (Host.argReduceFiber x y h j).foldl f (ix (Shape.Idx.first hh), iy (Shape.Idx.first hh)) := by
  rw [Host.argReduce_eq_reduce2_of_une_irrefl hu]
  exact Host.reduce2_eq_foldl_fiber ..

theorem argm_foldF {F : FTy → Type} [FloatOps F] (hu : ∀ v : F .f32, FloatOps.cmpf .une v v ≠ 1#1) (S : FVec F S128x100000 .f32) (j : S128.Idx) :
    argm S j = ((Host.argReduceFiber S (iotaInDim S128x100000 32 1) reducesTo_S128x100000_S128_d1 j).foldl
      reducer_argmax_f32_i32 (FloatOps.ofBits .f32 0xFF800000#32, 0#32)).2 := by
  have e : argm S = fun j => (Host.argReduce reducer_argmax_f32_i32 S (iotaInDim S128x100000 32 1) (constant S_ .f32 0xFF800000#32) (constantI S_ 32 0#32)
    reducesTo_S128x100000_S128_d1 h_S_ j).2 := rfl
  have h := argReduce_fold hu S128x100000 [1] reducer_argmax_f32_i32 S (iotaInDim S128x100000 32 1) (constant S_ .f32 0xFF800000#32) (constantI S_ 32 0#32)
    reducesTo_S128x100000_S128_d1 h_S_ j
  have h1 : (constant S_ .f32 0xFF800000#32 : FVec F S_ .f32) (Shape.Idx.first h_S_) = FloatOps.ofBits .f32 0xFF800000#32 := rfl
  have h2 : (constantI S_ 32 0#32 : IVec S_ 32) (Shape.Idx.first h_S_) = 0#32 := rfl
  rw [h1, h2] at h
  exact (congrFun e j).trans (congrArg Prod.snd h)

theorem argm_fold (S : FVec Ideal S128x100000 .f32) (r : Fin 128) :
    argm S (ix1 r) = ((Host.argReduceFiber S (iotaInDim S128x100000 32 1) reducesTo_S128x100000_S128_d1 (ix1 r)).foldl
      (reducer_argmax_f32_i32 (F := Ideal)) (⊥, 0#32)).2 := by
  have h := argm_foldF (F := Ideal) (fun v => by simp [Ideal.cmpf_def, Ideal.cmp]) S (ix1 r)
  have h3 : (FloatOps.ofBits (F := Ideal) .f32 0xFF800000#32) = (⊥ : EReal) := ofBits_ninf
  rw [h3] at h
  exact h

theorem drop_ix (i : S128x100000.Idx) : reducesTo_S128x100000_S128_d1.drop i = ix1 (i 0) := by
  funext b
  match b with
  | ⟨0, _⟩ => exact Fin.ext rfl

theorem fiber_mem (S : FVec Ideal S128x100000 .f32) (s : Fin 128 → Fin 100000 → ℝ) (r : Fin 128) (hS : ∀ c, S (ix2 r c) = (s r c : EReal))
    (q : EReal × BitVec 32) : q ∈ Host.argReduceFiber S (iotaInDim S128x100000 32 1) reducesTo_S128x100000_S128_d1 (ix1 r)
      ↔ ∃ c : Fin 100000, q = ((s r c : EReal), BitVec.ofNat 32 c.val) := by
  unfold Host.argReduceFiber
  rw [List.mem_map]
  constructor
  · rintro ⟨n, hn, rfl⟩
    have hn := (List.mem_filter.mp hn).2
    have hn := of_decide_eq_true hn
    rw [drop_ix] at hn
    obtain ⟨a, c, hi⟩ : ∃ a c, S128x100000.rowMajor.symm n = ix2 a c := ⟨_, _, eq_ix2 _⟩
    rw [hi] at hn ⊢
    have ha : a = r := congrFun hn 0
    subst ha
    exact ⟨c, by rw [hS]; rfl⟩
  · rintro ⟨c, rfl⟩
    refine ⟨S128x100000.rowMajor (ix2 r c), List.mem_filter.mpr ⟨List.mem_finRange _, ?_⟩, ?_⟩
    · rw [Equiv.symm_apply_apply, drop_ix]; simp
    · rw [Equiv.symm_apply_apply, hS]; rfl

/-- A real row's arg-max is the first greatest column. -/
theorem argm_eq (S : FVec Ideal S128x100000 .f32) (s : Fin 128 → Fin 100000 → ℝ) (r : Fin 128) (hS : ∀ c, S (ix2 r c) = (s r c : EReal))
    (w : Fin 100000) (hw : ∀ c, s r c ≤ s r w) (hf : ∀ c, s r c = s r w → w ≤ c) : argm S (ix1 r) = BitVec.ofNat 32 w.val := by
  rw [argm_fold]
  obtain ⟨h1, h2, h3⟩ := foldl_beats (Host.argReduceFiber S (iotaInDim S128x100000 32 1) reducesTo_S128x100000_S128_d1 (ix1 r)) (⊥, 0#32)
  have hmem := fiber_mem S s r hS
  revert h1 h2 h3 hmem
  generalize List.foldl _ _ _ = p
  intro h1 h2 h3 hmem
  have hwp := h3 _ ((hmem _).mpr ⟨w, rfl⟩)
  rcases h1 with h1 | h1
  · exfalso
    rw [h1] at hwp
    rcases hwp with h | ⟨h, _⟩
    · exact not_lt_bot h
    · exact EReal.coe_ne_bot _ h
  · obtain ⟨c, rfl⟩ := (hmem p).mp h1
    rcases hwp with h | ⟨h, h'⟩
    · exact absurd (EReal.coe_lt_coe_iff.mp h) (not_lt.mpr (hw c))
    · have h4 := hf c (EReal.coe_eq_coe_iff.mp h).symm
      have hc := c.isLt
      have hww := w.isLt
      simp only at h'
      rw [toInt_col (by omega), toInt_col (by omega)] at h'
      have : c = w := le_antisymm (Fin.le_def.mpr (by omega)) h4
      rw [this]

theorem hard_at (S : FVec Ideal S128x100000 .f32) (r : Fin 128) (c : Fin 100000) :
    hard S (ix2 r c) = ((((IntOp.cmpi .eq (argm S (ix1 r)) (BitVec.ofNat 32 c.val)).toNat : ℝ) : EReal) - S (ix2 r c)) + S (ix2 r c) := by
  have hT : ∀ T : IVec S128 32, addf (F := Ideal) (subf (uitofp .f32 (cmpi .eq
      (broadcastInDim S128x100000 ![0, 1] bcast_S128x1_S128x100000_0_1 (broadcastInDim S128x1 ![0] bcast_S128_S128x1_0 T))
      (broadcastInDim S128x100000 ![0, 1] bcast_S1x100000_S128x100000_0_1 (iotaInDim S1x100000 32 1)))) S) S (ix2 r c)
      = ((((IntOp.cmpi .eq (T (ix1 r)) (BitVec.ofNat 32 c.val)).toNat : ℝ) : EReal) - S (ix2 r c)) + S (ix2 r c) := by
    intro T
    rw [← spread T r c]
    rfl
  exact hT (argm S)

/-- The one-hot row by way of the straight-through sum. -/
theorem hot (w c : Fin 100000) (s : ℝ) :
    (((((IntOp.cmpi .eq (BitVec.ofNat 32 w.val) (BitVec.ofNat 32 c.val)).toNat : ℝ) : EReal) - (s : EReal)) + (s : EReal) : EReal)
      = if c = w then (1 : EReal) else 0 := by
  have hc := c.isLt
  have hww := w.isLt
  have hb : IntOp.cmpi .eq (BitVec.ofNat 32 w.val) (BitVec.ofNat 32 c.val) = if c = w then 1#1 else 0#1 := by
    show BitVec.ofBool (BitVec.ofNat 32 w.val == BitVec.ofNat 32 c.val) = _
    by_cases h : c = w
    · subst h; simp
    · rw [if_neg h]
      have hn : BitVec.ofNat 32 w.val ≠ BitVec.ofNat 32 c.val := fun hh => h (Fin.ext (by
        have h5 : (BitVec.ofNat 32 w.val).toNat = (BitVec.ofNat 32 c.val).toNat := by rw [hh]
        rw [BitVec.toNat_ofNat, BitVec.toNat_ofNat] at h5
        omega))
      rw [beq_eq_false_iff_ne.mpr hn]
      rfl
  rw [hb]
  by_cases h : c = w
  · rw [if_pos h, if_pos h]
    show (((1#1 : BitVec 1).toNat : ℝ) : EReal) - _ + _ = 1
    rw [← EReal.coe_sub, ← EReal.coe_add]
    simp
  · rw [if_neg h, if_neg h]
    show (((0#1 : BitVec 1).toNat : ℝ) : EReal) - _ + _ = 0
    rw [← EReal.coe_sub, ← EReal.coe_add]
    simp

theorem hard_of (D : FVec Ideal S128x100000 .f32) (e : Fin 128 → Fin 100000 → ℝ) (hD : ∀ r c, D (ix2 r c) = (e r c : EReal))
    (r : Fin 128) (w : Fin 100000) (hw : ∀ c, e r c ≤ e r w) (hf : ∀ c, e r c = e r w → w ≤ c) (c : Fin 100000) :
    hard (soft D) (ix2 r c) = if c = w then (1 : EReal) else 0 := by
  obtain ⟨M, Z, hZ, hs⟩ := soft_real D e hD r
  have ha : argm (soft D) (ix1 r) = BitVec.ofNat 32 w.val := by
    refine argm_eq (soft D) (fun r c => Real.exp (e r c - M) / Z) r hs w (fun c => ?_) (fun c h => hf c ?_)
    · exact div_le_div_of_nonneg_right (Real.exp_le_exp.mpr (by linarith [hw c])) hZ.le
    · have h1 := (div_left_inj' hZ.ne').mp h
      have h2 := Real.exp_injective h1
      linarith
  rw [hard_at, ha, hs]
  exact hot w c _

/-- The reference's tail leaves the one-hot row of the first greatest score. -/
theorem hard_soft (E : FVec Ideal S128x100000 .f32) (e : Fin 128 → Fin 100000 → ℝ) (hE : ∀ r c, E (ix2 r c) = (e r c : EReal))
    (r : Fin 128) (w : Fin 100000) (hw : ∀ c, e r c ≤ e r w) (hf : ∀ c, e r c = e r w → w ≤ c) (c : Fin 100000) :
    hard (soft (Host.divf E (broadcastInDim S128x100000 ![] bcast_S_S128x100000 (constant S_ .f32 0x3F800000#32)))) (ix2 r c)
      = if c = w then (1 : EReal) else 0 :=
  hard_of _ e (div_unit E e hE) r w hw hf c

end Cert.Rows

end
-- ==== Proof.Algebraic.lean ====
/- The kernel's idealization and the reference's leave the same array: every row's one-hot of its first greatest noisy logit. -/
module

public import proofs.«01_k».proof.Defs
public import proofs.«01_k».proof.Proof.Value
public import proofs.«01_k».proof.Proof.PreFew
public import proofs.«01_k».proof.Proof.RefSoft

@[expose] public section

noncomputable section

namespace Cert.Both

open Idealize.ShloMosaic hiding ix1 ix2 ix3 eq_ix2
open Idealize.ShloMosaic.TcCoe Idealize.SL.Sem
open Idealize.ShloMosaic.ValueIdx
open Cert.Noise

/-- The noise as reals. -/
theorem noise_real : ∃ γ : Fin 128 → Fin 100000 → ℝ, (∀ r k, -3.26 ≤ γ r k ∧ γ r k ≤ 16.68)
    ∧ ∀ r k, gum (F := Ideal) (bits (BitVec.ofNat 32 (r.val * 100000 + k.val))) = (γ r k : EReal) := by
  choose γ h1 h2 using fun (r : Fin 128) (k : Fin 100000) => gum_real (bits (BitVec.ofNat 32 (r.val * 100000 + k.val)))
  exact ⟨γ, h2, h1⟩

/-- A row of reals has a first greatest column. -/
theorem first_max (f : Fin 100000 → ℝ) : ∃ w, (∀ k, f k ≤ f w) ∧ ∀ k, f k = f w → w ≤ k := by
  obtain ⟨v, _, hv⟩ := Finset.exists_max_image Finset.univ f ⟨0, Finset.mem_univ _⟩
  have hne : (Finset.univ.filter fun k => f k = f v).Nonempty := ⟨v, by simp⟩
  obtain ⟨w, hw, hmin⟩ := Finset.exists_min_image (Finset.univ.filter fun k => f k = f v) id hne
  have hwv : f w = f v := (Finset.mem_filter.mp hw).2
  refine ⟨w, fun k => hwv ▸ hv k (Finset.mem_univ _), fun k hk => ?_⟩
  exact hmin k (Finset.mem_filter.mpr ⟨Finset.mem_univ _, hk.trans hwv⟩)

/-- The noisy logits of an input, as the reference scores them. -/
def noisy (X : FVec Ideal Cert.ReferenceIdeal.S128x100000 .f32) : FVec Ideal Cert.ReferenceIdeal.S128x100000 .f32 := fun i =>
  FloatOps.addf (X i) (gum (bits (Cert.ReferenceIdeal.Line.pos i)))

/-- At real inputs the noisy logits are real. -/
theorem noisy_at (X : FVec Ideal Cert.ReferenceIdeal.S128x100000 .f32) (x γ : Fin 128 → Fin 100000 → ℝ) (hx : ∀ r k, X (ix2 r k) = (x r k : EReal))
    (hg : ∀ r k, gum (F := Ideal) (bits (BitVec.ofNat 32 (r.val * 100000 + k.val))) = (γ r k : EReal)) (r : Fin 128) (k : Fin 100000) :
    noisy X (ix2 r k) = ((x r k + γ r k : ℝ) : EReal) := by
  have h : noisy X (ix2 r k) = X (ix2 r k) + gum (F := Ideal) (bits (BitVec.ofNat 32 (r.val * 100000 + k.val))) := rfl
  rw [h, hx, hg, EReal.coe_add]

variable [Cert.Pre_few_near_max.Facts]

/-- What the precondition gives of an input: its entries are reals, and every row has a first greatest noisy logit with few near it. -/
theorem input_real (X : FVec Ideal Cert.ReferenceIdeal.S128x100000 .f32) (h : Cert.Pre_few_near_max.fn (F := Ideal) X = fun _ => 1#1)
    (γ : Fin 128 → Fin 100000 → ℝ) (hg : ∀ r k, gum (F := Ideal) (bits (BitVec.ofNat 32 (r.val * 100000 + k.val))) = (γ r k : EReal)) :
    ∃ (x : Fin 128 → Fin 100000 → ℝ) (w : Fin 128 → Fin 100000), (∀ r k, X (ix2 r k) = (x r k : EReal)) ∧ (∀ r k, x r k + γ r k ≤ x r (w r) + γ r (w r))
      ∧ (∀ r k, x r k + γ r k = x r (w r) + γ r (w r) → w r ≤ k)
      ∧ ∀ r, (Finset.univ.filter fun k => x r (w r) + γ r (w r) ≤ x r k + γ r k + 5/64).card ≤ 3 := by
  choose x hx using fun (r : Fin 128) (k : Fin 100000) => Cert.Rows.pre_real X h (ix2 r k)
  choose w hw hf using fun r => first_max fun k => x r k + γ r k
  refine ⟨x, w, hx, hw, hf, fun r => ?_⟩
  exact Cert.Rows.pre_few X (noisy X) h (fun _ => rfl) (fun r k => x r k + γ r k) (noisy_at X x γ hx hg) r (w r) (hw r)

/-- The reference's result is the one-hot. -/
theorem reference_result (X : FVec Ideal Cert.ReferenceIdeal.S128x100000 .f32) (V : Valuation Cert.ReferenceIdeal.τ Cert.ReferenceIdeal.sig (Elt Ideal))
    (hV : V (Proc.devRef .tc Cert.ReferenceIdeal.main_arg0) = X) (x γ : Fin 128 → Fin 100000 → ℝ) (w : Fin 128 → Fin 100000)
    (hx : ∀ r k, X (ix2 r k) = (x r k : EReal))
    (hg : ∀ r k, gum (F := Ideal) (bits (BitVec.ofNat 32 (r.val * 100000 + k.val))) = (γ r k : EReal))
    (hw : ∀ r k, x r k + γ r k ≤ x r (w r) + γ r (w r)) (hf : ∀ r k, x r k + γ r k = x r (w r) + γ r (w r) → w r ≤ k) :
    StableHlo.after Cert.ReferenceIdeal.Line.line V (Proc.devRef .tc Cert.ReferenceIdeal.main_v29) = Cert.KernelIdeal.Value.oneHot w := by
  rw [Cert.ReferenceIdeal.Line.line_v29 V (noisy X) (fun i => by rw [hV]; rfl)]
  funext i
  obtain ⟨r, k, rfl⟩ : ∃ r k, i = ix2 r k := ⟨_, _, eq_ix2 i⟩
  rw [Cert.Rows.hard_soft (noisy X) (fun r k => x r k + γ r k) (noisy_at X x γ hx hg) r (w r) (hw r) (hf r) k]
  show (if k = w r then (1 : EReal) else 0) = if k.val = (w r).val then (1 : EReal) else 0
  by_cases hc : k = w r
  · rw [if_pos hc, if_pos (congrArg Fin.val hc)]
  · rw [if_neg hc, if_neg (fun h => hc (Fin.ext h))]

/-- The two programs end with the same result. -/
theorem algebraic : Cert.algebraic_KernelIdeal_ReferenceIdeal_pre_few_near_max := by
  intro m g m' g' hpre hagree
  obtain ⟨γ, hγ, hg⟩ := noise_real
  choose x w hx hw hf hfew using fun c => input_real _ (hpre c) γ hg
  refine ⟨fun c => Cert.KernelIdeal.Value.oneHot (w c), ?_, ?_⟩
  · refine Cert.KernelIdeal.Body.run (Cert.KernelIdeal.Value.keeps (x := x) (γ := γ) (w := w) hx hγ hg hw hf hfew) g _ fun r h c => ⟨?_, ?_⟩
    · exact Cert.KernelIdeal.Value.result_eq c _ r h.1
    · exact (Idealize.ShloMosaic.Pipeline.RDat.FramePost.arr_in h.1 c 0 rfl).trans (Cert.KernelIdeal.Gen.V_main_arg0 m c)
  · refine (θ_run _ _ _).mono (fun r h c => ⟨?_, ?_⟩) (Cert.ReferenceIdeal.Line.run m' g')
    · exact (h c Cert.ReferenceIdeal.main_v29).trans (reference_result _ _ (hagree c) (x c) γ (w c) (hx c) hg (hw c) (hf c))
    · exact (h c Cert.ReferenceIdeal.main_arg0).trans (Cert.ReferenceIdeal.Line.arg0_kept _)

end Cert.Both

end
-- ==== Proof.lean ====
/- The certificate: the two runs of the kernel's program (Proof/Run.lean, and Proof/KRun.lean for the program before its
   idealization), the reference's (Proof/Line.lean), and that the two end with the same array (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_few_near_max
public import proofs.«01_k».proof.Proof.Run
public import proofs.«01_k».proof.Proof.KRun
public import proofs.«01_k».proof.Proof.Line
public import proofs.«01_k».proof.Proof.Algebraic
public import Idealize.ShloMosaic.Adequacy
public import Idealize.ShloMosaic.Init

@[expose] public section

noncomputable section

namespace Cert.Proof

open Idealize.ShloMosaic Idealize.SL.Sem

/-- The frames of the kernel, of its idealization and of the reference, that the idealization changes nothing, and that the
idealization and the reference end with the same array. -/
theorem claim : Cert.Claim :=
  ⟨Cert.Kernel.Gen.facts, Cert.KernelIdeal.Gen.facts, Cert.ReferenceIdeal.Gen.facts, Cert.Pre_few_near_max.Gen.facts,
    fun m g _ => Cert.Kernel.Body.quiet m g, fun m g _ => Cert.KernelIdeal.Body.quiet m g,
    fun m g _ => Cert.KernelIdeal.Body.quiet m g, fun m g _ => Cert.ReferenceIdeal.Line.quiet m g,
    fun m g _ => Cert.ReferenceIdeal.Line.quiet m g, trivial, Cert.Both.algebraic⟩

end Cert.Proof

end
